-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9)
      ∧ r.2.mem ((c.tc : Thread Cert.Kernel19.nD Cert.Kernel19.τ).loc Cert.Kernel19.main_arg10) = m ((c.tc : Thread Cert.Kernel19.nD Cert.Kernel19.τ).loc Cert.Kernel19.main_arg10)
      ∧ r.2.mem ((c.tc : Thread Cert.Kernel19.nD Cert.Kernel19.τ).loc Cert.Kernel19.main_arg11) = m ((c.tc : Thread Cert.Kernel19.nD Cert.Kernel19.τ).loc Cert.Kernel19.main_arg11)
      ∧ r.2.mem ((c.tc : Thread Cert.Kernel19.nD Cert.Kernel19.τ).loc Cert.Kernel19.main_arg12) = m ((c.tc : Thread Cert.Kernel19.nD Cert.Kernel19.τ).loc Cert.Kernel19.main_arg12)
      ∧ r.2.mem ((c.tc : Thread Cert.Kernel19.nD Cert.Kernel19.τ).loc Cert.Kernel19.main_arg13) = m ((c.tc : Thread Cert.Kernel19.nD Cert.Kernel19.τ).loc Cert.Kernel19.main_arg13)
      ∧ r.2.mem ((c.tc : Thread Cert.Kernel19.nD Cert.Kernel19.τ).loc Cert.Kernel19.main_arg14) = m ((c.tc : Thread Cert.Kernel19.nD Cert.Kernel19.τ).loc Cert.Kernel19.main_arg14)
      ∧ r.2.mem ((c.tc : Thread Cert.Kernel19.nD Cert.Kernel19.τ).loc Cert.Kernel19.main_arg15) = m ((c.tc : Thread Cert.Kernel19.nD Cert.Kernel19.τ).loc Cert.Kernel19.main_arg15)
      ∧ r.2.mem ((c.tc : Thread Cert.Kernel19.nD Cert.Kernel19.τ).loc Cert.Kernel19.main_arg16) = m ((c.tc : Thread Cert.Kernel19.nD Cert.Kernel19.τ).loc Cert.Kernel19.main_arg16)
      ∧ r.2.mem ((c.tc : Thread Cert.Kernel19.nD Cert.Kernel19.τ).loc Cert.Kernel19.main_arg17) = m ((c.tc : Thread Cert.Kernel19.nD Cert.Kernel19.τ).loc Cert.Kernel19.main_arg17)
      ∧ r.2.mem ((c.tc : Thread Cert.Kernel19.nD Cert.Kernel19.τ).loc Cert.Kernel19.main_arg18) = m ((c.tc : Thread Cert.Kernel19.nD Cert.Kernel19.τ).loc Cert.Kernel19.main_arg18)
      ∧ r.2.mem ((c.tc : Thread Cert.Kernel19.nD Cert.Kernel19.τ).loc Cert.Kernel19.main_arg19) = m ((c.tc : Thread Cert.Kernel19.nD Cert.Kernel19.τ).loc Cert.Kernel19.main_arg19)
      ∧ r.2.mem ((c.tc : Thread Cert.Kernel19.nD Cert.Kernel19.τ).loc Cert.Kernel19.main_arg20) = m ((c.tc : Thread Cert.Kernel19.nD Cert.Kernel19.τ).loc Cert.Kernel19.main_arg20)
      ∧ r.2.mem ((c.tc : Thread Cert.Kernel19.nD Cert.Kernel19.τ).loc Cert.Kernel19.main_arg21) = m ((c.tc : Thread Cert.Kernel19.nD Cert.Kernel19.τ).loc Cert.Kernel19.main_arg21)
      ∧ r.2.mem ((c.tc : Thread Cert.Kernel19.nD Cert.Kernel19.τ).loc Cert.Kernel19.main_arg22) = m ((c.tc : Thread Cert.Kernel19.nD Cert.Kernel19.τ).loc Cert.Kernel19.main_arg22)
      ∧ r.2.mem ((c.tc : Thread Cert.Kernel19.nD Cert.Kernel19.τ).loc Cert.Kernel19.main_arg23) = m ((c.tc : Thread Cert.Kernel19.nD Cert.Kernel19.τ).loc Cert.Kernel19.main_arg23)
      ∧ r.2.mem ((c.tc : Thread Cert.Kernel19.nD Cert.Kernel19.τ).loc Cert.Kernel19.main_arg24) = m ((c.tc : Thread Cert.Kernel19.nD Cert.Kernel19.τ).loc Cert.Kernel19.main_arg24)
      ∧ r.2.mem ((c.tc : Thread Cert.Kernel19.nD Cert.Kernel19.τ).loc Cert.Kernel19.main_arg25) = m ((c.tc : Thread Cert.Kernel19.nD Cert.Kernel19.τ).loc Cert.Kernel19.main_arg25)
      ∧ r.2.mem ((c.tc : Thread Cert.Kernel19.nD Cert.Kernel19.τ).loc Cert.Kernel19.main_arg26) = m ((c.tc : Thread Cert.Kernel19.nD Cert.Kernel19.τ).loc Cert.Kernel19.main_arg26)
      ∧ r.2.mem ((c.tc : Thread Cert.Kernel19.nD Cert.Kernel19.τ).loc Cert.Kernel19.main_arg27) = m ((c.tc : Thread Cert.Kernel19.nD Cert.Kernel19.τ).loc Cert.Kernel19.main_arg27)
      ∧ r.2.mem ((c.tc : Thread Cert.Kernel19.nD Cert.Kernel19.τ).loc Cert.Kernel19.main_arg28) = m ((c.tc : Thread Cert.Kernel19.nD Cert.Kernel19.τ).loc Cert.Kernel19.main_arg28)
      ∧ r.2.mem ((c.tc : Thread Cert.Kernel19.nD Cert.Kernel19.τ).loc Cert.Kernel19.main_arg29) = m ((c.tc : Thread Cert.Kernel19.nD Cert.Kernel19.τ).loc Cert.Kernel19.main_arg29)
      ∧ r.2.mem ((c.tc : Thread Cert.Kernel19.nD Cert.Kernel19.τ).loc Cert.Kernel19.main_arg30) = m ((c.tc : Thread Cert.Kernel19.nD Cert.Kernel19.τ).loc Cert.Kernel19.main_arg30)
      ∧ r.2.mem ((c.tc : Thread Cert.Kernel19.nD Cert.Kernel19.τ).loc Cert.Kernel19.main_arg31) = m ((c.tc : Thread Cert.Kernel19.nD Cert.Kernel19.τ).loc Cert.Kernel19.main_arg31))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
      ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
      ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
      ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
      ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
      ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
      ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
      ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
      ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
      ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
      ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
      ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
      ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
      ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
      ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
      ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
      ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
      ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
      ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
      ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
      ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
      ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
      ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9)
      ∧ r.2.mem ((c.tc : Thread Cert.Reference19Ideal.nD Cert.Reference19Ideal.τ).loc Cert.Reference19Ideal.main_arg10) = m ((c.tc : Thread Cert.Reference19Ideal.nD Cert.Reference19Ideal.τ).loc Cert.Reference19Ideal.main_arg10)
      ∧ r.2.mem ((c.tc : Thread Cert.Reference19Ideal.nD Cert.Reference19Ideal.τ).loc Cert.Reference19Ideal.main_arg11) = m ((c.tc : Thread Cert.Reference19Ideal.nD Cert.Reference19Ideal.τ).loc Cert.Reference19Ideal.main_arg11)
      ∧ r.2.mem ((c.tc : Thread Cert.Reference19Ideal.nD Cert.Reference19Ideal.τ).loc Cert.Reference19Ideal.main_arg12) = m ((c.tc : Thread Cert.Reference19Ideal.nD Cert.Reference19Ideal.τ).loc Cert.Reference19Ideal.main_arg12)
      ∧ r.2.mem ((c.tc : Thread Cert.Reference19Ideal.nD Cert.Reference19Ideal.τ).loc Cert.Reference19Ideal.main_arg13) = m ((c.tc : Thread Cert.Reference19Ideal.nD Cert.Reference19Ideal.τ).loc Cert.Reference19Ideal.main_arg13)
      ∧ r.2.mem ((c.tc : Thread Cert.Reference19Ideal.nD Cert.Reference19Ideal.τ).loc Cert.Reference19Ideal.main_arg14) = m ((c.tc : Thread Cert.Reference19Ideal.nD Cert.Reference19Ideal.τ).loc Cert.Reference19Ideal.main_arg14)
      ∧ r.2.mem ((c.tc : Thread Cert.Reference19Ideal.nD Cert.Reference19Ideal.τ).loc Cert.Reference19Ideal.main_arg15) = m ((c.tc : Thread Cert.Reference19Ideal.nD Cert.Reference19Ideal.τ).loc Cert.Reference19Ideal.main_arg15)
      ∧ r.2.mem ((c.tc : Thread Cert.Reference19Ideal.nD Cert.Reference19Ideal.τ).loc Cert.Reference19Ideal.main_arg16) = m ((c.tc : Thread Cert.Reference19Ideal.nD Cert.Reference19Ideal.τ).loc Cert.Reference19Ideal.main_arg16)
      ∧ r.2.mem ((c.tc : Thread Cert.Reference19Ideal.nD Cert.Reference19Ideal.τ).loc Cert.Reference19Ideal.main_arg17) = m ((c.tc : Thread Cert.Reference19Ideal.nD Cert.Reference19Ideal.τ).loc Cert.Reference19Ideal.main_arg17)
      ∧ r.2.mem ((c.tc : Thread Cert.Reference19Ideal.nD Cert.Reference19Ideal.τ).loc Cert.Reference19Ideal.main_arg18) = m ((c.tc : Thread Cert.Reference19Ideal.nD Cert.Reference19Ideal.τ).loc Cert.Reference19Ideal.main_arg18)
      ∧ r.2.mem ((c.tc : Thread Cert.Reference19Ideal.nD Cert.Reference19Ideal.τ).loc Cert.Reference19Ideal.main_arg19) = m ((c.tc : Thread Cert.Reference19Ideal.nD Cert.Reference19Ideal.τ).loc Cert.Reference19Ideal.main_arg19)
      ∧ r.2.mem ((c.tc : Thread Cert.Reference19Ideal.nD Cert.Reference19Ideal.τ).loc Cert.Reference19Ideal.main_arg20) = m ((c.tc : Thread Cert.Reference19Ideal.nD Cert.Reference19Ideal.τ).loc Cert.Reference19Ideal.main_arg20)
      ∧ r.2.mem ((c.tc : Thread Cert.Reference19Ideal.nD Cert.Reference19Ideal.τ).loc Cert.Reference19Ideal.main_arg21) = m ((c.tc : Thread Cert.Reference19Ideal.nD Cert.Reference19Ideal.τ).loc Cert.Reference19Ideal.main_arg21)
      ∧ r.2.mem ((c.tc : Thread Cert.Reference19Ideal.nD Cert.Reference19Ideal.τ).loc Cert.Reference19Ideal.main_arg22) = m ((c.tc : Thread Cert.Reference19Ideal.nD Cert.Reference19Ideal.τ).loc Cert.Reference19Ideal.main_arg22)
      ∧ r.2.mem ((c.tc : Thread Cert.Reference19Ideal.nD Cert.Reference19Ideal.τ).loc Cert.Reference19Ideal.main_arg23) = m ((c.tc : Thread Cert.Reference19Ideal.nD Cert.Reference19Ideal.τ).loc Cert.Reference19Ideal.main_arg23)
      ∧ r.2.mem ((c.tc : Thread Cert.Reference19Ideal.nD Cert.Reference19Ideal.τ).loc Cert.Reference19Ideal.main_arg24) = m ((c.tc : Thread Cert.Reference19Ideal.nD Cert.Reference19Ideal.τ).loc Cert.Reference19Ideal.main_arg24)
      ∧ r.2.mem ((c.tc : Thread Cert.Reference19Ideal.nD Cert.Reference19Ideal.τ).loc Cert.Reference19Ideal.main_arg25) = m ((c.tc : Thread Cert.Reference19Ideal.nD Cert.Reference19Ideal.τ).loc Cert.Reference19Ideal.main_arg25)
      ∧ r.2.mem ((c.tc : Thread Cert.Reference19Ideal.nD Cert.Reference19Ideal.τ).loc Cert.Reference19Ideal.main_arg26) = m ((c.tc : Thread Cert.Reference19Ideal.nD Cert.Reference19Ideal.τ).loc Cert.Reference19Ideal.main_arg26)
      ∧ r.2.mem ((c.tc : Thread Cert.Reference19Ideal.nD Cert.Reference19Ideal.τ).loc Cert.Reference19Ideal.main_arg27) = m ((c.tc : Thread Cert.Reference19Ideal.nD Cert.Reference19Ideal.τ).loc Cert.Reference19Ideal.main_arg27)
      ∧ r.2.mem ((c.tc : Thread Cert.Reference19Ideal.nD Cert.Reference19Ideal.τ).loc Cert.Reference19Ideal.main_arg28) = m ((c.tc : Thread Cert.Reference19Ideal.nD Cert.Reference19Ideal.τ).loc Cert.Reference19Ideal.main_arg28)
      ∧ r.2.mem ((c.tc : Thread Cert.Reference19Ideal.nD Cert.Reference19Ideal.τ).loc Cert.Reference19Ideal.main_arg29) = m ((c.tc : Thread Cert.Reference19Ideal.nD Cert.Reference19Ideal.τ).loc Cert.Reference19Ideal.main_arg29)
      ∧ r.2.mem ((c.tc : Thread Cert.Reference19Ideal.nD Cert.Reference19Ideal.τ).loc Cert.Reference19Ideal.main_arg30) = m ((c.tc : Thread Cert.Reference19Ideal.nD Cert.Reference19Ideal.τ).loc Cert.Reference19Ideal.main_arg30)
      ∧ r.2.mem ((c.tc : Thread Cert.Reference19Ideal.nD Cert.Reference19Ideal.τ).loc Cert.Reference19Ideal.main_arg31) = m ((c.tc : Thread Cert.Reference19Ideal.nD Cert.Reference19Ideal.τ).loc Cert.Reference19Ideal.main_arg31))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v588) = v0 c
          ∧ r.2.mem ((c.tc : Thread Cert.ReferenceIdeal.nD Cert.ReferenceIdeal.τ).loc Cert.ReferenceIdeal.main_v589) = v1 c
          ∧ r.2.mem ((c.tc : Thread Cert.ReferenceIdeal.nD Cert.ReferenceIdeal.τ).loc Cert.ReferenceIdeal.main_v591) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_v40) = v2 c
          ∧ r.2.mem ((c.tc : Thread Cert.Reference14Ideal.nD Cert.Reference14Ideal.τ).loc Cert.Reference14Ideal.main_v43) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v37) = v1 c
          ∧ r.2.mem ((c.tc : Thread Cert.Reference15Ideal.nD Cert.Reference15Ideal.τ).loc Cert.Reference15Ideal.main_v40) = v2 c
          ∧ r.2.mem ((c.tc : Thread Cert.Reference15Ideal.nD Cert.Reference15Ideal.τ).loc Cert.Reference15Ideal.main_v43) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v40) = v2 c
          ∧ r.2.mem ((c.tc : Thread Cert.Reference16Ideal.nD Cert.Reference16Ideal.τ).loc Cert.Reference16Ideal.main_v43) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_v37) = v1 c
          ∧ r.2.mem ((c.tc : Thread Cert.Reference17Ideal.nD Cert.Reference17Ideal.τ).loc Cert.Reference17Ideal.main_v40) = v2 c
          ∧ r.2.mem ((c.tc : Thread Cert.Reference17Ideal.nD Cert.Reference17Ideal.τ).loc Cert.Reference17Ideal.main_v43) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v12_0)) (v1 : (c : Dev Cert.Kernel18Ideal.nD) → Buf (Elt Ideal) ((c.tc : Thread Cert.Kernel18Ideal.nD Cert.Kernel18Ideal.τ).loc Cert.Kernel18Ideal.main_v12_1)) (v2 : (c : Dev Cert.Kernel18Ideal.nD) → Buf (Elt Ideal) ((c.tc : Thread Cert.Kernel18Ideal.nD Cert.Kernel18Ideal.τ).loc Cert.Kernel18Ideal.main_v12_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v12_0) = v0 c
          ∧ r.2.mem ((c.tc : Thread Cert.Kernel18Ideal.nD Cert.Kernel18Ideal.τ).loc Cert.Kernel18Ideal.main_v12_1) = v1 c
          ∧ r.2.mem ((c.tc : Thread Cert.Kernel18Ideal.nD Cert.Kernel18Ideal.τ).loc Cert.Kernel18Ideal.main_v12_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v27) = v0 c
          ∧ r.2.mem ((c.tc : Thread Cert.Reference18Ideal.nD Cert.Reference18Ideal.τ).loc Cert.Reference18Ideal.main_v31) = v1 c
          ∧ r.2.mem ((c.tc : Thread Cert.Reference18Ideal.nD Cert.Reference18Ideal.τ).loc Cert.Reference18Ideal.main_v35) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)
      ∧ m' ((c.tc : Thread Cert.Reference19Ideal.nD Cert.Reference19Ideal.τ).loc Cert.Reference19Ideal.main_arg10) = m ((c.tc : Thread Cert.Kernel19Ideal.nD Cert.Kernel19Ideal.τ).loc Cert.Kernel19Ideal.main_arg10)
      ∧ m' ((c.tc : Thread Cert.Reference19Ideal.nD Cert.Reference19Ideal.τ).loc Cert.Reference19Ideal.main_arg11) = m ((c.tc : Thread Cert.Kernel19Ideal.nD Cert.Kernel19Ideal.τ).loc Cert.Kernel19Ideal.main_arg11)
      ∧ m' ((c.tc : Thread Cert.Reference19Ideal.nD Cert.Reference19Ideal.τ).loc Cert.Reference19Ideal.main_arg12) = m ((c.tc : Thread Cert.Kernel19Ideal.nD Cert.Kernel19Ideal.τ).loc Cert.Kernel19Ideal.main_arg12)
      ∧ m' ((c.tc : Thread Cert.Reference19Ideal.nD Cert.Reference19Ideal.τ).loc Cert.Reference19Ideal.main_arg13) = m ((c.tc : Thread Cert.Kernel19Ideal.nD Cert.Kernel19Ideal.τ).loc Cert.Kernel19Ideal.main_arg13)
      ∧ m' ((c.tc : Thread Cert.Reference19Ideal.nD Cert.Reference19Ideal.τ).loc Cert.Reference19Ideal.main_arg14) = m ((c.tc : Thread Cert.Kernel19Ideal.nD Cert.Kernel19Ideal.τ).loc Cert.Kernel19Ideal.main_arg14)
      ∧ m' ((c.tc : Thread Cert.Reference19Ideal.nD Cert.Reference19Ideal.τ).loc Cert.Reference19Ideal.main_arg15) = m ((c.tc : Thread Cert.Kernel19Ideal.nD Cert.Kernel19Ideal.τ).loc Cert.Kernel19Ideal.main_arg15)
      ∧ m' ((c.tc : Thread Cert.Reference19Ideal.nD Cert.Reference19Ideal.τ).loc Cert.Reference19Ideal.main_arg16) = m ((c.tc : Thread Cert.Kernel19Ideal.nD Cert.Kernel19Ideal.τ).loc Cert.Kernel19Ideal.main_arg16)
      ∧ m' ((c.tc : Thread Cert.Reference19Ideal.nD Cert.Reference19Ideal.τ).loc Cert.Reference19Ideal.main_arg17) = m ((c.tc : Thread Cert.Kernel19Ideal.nD Cert.Kernel19Ideal.τ).loc Cert.Kernel19Ideal.main_arg17)
      ∧ m' ((c.tc : Thread Cert.Reference19Ideal.nD Cert.Reference19Ideal.τ).loc Cert.Reference19Ideal.main_arg18) = m ((c.tc : Thread Cert.Kernel19Ideal.nD Cert.Kernel19Ideal.τ).loc Cert.Kernel19Ideal.main_arg18)
      ∧ m' ((c.tc : Thread Cert.Reference19Ideal.nD Cert.Reference19Ideal.τ).loc Cert.Reference19Ideal.main_arg19) = m ((c.tc : Thread Cert.Kernel19Ideal.nD Cert.Kernel19Ideal.τ).loc Cert.Kernel19Ideal.main_arg19)
      ∧ m' ((c.tc : Thread Cert.Reference19Ideal.nD Cert.Reference19Ideal.τ).loc Cert.Reference19Ideal.main_arg20) = m ((c.tc : Thread Cert.Kernel19Ideal.nD Cert.Kernel19Ideal.τ).loc Cert.Kernel19Ideal.main_arg20)
      ∧ m' ((c.tc : Thread Cert.Reference19Ideal.nD Cert.Reference19Ideal.τ).loc Cert.Reference19Ideal.main_arg21) = m ((c.tc : Thread Cert.Kernel19Ideal.nD Cert.Kernel19Ideal.τ).loc Cert.Kernel19Ideal.main_arg21)
      ∧ m' ((c.tc : Thread Cert.Reference19Ideal.nD Cert.Reference19Ideal.τ).loc Cert.Reference19Ideal.main_arg22) = m ((c.tc : Thread Cert.Kernel19Ideal.nD Cert.Kernel19Ideal.τ).loc Cert.Kernel19Ideal.main_arg22)
      ∧ m' ((c.tc : Thread Cert.Reference19Ideal.nD Cert.Reference19Ideal.τ).loc Cert.Reference19Ideal.main_arg23) = m ((c.tc : Thread Cert.Kernel19Ideal.nD Cert.Kernel19Ideal.τ).loc Cert.Kernel19Ideal.main_arg23)
      ∧ m' ((c.tc : Thread Cert.Reference19Ideal.nD Cert.Reference19Ideal.τ).loc Cert.Reference19Ideal.main_arg24) = m ((c.tc : Thread Cert.Kernel19Ideal.nD Cert.Kernel19Ideal.τ).loc Cert.Kernel19Ideal.main_arg24)
      ∧ m' ((c.tc : Thread Cert.Reference19Ideal.nD Cert.Reference19Ideal.τ).loc Cert.Reference19Ideal.main_arg25) = m ((c.tc : Thread Cert.Kernel19Ideal.nD Cert.Kernel19Ideal.τ).loc Cert.Kernel19Ideal.main_arg25)
      ∧ m' ((c.tc : Thread Cert.Reference19Ideal.nD Cert.Reference19Ideal.τ).loc Cert.Reference19Ideal.main_arg26) = m ((c.tc : Thread Cert.Kernel19Ideal.nD Cert.Kernel19Ideal.τ).loc Cert.Kernel19Ideal.main_arg26)
      ∧ m' ((c.tc : Thread Cert.Reference19Ideal.nD Cert.Reference19Ideal.τ).loc Cert.Reference19Ideal.main_arg27) = m ((c.tc : Thread Cert.Kernel19Ideal.nD Cert.Kernel19Ideal.τ).loc Cert.Kernel19Ideal.main_arg27)
      ∧ m' ((c.tc : Thread Cert.Reference19Ideal.nD Cert.Reference19Ideal.τ).loc Cert.Reference19Ideal.main_arg28) = m ((c.tc : Thread Cert.Kernel19Ideal.nD Cert.Kernel19Ideal.τ).loc Cert.Kernel19Ideal.main_arg28)
      ∧ m' ((c.tc : Thread Cert.Reference19Ideal.nD Cert.Reference19Ideal.τ).loc Cert.Reference19Ideal.main_arg29) = m ((c.tc : Thread Cert.Kernel19Ideal.nD Cert.Kernel19Ideal.τ).loc Cert.Kernel19Ideal.main_arg29)
      ∧ m' ((c.tc : Thread Cert.Reference19Ideal.nD Cert.Reference19Ideal.τ).loc Cert.Reference19Ideal.main_arg30) = m ((c.tc : Thread Cert.Kernel19Ideal.nD Cert.Kernel19Ideal.τ).loc Cert.Kernel19Ideal.main_arg30)
      ∧ m' ((c.tc : Thread Cert.Reference19Ideal.nD Cert.Reference19Ideal.τ).loc Cert.Reference19Ideal.main_arg31) = m ((c.tc : Thread Cert.Kernel19Ideal.nD Cert.Kernel19Ideal.τ).loc Cert.Kernel19Ideal.main_arg31)) →
    ∃ (v0 : (c : Dev Cert.Kernel19Ideal.nD) → Buf (Elt Ideal) ((c.tc : Thread Cert.Kernel19Ideal.nD Cert.Kernel19Ideal.τ).loc Cert.Kernel19Ideal.main_v44_0)) (v1 : (c : Dev Cert.Kernel19Ideal.nD) → Buf (Elt Ideal) ((c.tc : Thread Cert.Kernel19Ideal.nD Cert.Kernel19Ideal.τ).loc Cert.Kernel19Ideal.main_v44_1)) (v2 : (c : Dev Cert.Kernel19Ideal.nD) → Buf (Elt Ideal) ((c.tc : Thread Cert.Kernel19Ideal.nD Cert.Kernel19Ideal.τ).loc Cert.Kernel19Ideal.main_v44_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v44_0) = v0 c
          ∧ r.2.mem ((c.tc : Thread Cert.Kernel19Ideal.nD Cert.Kernel19Ideal.τ).loc Cert.Kernel19Ideal.main_v44_1) = v1 c
          ∧ r.2.mem ((c.tc : Thread Cert.Kernel19Ideal.nD Cert.Kernel19Ideal.τ).loc Cert.Kernel19Ideal.main_v44_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9)
          ∧ r.2.mem ((c.tc : Thread Cert.Kernel19Ideal.nD Cert.Kernel19Ideal.τ).loc Cert.Kernel19Ideal.main_arg10) = m ((c.tc : Thread Cert.Kernel19Ideal.nD Cert.Kernel19Ideal.τ).loc Cert.Kernel19Ideal.main_arg10)
          ∧ r.2.mem ((c.tc : Thread Cert.Kernel19Ideal.nD Cert.Kernel19Ideal.τ).loc Cert.Kernel19Ideal.main_arg11) = m ((c.tc : Thread Cert.Kernel19Ideal.nD Cert.Kernel19Ideal.τ).loc Cert.Kernel19Ideal.main_arg11)
          ∧ r.2.mem ((c.tc : Thread Cert.Kernel19Ideal.nD Cert.Kernel19Ideal.τ).loc Cert.Kernel19Ideal.main_arg12) = m ((c.tc : Thread Cert.Kernel19Ideal.nD Cert.Kernel19Ideal.τ).loc Cert.Kernel19Ideal.main_arg12)
          ∧ r.2.mem ((c.tc : Thread Cert.Kernel19Ideal.nD Cert.Kernel19Ideal.τ).loc Cert.Kernel19Ideal.main_arg13) = m ((c.tc : Thread Cert.Kernel19Ideal.nD Cert.Kernel19Ideal.τ).loc Cert.Kernel19Ideal.main_arg13)
          ∧ r.2.mem ((c.tc : Thread Cert.Kernel19Ideal.nD Cert.Kernel19Ideal.τ).loc Cert.Kernel19Ideal.main_arg14) = m ((c.tc : Thread Cert.Kernel19Ideal.nD Cert.Kernel19Ideal.τ).loc Cert.Kernel19Ideal.main_arg14)
          ∧ r.2.mem ((c.tc : Thread Cert.Kernel19Ideal.nD Cert.Kernel19Ideal.τ).loc Cert.Kernel19Ideal.main_arg15) = m ((c.tc : Thread Cert.Kernel19Ideal.nD Cert.Kernel19Ideal.τ).loc Cert.Kernel19Ideal.main_arg15)
          ∧ r.2.mem ((c.tc : Thread Cert.Kernel19Ideal.nD Cert.Kernel19Ideal.τ).loc Cert.Kernel19Ideal.main_arg16) = m ((c.tc : Thread Cert.Kernel19Ideal.nD Cert.Kernel19Ideal.τ).loc Cert.Kernel19Ideal.main_arg16)
          ∧ r.2.mem ((c.tc : Thread Cert.Kernel19Ideal.nD Cert.Kernel19Ideal.τ).loc Cert.Kernel19Ideal.main_arg17) = m ((c.tc : Thread Cert.Kernel19Ideal.nD Cert.Kernel19Ideal.τ).loc Cert.Kernel19Ideal.main_arg17)
          ∧ r.2.mem ((c.tc : Thread Cert.Kernel19Ideal.nD Cert.Kernel19Ideal.τ).loc Cert.Kernel19Ideal.main_arg18) = m ((c.tc : Thread Cert.Kernel19Ideal.nD Cert.Kernel19Ideal.τ).loc Cert.Kernel19Ideal.main_arg18)
          ∧ r.2.mem ((c.tc : Thread Cert.Kernel19Ideal.nD Cert.Kernel19Ideal.τ).loc Cert.Kernel19Ideal.main_arg19) = m ((c.tc : Thread Cert.Kernel19Ideal.nD Cert.Kernel19Ideal.τ).loc Cert.Kernel19Ideal.main_arg19)
          ∧ r.2.mem ((c.tc : Thread Cert.Kernel19Ideal.nD Cert.Kernel19Ideal.τ).loc Cert.Kernel19Ideal.main_arg20) = m ((c.tc : Thread Cert.Kernel19Ideal.nD Cert.Kernel19Ideal.τ).loc Cert.Kernel19Ideal.main_arg20)
          ∧ r.2.mem ((c.tc : Thread Cert.Kernel19Ideal.nD Cert.Kernel19Ideal.τ).loc Cert.Kernel19Ideal.main_arg21) = m ((c.tc : Thread Cert.Kernel19Ideal.nD Cert.Kernel19Ideal.τ).loc Cert.Kernel19Ideal.main_arg21)
          ∧ r.2.mem ((c.tc : Thread Cert.Kernel19Ideal.nD Cert.Kernel19Ideal.τ).loc Cert.Kernel19Ideal.main_arg22) = m ((c.tc : Thread Cert.Kernel19Ideal.nD Cert.Kernel19Ideal.τ).loc Cert.Kernel19Ideal.main_arg22)
          ∧ r.2.mem ((c.tc : Thread Cert.Kernel19Ideal.nD Cert.Kernel19Ideal.τ).loc Cert.Kernel19Ideal.main_arg23) = m ((c.tc : Thread Cert.Kernel19Ideal.nD Cert.Kernel19Ideal.τ).loc Cert.Kernel19Ideal.main_arg23)
          ∧ r.2.mem ((c.tc : Thread Cert.Kernel19Ideal.nD Cert.Kernel19Ideal.τ).loc Cert.Kernel19Ideal.main_arg24) = m ((c.tc : Thread Cert.Kernel19Ideal.nD Cert.Kernel19Ideal.τ).loc Cert.Kernel19Ideal.main_arg24)
          ∧ r.2.mem ((c.tc : Thread Cert.Kernel19Ideal.nD Cert.Kernel19Ideal.τ).loc Cert.Kernel19Ideal.main_arg25) = m ((c.tc : Thread Cert.Kernel19Ideal.nD Cert.Kernel19Ideal.τ).loc Cert.Kernel19Ideal.main_arg25)
          ∧ r.2.mem ((c.tc : Thread Cert.Kernel19Ideal.nD Cert.Kernel19Ideal.τ).loc Cert.Kernel19Ideal.main_arg26) = m ((c.tc : Thread Cert.Kernel19Ideal.nD Cert.Kernel19Ideal.τ).loc Cert.Kernel19Ideal.main_arg26)
          ∧ r.2.mem ((c.tc : Thread Cert.Kernel19Ideal.nD Cert.Kernel19Ideal.τ).loc Cert.Kernel19Ideal.main_arg27) = m ((c.tc : Thread Cert.Kernel19Ideal.nD Cert.Kernel19Ideal.τ).loc Cert.Kernel19Ideal.main_arg27)
          ∧ r.2.mem ((c.tc : Thread Cert.Kernel19Ideal.nD Cert.Kernel19Ideal.τ).loc Cert.Kernel19Ideal.main_arg28) = m ((c.tc : Thread Cert.Kernel19Ideal.nD Cert.Kernel19Ideal.τ).loc Cert.Kernel19Ideal.main_arg28)
          ∧ r.2.mem ((c.tc : Thread Cert.Kernel19Ideal.nD Cert.Kernel19Ideal.τ).loc Cert.Kernel19Ideal.main_arg29) = m ((c.tc : Thread Cert.Kernel19Ideal.nD Cert.Kernel19Ideal.τ).loc Cert.Kernel19Ideal.main_arg29)
          ∧ r.2.mem ((c.tc : Thread Cert.Kernel19Ideal.nD Cert.Kernel19Ideal.τ).loc Cert.Kernel19Ideal.main_arg30) = m ((c.tc : Thread Cert.Kernel19Ideal.nD Cert.Kernel19Ideal.τ).loc Cert.Kernel19Ideal.main_arg30)
          ∧ r.2.mem ((c.tc : Thread Cert.Kernel19Ideal.nD Cert.Kernel19Ideal.τ).loc Cert.Kernel19Ideal.main_arg31) = m ((c.tc : Thread Cert.Kernel19Ideal.nD Cert.Kernel19Ideal.τ).loc Cert.Kernel19Ideal.main_arg31))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v203) = v0 c
          ∧ r.2.mem ((c.tc : Thread Cert.Reference19Ideal.nD Cert.Reference19Ideal.τ).loc Cert.Reference19Ideal.main_v215) = v1 c
          ∧ r.2.mem ((c.tc : Thread Cert.Reference19Ideal.nD Cert.Reference19Ideal.τ).loc Cert.Reference19Ideal.main_v227) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9)
          ∧ r.2.mem ((c.tc : Thread Cert.Reference19Ideal.nD Cert.Reference19Ideal.τ).loc Cert.Reference19Ideal.main_arg10) = m' ((c.tc : Thread Cert.Reference19Ideal.nD Cert.Reference19Ideal.τ).loc Cert.Reference19Ideal.main_arg10)
          ∧ r.2.mem ((c.tc : Thread Cert.Reference19Ideal.nD Cert.Reference19Ideal.τ).loc Cert.Reference19Ideal.main_arg11) = m' ((c.tc : Thread Cert.Reference19Ideal.nD Cert.Reference19Ideal.τ).loc Cert.Reference19Ideal.main_arg11)
          ∧ r.2.mem ((c.tc : Thread Cert.Reference19Ideal.nD Cert.Reference19Ideal.τ).loc Cert.Reference19Ideal.main_arg12) = m' ((c.tc : Thread Cert.Reference19Ideal.nD Cert.Reference19Ideal.τ).loc Cert.Reference19Ideal.main_arg12)
          ∧ r.2.mem ((c.tc : Thread Cert.Reference19Ideal.nD Cert.Reference19Ideal.τ).loc Cert.Reference19Ideal.main_arg13) = m' ((c.tc : Thread Cert.Reference19Ideal.nD Cert.Reference19Ideal.τ).loc Cert.Reference19Ideal.main_arg13)
          ∧ r.2.mem ((c.tc : Thread Cert.Reference19Ideal.nD Cert.Reference19Ideal.τ).loc Cert.Reference19Ideal.main_arg14) = m' ((c.tc : Thread Cert.Reference19Ideal.nD Cert.Reference19Ideal.τ).loc Cert.Reference19Ideal.main_arg14)
          ∧ r.2.mem ((c.tc : Thread Cert.Reference19Ideal.nD Cert.Reference19Ideal.τ).loc Cert.Reference19Ideal.main_arg15) = m' ((c.tc : Thread Cert.Reference19Ideal.nD Cert.Reference19Ideal.τ).loc Cert.Reference19Ideal.main_arg15)
          ∧ r.2.mem ((c.tc : Thread Cert.Reference19Ideal.nD Cert.Reference19Ideal.τ).loc Cert.Reference19Ideal.main_arg16) = m' ((c.tc : Thread Cert.Reference19Ideal.nD Cert.Reference19Ideal.τ).loc Cert.Reference19Ideal.main_arg16)
          ∧ r.2.mem ((c.tc : Thread Cert.Reference19Ideal.nD Cert.Reference19Ideal.τ).loc Cert.Reference19Ideal.main_arg17) = m' ((c.tc : Thread Cert.Reference19Ideal.nD Cert.Reference19Ideal.τ).loc Cert.Reference19Ideal.main_arg17)
          ∧ r.2.mem ((c.tc : Thread Cert.Reference19Ideal.nD Cert.Reference19Ideal.τ).loc Cert.Reference19Ideal.main_arg18) = m' ((c.tc : Thread Cert.Reference19Ideal.nD Cert.Reference19Ideal.τ).loc Cert.Reference19Ideal.main_arg18)
          ∧ r.2.mem ((c.tc : Thread Cert.Reference19Ideal.nD Cert.Reference19Ideal.τ).loc Cert.Reference19Ideal.main_arg19) = m' ((c.tc : Thread Cert.Reference19Ideal.nD Cert.Reference19Ideal.τ).loc Cert.Reference19Ideal.main_arg19)
          ∧ r.2.mem ((c.tc : Thread Cert.Reference19Ideal.nD Cert.Reference19Ideal.τ).loc Cert.Reference19Ideal.main_arg20) = m' ((c.tc : Thread Cert.Reference19Ideal.nD Cert.Reference19Ideal.τ).loc Cert.Reference19Ideal.main_arg20)
          ∧ r.2.mem ((c.tc : Thread Cert.Reference19Ideal.nD Cert.Reference19Ideal.τ).loc Cert.Reference19Ideal.main_arg21) = m' ((c.tc : Thread Cert.Reference19Ideal.nD Cert.Reference19Ideal.τ).loc Cert.Reference19Ideal.main_arg21)
          ∧ r.2.mem ((c.tc : Thread Cert.Reference19Ideal.nD Cert.Reference19Ideal.τ).loc Cert.Reference19Ideal.main_arg22) = m' ((c.tc : Thread Cert.Reference19Ideal.nD Cert.Reference19Ideal.τ).loc Cert.Reference19Ideal.main_arg22)
          ∧ r.2.mem ((c.tc : Thread Cert.Reference19Ideal.nD Cert.Reference19Ideal.τ).loc Cert.Reference19Ideal.main_arg23) = m' ((c.tc : Thread Cert.Reference19Ideal.nD Cert.Reference19Ideal.τ).loc Cert.Reference19Ideal.main_arg23)
          ∧ r.2.mem ((c.tc : Thread Cert.Reference19Ideal.nD Cert.Reference19Ideal.τ).loc Cert.Reference19Ideal.main_arg24) = m' ((c.tc : Thread Cert.Reference19Ideal.nD Cert.Reference19Ideal.τ).loc Cert.Reference19Ideal.main_arg24)
          ∧ r.2.mem ((c.tc : Thread Cert.Reference19Ideal.nD Cert.Reference19Ideal.τ).loc Cert.Reference19Ideal.main_arg25) = m' ((c.tc : Thread Cert.Reference19Ideal.nD Cert.Reference19Ideal.τ).loc Cert.Reference19Ideal.main_arg25)
          ∧ r.2.mem ((c.tc : Thread Cert.Reference19Ideal.nD Cert.Reference19Ideal.τ).loc Cert.Reference19Ideal.main_arg26) = m' ((c.tc : Thread Cert.Reference19Ideal.nD Cert.Reference19Ideal.τ).loc Cert.Reference19Ideal.main_arg26)
          ∧ r.2.mem ((c.tc : Thread Cert.Reference19Ideal.nD Cert.Reference19Ideal.τ).loc Cert.Reference19Ideal.main_arg27) = m' ((c.tc : Thread Cert.Reference19Ideal.nD Cert.Reference19Ideal.τ).loc Cert.Reference19Ideal.main_arg27)
          ∧ r.2.mem ((c.tc : Thread Cert.Reference19Ideal.nD Cert.Reference19Ideal.τ).loc Cert.Reference19Ideal.main_arg28) = m' ((c.tc : Thread Cert.Reference19Ideal.nD Cert.Reference19Ideal.τ).loc Cert.Reference19Ideal.main_arg28)
          ∧ r.2.mem ((c.tc : Thread Cert.Reference19Ideal.nD Cert.Reference19Ideal.τ).loc Cert.Reference19Ideal.main_arg29) = m' ((c.tc : Thread Cert.Reference19Ideal.nD Cert.Reference19Ideal.τ).loc Cert.Reference19Ideal.main_arg29)
          ∧ r.2.mem ((c.tc : Thread Cert.Reference19Ideal.nD Cert.Reference19Ideal.τ).loc Cert.Reference19Ideal.main_arg30) = m' ((c.tc : Thread Cert.Reference19Ideal.nD Cert.Reference19Ideal.τ).loc Cert.Reference19Ideal.main_arg30)
          ∧ r.2.mem ((c.tc : Thread Cert.Reference19Ideal.nD Cert.Reference19Ideal.τ).loc Cert.Reference19Ideal.main_arg31) = m' ((c.tc : Thread Cert.Reference19Ideal.nD Cert.Reference19Ideal.τ).loc Cert.Reference19Ideal.main_arg31))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v38) = v0 c
          ∧ r.2.mem ((c.tc : Thread Cert.Reference21Ideal.nD Cert.Reference21Ideal.τ).loc Cert.Reference21Ideal.main_v39) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v38) = v0 c
          ∧ r.2.mem ((c.tc : Thread Cert.Reference22Ideal.nD Cert.Reference22Ideal.τ).loc Cert.Reference22Ideal.main_v39) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v15) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_v31) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v30) = v0 c
          ∧ r.2.mem ((c.tc : Thread Cert.Reference25Ideal.nD Cert.Reference25Ideal.τ).loc Cert.Reference25Ideal.main_v34) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Kernel.lean ====
abbrev S4096x5120 : Shape := ⟨2, ![4096, 5120]⟩
abbrev S4096x1024 : Shape := ⟨2, ![4096, 1024]⟩
abbrev S4x31x1024 : Shape := ⟨3, ![4, 31, 1024]⟩
abbrev S32x1024 : Shape := ⟨2, ![32, 1024]⟩
abbrev S4096x128 : Shape := ⟨2, ![4096, 128]⟩
abbrev S1x31x128 : Shape := ⟨3, ![1, 31, 128]⟩
abbrev S32x128 : Shape := ⟨2, ![32, 128]⟩
abbrev S4128x128 : Shape := ⟨2, ![4128, 128]⟩
abbrev S32x8x128 : Shape := ⟨3, ![32, 8, 128]⟩
abbrev S16x128 : Shape := ⟨2, ![16, 128]⟩
abbrev S288x128 : Shape := ⟨2, ![288, 128]⟩
abbrev S256x128 : Shape := ⟨2, ![256, 128]⟩
abbrev S1x1x128 : Shape := ⟨3, ![1, 1, 128]⟩
abbrev S1x128 : Shape := ⟨2, ![1, 128]⟩
abbrev S1x8x128 : Shape := ⟨3, ![1, 8, 128]⟩
abbrev S8x128 : Shape := ⟨2, ![8, 128]⟩

abbrev nBuf : Space → Nat
  | .hbm => 6
  | .vmem => 18
  | .smem => 0
  | _ => 0

abbrev bufTy : (tb : Table) → Fin (tcTables nBuf tb) → BufTy
  | .hbm, ⟨0, _⟩ => ⟨S4096x5120, .f32⟩
  | .hbm, ⟨1, _⟩ => ⟨S4096x1024, .f32⟩
  | .hbm, ⟨2, _⟩ => ⟨S4x31x1024, .f32⟩
  | .hbm, ⟨3, _⟩ => ⟨S4096x1024, .bf16⟩
  | .hbm, ⟨4, _⟩ => ⟨S4096x1024, .bf16⟩
  | .hbm, ⟨5, _⟩ => ⟨S32x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x31x128, .f32⟩
  | .local _ .vmem, ⟨7, _⟩ => ⟨S1x31x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S32x128, .f32⟩
  | .local _ .vmem, ⟨13, _⟩ => ⟨S32x128, .f32⟩
  | .local _ .vmem, ⟨14, _⟩ => ⟨S4128x128, .f32⟩
  | .local _ .vmem, ⟨15, _⟩ => ⟨S4128x128, .f32⟩
  | .local _ .vmem, ⟨16, _⟩ => ⟨S4096x128, .f32⟩
  | .local _ .vmem, ⟨17, _⟩ => ⟨S32x8x128, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v34 : BitVec 32 := Scalar.addi c0_i32 c16_i32
  let c1_i32 : BitVec 32 := 1#32
  ⟨c0_i32, v34, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v50 : BitVec 32 := Scalar.muli arg12 c256_i32
  v50
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v50 : BitVec 32 := Scalar.muli arg12 c256_i32
  let v51 : BitVec 32 := v50
  let v52 : Index := Scalar.indexCast v51
  let c0_38 : Index := 0#32
  ![v52.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v50 : BitVec 32 := Scalar.muli arg12 c256_i32
  let v51 : BitVec 32 := v50
  let v251 : Index := Scalar.indexCast v51
  let c0_105 : Index := 0#32
  ![v251.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x5120 : Shape := ⟨2, ![4096, 5120]⟩
abbrev S4096x1024 : Shape := ⟨2, ![4096, 1024]⟩
abbrev S4x31x1024 : Shape := ⟨3, ![4, 31, 1024]⟩
abbrev S_ : Shape := ⟨0, ![]⟩
abbrev S1024 : Shape := ⟨1, ![1024]⟩
abbrev S1x31x1024 : Shape := ⟨3, ![1, 31, 1024]⟩
abbrev S31x1024 : Shape := ⟨2, ![31, 1024]⟩
abbrev S15x1024 : Shape := ⟨2, ![15, 1024]⟩
abbrev S4126x1024 : Shape := ⟨2, ![4126, 1024]⟩
abbrev S1x1024 : Shape := ⟨2, ![1, 1024]⟩
abbrev S32x1024 : Shape := ⟨2, ![32, 1024]⟩

abbrev nBuf : Space → Nat
  | .hbm => 728
  | .vmem => 0
  | .smem => 0
  | _ => 0

abbrev hbmTy0_0 (i : Nat) : BufTy := match i % 128 with
  | 0 => ⟨S4096x5120, .f32⟩
  | 1 => ⟨S4096x1024, .f32⟩
  | 2 => ⟨S4x31x1024, .f32⟩
  | 3 => ⟨S4096x1024, .f32⟩
  | 4 => ⟨S4096x1024, .f32⟩
  | 5 => ⟨S_, .f32⟩
  | 6 => ⟨S1024, .f32⟩
  | 7 => ⟨S1x31x1024, .f32⟩
  | 8 => ⟨S31x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S15x1024, .f32⟩
  | 24 => ⟨S4126x1024, .f32⟩
  | 25 => ⟨S_, .f32⟩
  | 26 => ⟨S15x1024, .f32⟩
  | 27 => ⟨S_, .f32⟩
  | 28 => ⟨S15x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S1x1024, .f32⟩
  | 42 => ⟨S4096x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S1x1024, .f32⟩
  | 49 => ⟨S4096x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S1x1024, .f32⟩
  | 56 => ⟨S4096x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S1x1024, .f32⟩
  | 63 => ⟨S4096x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S1x1024, .f32⟩
  | 70 => ⟨S4096x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S1x1024, .f32⟩
  | 77 => ⟨S4096x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S1x1024, .f32⟩
  | 84 => ⟨S4096x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S1x1024, .f32⟩
  | 91 => ⟨S4096x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S1x1024, .f32⟩
  | 98 => ⟨S4096x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S1x1024, .f32⟩
  | 105 => ⟨S4096x1024, .f32⟩
  | 106 => ⟨S4096x1024, .f32⟩
  | 107 => ⟨S4096x1024, .f32⟩
  | 108 => ⟨S4096x1024, .f32⟩
  | 109 => ⟨S1x1024, .f32⟩
  | 110 => ⟨S1024, .f32⟩
  | 111 => ⟨S1x1024, .f32⟩
  | 112 => ⟨S4096x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S1x1024, .f32⟩
  | 119 => ⟨S4096x1024, .f32⟩
  | 120 => ⟨S4096x1024, .f32⟩
  | 121 => ⟨S4096x1024, .f32⟩
  | 122 => ⟨S4096x1024, .f32⟩
  | 123 => ⟨S1x1024, .f32⟩
  | 124 => ⟨S1024, .f32⟩
  | 125 => ⟨S1x1024, .f32⟩
  | 126 => ⟨S4096x1024, .f32⟩
  | 127 => ⟨S4096x1024, .f32⟩
  | _ => ⟨S4096x5120, .f32⟩

abbrev hbmTy0_1 (i : Nat) : BufTy := match i % 128 with
  | 0 => ⟨S4096x1024, .f32⟩
  | 1 => ⟨S4096x1024, .f32⟩
  | 2 => ⟨S1x1024, .f32⟩
  | 3 => ⟨S1024, .f32⟩
  | 4 => ⟨S1x1024, .f32⟩
  | 5 => ⟨S4096x1024, .f32⟩
  | 6 => ⟨S4096x1024, .f32⟩
  | 7 => ⟨S4096x1024, .f32⟩
  | 8 => ⟨S4096x1024, .f32⟩
  | 9 => ⟨S1x1024, .f32⟩
  | 10 => ⟨S1024, .f32⟩
  | 11 => ⟨S1x1024, .f32⟩
  | 12 => ⟨S4096x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S1x1024, .f32⟩
  | 19 => ⟨S4096x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S1x1024, .f32⟩
  | 26 => ⟨S4096x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S1x1024, .f32⟩
  | 40 => ⟨S4096x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S1x1024, .f32⟩
  | 47 => ⟨S4096x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S1x1024, .f32⟩
  | 54 => ⟨S4096x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S1x1024, .f32⟩
  | 61 => ⟨S4096x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S1x1024, .f32⟩
  | 68 => ⟨S4096x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S1x1024, .f32⟩
  | 75 => ⟨S4096x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S1x1024, .f32⟩
  | 82 => ⟨S4096x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S1x1024, .f32⟩
  | 89 => ⟨S4096x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S1x1024, .f32⟩
  | 96 => ⟨S4096x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S1x1024, .f32⟩
  | 103 => ⟨S4096x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S1x1024, .f32⟩
  | 110 => ⟨S4096x1024, .f32⟩
  | 111 => ⟨S4096x1024, .f32⟩
  | 112 => ⟨S4096x1024, .f32⟩
  | 113 => ⟨S4096x1024, .f32⟩
  | 114 => ⟨S1x1024, .f32⟩
  | 115 => ⟨S1024, .f32⟩
  | 116 => ⟨S1x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S_, .f32⟩
  | 124 => ⟨S1024, .f32⟩
  | 125 => ⟨S1x1024, .f32⟩
  | 126 => ⟨S4096x1024, .f32⟩
  | 127 => ⟨S4096x1024, .f32⟩
  | _ => ⟨S4096x5120, .f32⟩

abbrev hbmTy0_2 (i : Nat) : BufTy := match i % 128 with
  | 0 => ⟨S_, .f32⟩
  | 1 => ⟨S1024, .f32⟩
  | 2 => ⟨S1x1024, .f32⟩
  | 3 => ⟨S_, .f32⟩
  | 4 => ⟨S31x1024, .f32⟩
  | 5 => ⟨S_, .f32⟩
  | 6 => ⟨S4126x1024, .f32⟩
  | 7 => ⟨S4096x1024, .f32⟩
  | 8 => ⟨S_, .f32⟩
  | 9 => ⟨S1024, .f32⟩
  | 10 => ⟨S1x1024, .f32⟩
  | 11 => ⟨S4096x1024, .f32⟩
  | 12 => ⟨S4096x1024, .f32⟩
  | 13 => ⟨S_, .f32⟩
  | 14 => ⟨S1024, .f32⟩
  | 15 => ⟨S1x1024, .f32⟩
  | 16 => ⟨S_, .f32⟩
  | 17 => ⟨S31x1024, .f32⟩
  | 18 => ⟨S31x1024, .f32⟩
  | 19 => ⟨S_, .f32⟩
  | 20 => ⟨S4126x1024, .f32⟩
  | 21 => ⟨S4126x1024, .f32⟩
  | 22 => ⟨S4096x1024, .f32⟩
  | 23 => ⟨S_, .f32⟩
  | 24 => ⟨S1024, .f32⟩
  | 25 => ⟨S1x1024, .f32⟩
  | 26 => ⟨S4096x1024, .f32⟩
  | 27 => ⟨S4096x1024, .f32⟩
  | 28 => ⟨S_, .f32⟩
  | 29 => ⟨S1024, .f32⟩
  | 30 => ⟨S1x1024, .f32⟩
  | 31 => ⟨S_, .f32⟩
  | 32 => ⟨S31x1024, .f32⟩
  | 33 => ⟨S31x1024, .f32⟩
  | 34 => ⟨S_, .f32⟩
  | 35 => ⟨S4126x1024, .f32⟩
  | 36 => ⟨S4126x1024, .f32⟩
  | 37 => ⟨S4096x1024, .f32⟩
  | 38 => ⟨S_, .f32⟩
  | 39 => ⟨S1024, .f32⟩
  | 40 => ⟨S1x1024, .f32⟩
  | 41 => ⟨S4096x1024, .f32⟩
  | 42 => ⟨S4096x1024, .f32⟩
  | 43 => ⟨S_, .f32⟩
  | 44 => ⟨S1024, .f32⟩
  | 45 => ⟨S1x1024, .f32⟩
  | 46 => ⟨S_, .f32⟩
  | 47 => ⟨S31x1024, .f32⟩
  | 48 => ⟨S31x1024, .f32⟩
  | 49 => ⟨S_, .f32⟩
  | 50 => ⟨S4126x1024, .f32⟩
  | 51 => ⟨S4126x1024, .f32⟩
  | 52 => ⟨S4096x1024, .f32⟩
  | 53 => ⟨S_, .f32⟩
  | 54 => ⟨S1024, .f32⟩
  | 55 => ⟨S1x1024, .f32⟩
  | 56 => ⟨S4096x1024, .f32⟩
  | 57 => ⟨S4096x1024, .f32⟩
  | 58 => ⟨S_, .f32⟩
  | 59 => ⟨S1024, .f32⟩
  | 60 => ⟨S1x1024, .f32⟩
  | 61 => ⟨S_, .f32⟩
  | 62 => ⟨S31x1024, .f32⟩
  | 63 => ⟨S31x1024, .f32⟩
  | 64 => ⟨S_, .f32⟩
  | 65 => ⟨S4126x1024, .f32⟩
  | 66 => ⟨S4126x1024, .f32⟩
  | 67 => ⟨S4096x1024, .f32⟩
  | 68 => ⟨S_, .f32⟩
  | 69 => ⟨S1024, .f32⟩
  | 70 => ⟨S1x1024, .f32⟩
  | 71 => ⟨S4096x1024, .f32⟩
  | 72 => ⟨S4096x1024, .f32⟩
  | 73 => ⟨S_, .f32⟩
  | 74 => ⟨S1024, .f32⟩
  | 75 => ⟨S1x1024, .f32⟩
  | 76 => ⟨S_, .f32⟩
  | 77 => ⟨S31x1024, .f32⟩
  | 78 => ⟨S31x1024, .f32⟩
  | 79 => ⟨S_, .f32⟩
  | 80 => ⟨S4126x1024, .f32⟩
  | 81 => ⟨S4126x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S_, .f32⟩
  | 89 => ⟨S1024, .f32⟩
  | 90 => ⟨S1x1024, .f32⟩
  | 91 => ⟨S_, .f32⟩
  | 92 => ⟨S31x1024, .f32⟩
  | 93 => ⟨S31x1024, .f32⟩
  | 94 => ⟨S_, .f32⟩
  | 95 => ⟨S4126x1024, .f32⟩
  | 96 => ⟨S4126x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S_, .f32⟩
  | 104 => ⟨S1024, .f32⟩
  | 105 => ⟨S1x1024, .f32⟩
  | 106 => ⟨S_, .f32⟩
  | 107 => ⟨S31x1024, .f32⟩
  | 108 => ⟨S31x1024, .f32⟩
  | 109 => ⟨S_, .f32⟩
  | 110 => ⟨S4126x1024, .f32⟩
  | 111 => ⟨S4126x1024, .f32⟩
  | 112 => ⟨S4096x1024, .f32⟩
  | 113 => ⟨S_, .f32⟩
  | 114 => ⟨S1024, .f32⟩
  | 115 => ⟨S1x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S_, .f32⟩
  | 122 => ⟨S31x1024, .f32⟩
  | 123 => ⟨S31x1024, .f32⟩
  | 124 => ⟨S_, .f32⟩
  | 125 => ⟨S4126x1024, .f32⟩
  | 126 => ⟨S4126x1024, .f32⟩
  | 127 => ⟨S4096x1024, .f32⟩
  | _ => ⟨S4096x5120, .f32⟩

abbrev hbmTy0_3 (i : Nat) : BufTy := match i % 128 with
  | 0 => ⟨S_, .f32⟩
  | 1 => ⟨S1024, .f32⟩
  | 2 => ⟨S1x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S_, .f32⟩
  | 9 => ⟨S31x1024, .f32⟩
  | 10 => ⟨S31x1024, .f32⟩
  | 11 => ⟨S_, .f32⟩
  | 12 => ⟨S4126x1024, .f32⟩
  | 13 => ⟨S4126x1024, .f32⟩
  | 14 => ⟨S4096x1024, .f32⟩
  | 15 => ⟨S_, .f32⟩
  | 16 => ⟨S1024, .f32⟩
  | 17 => ⟨S1x1024, .f32⟩
  | 18 => ⟨S4096x1024, .f32⟩
  | 19 => ⟨S4096x1024, .f32⟩
  | 20 => ⟨S_, .f32⟩
  | 21 => ⟨S1024, .f32⟩
  | 22 => ⟨S1x1024, .f32⟩
  | 23 => ⟨S_, .f32⟩
  | 24 => ⟨S31x1024, .f32⟩
  | 25 => ⟨S31x1024, .f32⟩
  | 26 => ⟨S_, .f32⟩
  | 27 => ⟨S4126x1024, .f32⟩
  | 28 => ⟨S4126x1024, .f32⟩
  | 29 => ⟨S4096x1024, .f32⟩
  | 30 => ⟨S_, .f32⟩
  | 31 => ⟨S1024, .f32⟩
  | 32 => ⟨S1x1024, .f32⟩
  | 33 => ⟨S4096x1024, .f32⟩
  | 34 => ⟨S4096x1024, .f32⟩
  | 35 => ⟨S_, .f32⟩
  | 36 => ⟨S1024, .f32⟩
  | 37 => ⟨S1x1024, .f32⟩
  | 38 => ⟨S_, .f32⟩
  | 39 => ⟨S31x1024, .f32⟩
  | 40 => ⟨S31x1024, .f32⟩
  | 41 => ⟨S_, .f32⟩
  | 42 => ⟨S4126x1024, .f32⟩
  | 43 => ⟨S4126x1024, .f32⟩
  | 44 => ⟨S4096x1024, .f32⟩
  | 45 => ⟨S_, .f32⟩
  | 46 => ⟨S1024, .f32⟩
  | 47 => ⟨S1x1024, .f32⟩
  | 48 => ⟨S4096x1024, .f32⟩
  | 49 => ⟨S4096x1024, .f32⟩
  | 50 => ⟨S_, .f32⟩
  | 51 => ⟨S1024, .f32⟩
  | 52 => ⟨S1x1024, .f32⟩
  | 53 => ⟨S_, .f32⟩
  | 54 => ⟨S31x1024, .f32⟩
  | 55 => ⟨S31x1024, .f32⟩
  | 56 => ⟨S_, .f32⟩
  | 57 => ⟨S4126x1024, .f32⟩
  | 58 => ⟨S4126x1024, .f32⟩
  | 59 => ⟨S4096x1024, .f32⟩
  | 60 => ⟨S_, .f32⟩
  | 61 => ⟨S1024, .f32⟩
  | 62 => ⟨S1x1024, .f32⟩
  | 63 => ⟨S4096x1024, .f32⟩
  | 64 => ⟨S4096x1024, .f32⟩
  | 65 => ⟨S_, .f32⟩
  | 66 => ⟨S1024, .f32⟩
  | 67 => ⟨S1x1024, .f32⟩
  | 68 => ⟨S_, .f32⟩
  | 69 => ⟨S31x1024, .f32⟩
  | 70 => ⟨S31x1024, .f32⟩
  | 71 => ⟨S_, .f32⟩
  | 72 => ⟨S4126x1024, .f32⟩
  | 73 => ⟨S4126x1024, .f32⟩
  | 74 => ⟨S4096x1024, .f32⟩
  | 75 => ⟨S_, .f32⟩
  | 76 => ⟨S1024, .f32⟩
  | 77 => ⟨S1x1024, .f32⟩
  | 78 => ⟨S4096x1024, .f32⟩
  | 79 => ⟨S4096x1024, .f32⟩
  | 80 => ⟨S_, .f32⟩
  | 81 => ⟨S1024, .f32⟩
  | 82 => ⟨S1x1024, .f32⟩
  | 83 => ⟨S_, .f32⟩
  | 84 => ⟨S31x1024, .f32⟩
  | 85 => ⟨S31x1024, .f32⟩
  | 86 => ⟨S_, .f32⟩
  | 87 => ⟨S4126x1024, .f32⟩
  | 88 => ⟨S4126x1024, .f32⟩
  | 89 => ⟨S4096x1024, .f32⟩
  | 90 => ⟨S_, .f32⟩
  | 91 => ⟨S1024, .f32⟩
  | 92 => ⟨S1x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S_, .f32⟩
  | 99 => ⟨S31x1024, .f32⟩
  | 100 => ⟨S31x1024, .f32⟩
  | 101 => ⟨S_, .f32⟩
  | 102 => ⟨S4126x1024, .f32⟩
  | 103 => ⟨S4126x1024, .f32⟩
  | 104 => ⟨S4096x1024, .f32⟩
  | 105 => ⟨S_, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S1024, .f32⟩
  | 112 => ⟨S1x1024, .f32⟩
  | 113 => ⟨S_, .f32⟩
  | 114 => ⟨S31x1024, .f32⟩
  | 115 => ⟨S31x1024, .f32⟩
  | 116 => ⟨S_, .f32⟩
  | 117 => ⟨S4126x1024, .f32⟩
  | 118 => ⟨S4126x1024, .f32⟩
  | 119 => ⟨S4096x1024, .f32⟩
  | 120 => ⟨S_, .f32⟩
  | 121 => ⟨S1024, .f32⟩
  | 122 => ⟨S1x1024, .f32⟩
  | 123 => ⟨S4096x1024, .f32⟩
  | 124 => ⟨S4096x1024, .f32⟩
  | 125 => ⟨S_, .f32⟩
  | 126 => ⟨S1024, .f32⟩
  | 127 => ⟨S1x1024, .f32⟩
  | _ => ⟨S4096x5120, .f32⟩

abbrev hbmTy0_4 (i : Nat) : BufTy := match i % 128 with
  | 0 => ⟨S_, .f32⟩
  | 1 => ⟨S31x1024, .f32⟩
  | 2 => ⟨S31x1024, .f32⟩
  | 3 => ⟨S_, .f32⟩
  | 4 => ⟨S4126x1024, .f32⟩
  | 5 => ⟨S4126x1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S_, .f32⟩
  | 13 => ⟨S1024, .f32⟩
  | 14 => ⟨S1x1024, .f32⟩
  | 15 => ⟨S_, .f32⟩
  | 16 => ⟨S31x1024, .f32⟩
  | 17 => ⟨S31x1024, .f32⟩
  | 18 => ⟨S_, .f32⟩
  | 19 => ⟨S4126x1024, .f32⟩
  | 20 => ⟨S4126x1024, .f32⟩
  | 21 => ⟨S4096x1024, .f32⟩
  | 22 => ⟨S_, .f32⟩
  | 23 => ⟨S1024, .f32⟩
  | 24 => ⟨S1x1024, .f32⟩
  | 25 => ⟨S4096x1024, .f32⟩
  | 26 => ⟨S4096x1024, .f32⟩
  | 27 => ⟨S_, .f32⟩
  | 28 => ⟨S1024, .f32⟩
  | 29 => ⟨S1x1024, .f32⟩
  | 30 => ⟨S_, .f32⟩
  | 31 => ⟨S31x1024, .f32⟩
  | 32 => ⟨S31x1024, .f32⟩
  | 33 => ⟨S_, .f32⟩
  | 34 => ⟨S4126x1024, .f32⟩
  | 35 => ⟨S4126x1024, .f32⟩
  | 36 => ⟨S4096x1024, .f32⟩
  | 37 => ⟨S_, .f32⟩
  | 38 => ⟨S1024, .f32⟩
  | 39 => ⟨S1x1024, .f32⟩
  | 40 => ⟨S4096x1024, .f32⟩
  | 41 => ⟨S4096x1024, .f32⟩
  | 42 => ⟨S_, .f32⟩
  | 43 => ⟨S1024, .f32⟩
  | 44 => ⟨S1x1024, .f32⟩
  | 45 => ⟨S_, .f32⟩
  | 46 => ⟨S31x1024, .f32⟩
  | 47 => ⟨S31x1024, .f32⟩
  | 48 => ⟨S_, .f32⟩
  | 49 => ⟨S4126x1024, .f32⟩
  | 50 => ⟨S4126x1024, .f32⟩
  | 51 => ⟨S4096x1024, .f32⟩
  | 52 => ⟨S_, .f32⟩
  | 53 => ⟨S1024, .f32⟩
  | 54 => ⟨S1x1024, .f32⟩
  | 55 => ⟨S4096x1024, .f32⟩
  | 56 => ⟨S4096x1024, .f32⟩
  | 57 => ⟨S_, .f32⟩
  | 58 => ⟨S1024, .f32⟩
  | 59 => ⟨S1x1024, .f32⟩
  | 60 => ⟨S_, .f32⟩
  | 61 => ⟨S31x1024, .f32⟩
  | 62 => ⟨S31x1024, .f32⟩
  | 63 => ⟨S_, .f32⟩
  | 64 => ⟨S4126x1024, .f32⟩
  | 65 => ⟨S4126x1024, .f32⟩
  | 66 => ⟨S4096x1024, .f32⟩
  | 67 => ⟨S_, .f32⟩
  | 68 => ⟨S1024, .f32⟩
  | 69 => ⟨S1x1024, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S_, .f32⟩
  | 76 => ⟨S31x1024, .f32⟩
  | 77 => ⟨S31x1024, .f32⟩
  | 78 => ⟨S_, .f32⟩
  | 79 => ⟨S4126x1024, .f32⟩
  | 80 => ⟨S4126x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S_, .f32⟩
  | 91 => ⟨S31x1024, .f32⟩
  | 92 => ⟨S31x1024, .f32⟩
  | 93 => ⟨S_, .f32⟩
  | 94 => ⟨S4126x1024, .f32⟩
  | 95 => ⟨S4126x1024, .f32⟩
  | 96 => ⟨S4096x1024, .f32⟩
  | 97 => ⟨S_, .f32⟩
  | 98 => ⟨S1024, .f32⟩
  | 99 => ⟨S1x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S_, .f32⟩
  | 106 => ⟨S31x1024, .f32⟩
  | 107 => ⟨S31x1024, .f32⟩
  | 108 => ⟨S_, .f32⟩
  | 109 => ⟨S4126x1024, .f32⟩
  | 110 => ⟨S4126x1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S_, .f32⟩
  | 118 => ⟨S1024, .f32⟩
  | 119 => ⟨S1x1024, .f32⟩
  | 120 => ⟨S_, .f32⟩
  | 121 => ⟨S31x1024, .f32⟩
  | 122 => ⟨S31x1024, .f32⟩
  | 123 => ⟨S_, .f32⟩
  | 124 => ⟨S4126x1024, .f32⟩
  | 125 => ⟨S4126x1024, .f32⟩
  | 126 => ⟨S4096x1024, .f32⟩
  | 127 => ⟨S_, .f32⟩
  | _ => ⟨S4096x5120, .f32⟩

abbrev hbmTy0_5 (i : Nat) : BufTy := match i % 128 with
  | 0 => ⟨S1024, .f32⟩
  | 1 => ⟨S1x1024, .f32⟩
  | 2 => ⟨S4096x1024, .f32⟩
  | 3 => ⟨S4096x1024, .f32⟩
  | 4 => ⟨S_, .f32⟩
  | 5 => ⟨S1024, .f32⟩
  | 6 => ⟨S1x1024, .f32⟩
  | 7 => ⟨S_, .f32⟩
  | 8 => ⟨S31x1024, .f32⟩
  | 9 => ⟨S31x1024, .f32⟩
  | 10 => ⟨S_, .f32⟩
  | 11 => ⟨S4126x1024, .f32⟩
  | 12 => ⟨S4126x1024, .f32⟩
  | 13 => ⟨S4096x1024, .f32⟩
  | 14 => ⟨S_, .f32⟩
  | 15 => ⟨S1024, .f32⟩
  | 16 => ⟨S1x1024, .f32⟩
  | 17 => ⟨S4096x1024, .f32⟩
  | 18 => ⟨S4096x1024, .f32⟩
  | 19 => ⟨S_, .f32⟩
  | 20 => ⟨S1024, .f32⟩
  | 21 => ⟨S1x1024, .f32⟩
  | 22 => ⟨S_, .f32⟩
  | 23 => ⟨S31x1024, .f32⟩
  | 24 => ⟨S31x1024, .f32⟩
  | 25 => ⟨S_, .f32⟩
  | 26 => ⟨S4126x1024, .f32⟩
  | 27 => ⟨S4126x1024, .f32⟩
  | 28 => ⟨S4096x1024, .f32⟩
  | 29 => ⟨S_, .f32⟩
  | 30 => ⟨S1024, .f32⟩
  | 31 => ⟨S1x1024, .f32⟩
  | 32 => ⟨S4096x1024, .f32⟩
  | 33 => ⟨S4096x1024, .f32⟩
  | 34 => ⟨S_, .f32⟩
  | 35 => ⟨S1024, .f32⟩
  | 36 => ⟨S1x1024, .f32⟩
  | 37 => ⟨S_, .f32⟩
  | 38 => ⟨S31x1024, .f32⟩
  | 39 => ⟨S31x1024, .f32⟩
  | 40 => ⟨S_, .f32⟩
  | 41 => ⟨S4126x1024, .f32⟩
  | 42 => ⟨S4126x1024, .f32⟩
  | 43 => ⟨S4096x1024, .f32⟩
  | 44 => ⟨S_, .f32⟩
  | 45 => ⟨S1024, .f32⟩
  | 46 => ⟨S1x1024, .f32⟩
  | 47 => ⟨S4096x1024, .f32⟩
  | 48 => ⟨S4096x1024, .f32⟩
  | 49 => ⟨S_, .f32⟩
  | 50 => ⟨S1024, .f32⟩
  | 51 => ⟨S1x1024, .f32⟩
  | 52 => ⟨S_, .f32⟩
  | 53 => ⟨S31x1024, .f32⟩
  | 54 => ⟨S31x1024, .f32⟩
  | 55 => ⟨S_, .f32⟩
  | 56 => ⟨S4126x1024, .f32⟩
  | 57 => ⟨S4126x1024, .f32⟩
  | 58 => ⟨S_, .f32⟩
  | 59 => ⟨S1024, .f32⟩
  | 60 => ⟨S1x1024, .f32⟩
  | 61 => ⟨S_, .f32⟩
  | 62 => ⟨S1024, .f32⟩
  | 63 => ⟨S4096x1024, .f32⟩
  | 64 => ⟨S_, .f32⟩
  | 65 => ⟨S1024, .f32⟩
  | 66 => ⟨S1x1024, .f32⟩
  | 67 => ⟨S4096x1024, .f32⟩
  | 68 => ⟨S4096x1024, .f32⟩
  | 69 => ⟨S_, .f32⟩
  | 70 => ⟨S1024, .f32⟩
  | 71 => ⟨S1x1024, .f32⟩
  | 72 => ⟨S_, .f32⟩
  | 73 => ⟨S31x1024, .f32⟩
  | 74 => ⟨S31x1024, .f32⟩
  | 75 => ⟨S_, .f32⟩
  | 76 => ⟨S4126x1024, .f32⟩
  | 77 => ⟨S4126x1024, .f32⟩
  | 78 => ⟨S15x1024, .f32⟩
  | 79 => ⟨S4096x1024, .f32⟩
  | 80 => ⟨S15x1024, .f32⟩
  | 81 => ⟨S4096x1024, .f32⟩
  | 82 => ⟨S4096x1024, .f32⟩
  | 83 => ⟨S4096x1024, .f32⟩
  | 84 => ⟨S4096x1024, .bf16⟩
  | 85 => ⟨S4096x1024, .bf16⟩
  | 86 => ⟨S1x1024, .f32⟩
  | 87 => ⟨S32x1024, .f32⟩
  | _ => ⟨S4096x5120, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_6 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_cst_7 : Ref sig .tc := ⟨.hbm, 256, rfl⟩
abbrev main_v245 : Ref sig .tc := ⟨.hbm, 257, rfl⟩
abbrev main_v246 : Ref sig .tc := ⟨.hbm, 258, rfl⟩
abbrev main_cst_8 : Ref sig .tc := ⟨.hbm, 259, rfl⟩
abbrev main_v247 : Ref sig .tc := ⟨.hbm, 260, rfl⟩
abbrev main_cst_9 : Ref sig .tc := ⟨.hbm, 261, rfl⟩
abbrev main_v248 : Ref sig .tc := ⟨.hbm, 262, rfl⟩
abbrev main_v249 : Ref sig .tc := ⟨.hbm, 263, rfl⟩
abbrev main_cst_10 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_cst_11 : Ref sig .tc := ⟨.hbm, 269, rfl⟩
abbrev main_v254 : Ref sig .tc := ⟨.hbm, 270, rfl⟩
abbrev main_v255 : Ref sig .tc := ⟨.hbm, 271, rfl⟩
abbrev main_cst_12 : Ref sig .tc := ⟨.hbm, 272, rfl⟩
abbrev main_v256 : Ref sig .tc := ⟨.hbm, 273, rfl⟩
abbrev main_v257 : Ref sig .tc := ⟨.hbm, 274, rfl⟩
abbrev main_cst_13 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_cst_14 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_cst_15 : Ref sig .tc := ⟨.hbm, 284, rfl⟩
abbrev main_v265 : Ref sig .tc := ⟨.hbm, 285, rfl⟩
abbrev main_v266 : Ref sig .tc := ⟨.hbm, 286, rfl⟩
abbrev main_cst_16 : Ref sig .tc := ⟨.hbm, 287, rfl⟩
abbrev main_v267 : Ref sig .tc := ⟨.hbm, 288, rfl⟩
abbrev main_v268 : Ref sig .tc := ⟨.hbm, 289, rfl⟩
abbrev main_cst_17 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_cst_18 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_cst_19 : Ref sig .tc := ⟨.hbm, 299, rfl⟩
abbrev main_v276 : Ref sig .tc := ⟨.hbm, 300, rfl⟩
abbrev main_v277 : Ref sig .tc := ⟨.hbm, 301, rfl⟩
abbrev main_cst_20 : Ref sig .tc := ⟨.hbm, 302, rfl⟩
abbrev main_v278 : Ref sig .tc := ⟨.hbm, 303, rfl⟩
abbrev main_v279 : Ref sig .tc := ⟨.hbm, 304, rfl⟩
abbrev main_cst_21 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_cst_22 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_cst_23 : Ref sig .tc := ⟨.hbm, 314, rfl⟩
abbrev main_v287 : Ref sig .tc := ⟨.hbm, 315, rfl⟩
abbrev main_v288 : Ref sig .tc := ⟨.hbm, 316, rfl⟩
abbrev main_cst_24 : Ref sig .tc := ⟨.hbm, 317, rfl⟩
abbrev main_v289 : Ref sig .tc := ⟨.hbm, 318, rfl⟩
abbrev main_v290 : Ref sig .tc := ⟨.hbm, 319, rfl⟩
abbrev main_cst_25 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_cst_26 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_cst_27 : Ref sig .tc := ⟨.hbm, 329, rfl⟩
abbrev main_v298 : Ref sig .tc := ⟨.hbm, 330, rfl⟩
abbrev main_v299 : Ref sig .tc := ⟨.hbm, 331, rfl⟩
abbrev main_cst_28 : Ref sig .tc := ⟨.hbm, 332, rfl⟩
abbrev main_v300 : Ref sig .tc := ⟨.hbm, 333, rfl⟩
abbrev main_v301 : Ref sig .tc := ⟨.hbm, 334, rfl⟩
abbrev main_cst_29 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_cst_30 : Ref sig .tc := ⟨.hbm, 339, rfl⟩
abbrev main_v305 : Ref sig .tc := ⟨.hbm, 340, rfl⟩
abbrev main_v306 : Ref sig .tc := ⟨.hbm, 341, rfl⟩
abbrev main_v307 : Ref sig .tc := ⟨.hbm, 342, rfl⟩
abbrev main_v308 : Ref sig .tc := ⟨.hbm, 343, rfl⟩
abbrev main_cst_31 : Ref sig .tc := ⟨.hbm, 344, rfl⟩
abbrev main_v309 : Ref sig .tc := ⟨.hbm, 345, rfl⟩
abbrev main_v310 : Ref sig .tc := ⟨.hbm, 346, rfl⟩
abbrev main_cst_32 : Ref sig .tc := ⟨.hbm, 347, rfl⟩
abbrev main_v311 : Ref sig .tc := ⟨.hbm, 348, rfl⟩
abbrev main_v312 : Ref sig .tc := ⟨.hbm, 349, rfl⟩
abbrev main_cst_33 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_cst_34 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩
abbrev main_cst_35 : Ref sig .tc := ⟨.hbm, 359, rfl⟩
abbrev main_v320 : Ref sig .tc := ⟨.hbm, 360, rfl⟩
abbrev main_v321 : Ref sig .tc := ⟨.hbm, 361, rfl⟩
abbrev main_cst_36 : Ref sig .tc := ⟨.hbm, 362, rfl⟩
abbrev main_v322 : Ref sig .tc := ⟨.hbm, 363, rfl⟩
abbrev main_v323 : Ref sig .tc := ⟨.hbm, 364, rfl⟩
abbrev main_cst_37 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_cst_38 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩
abbrev main_v330 : Ref sig .tc := ⟨.hbm, 373, rfl⟩
abbrev main_cst_39 : Ref sig .tc := ⟨.hbm, 374, rfl⟩
abbrev main_v331 : Ref sig .tc := ⟨.hbm, 375, rfl⟩
abbrev main_v332 : Ref sig .tc := ⟨.hbm, 376, rfl⟩
abbrev main_cst_40 : Ref sig .tc := ⟨.hbm, 377, rfl⟩
abbrev main_v333 : Ref sig .tc := ⟨.hbm, 378, rfl⟩
abbrev main_v334 : Ref sig .tc := ⟨.hbm, 379, rfl⟩
abbrev main_cst_41 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_cst_42 : Ref sig .tc := ⟨.hbm, 384, rfl⟩
abbrev main_v338 : Ref sig .tc := ⟨.hbm, 385, rfl⟩
abbrev main_v339 : Ref sig .tc := ⟨.hbm, 386, rfl⟩
abbrev main_v340 : Ref sig .tc := ⟨.hbm, 387, rfl⟩
abbrev main_v341 : Ref sig .tc := ⟨.hbm, 388, rfl⟩
abbrev main_cst_43 : Ref sig .tc := ⟨.hbm, 389, rfl⟩
abbrev main_v342 : Ref sig .tc := ⟨.hbm, 390, rfl⟩
abbrev main_v343 : Ref sig .tc := ⟨.hbm, 391, rfl⟩
abbrev main_cst_44 : Ref sig .tc := ⟨.hbm, 392, rfl⟩
abbrev main_v344 : Ref sig .tc := ⟨.hbm, 393, rfl⟩
abbrev main_v345 : Ref sig .tc := ⟨.hbm, 394, rfl⟩
abbrev main_cst_45 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_cst_46 : Ref sig .tc := ⟨.hbm, 399, rfl⟩
abbrev main_v349 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_cst_47 : Ref sig .tc := ⟨.hbm, 404, rfl⟩
abbrev main_v353 : Ref sig .tc := ⟨.hbm, 405, rfl⟩
abbrev main_v354 : Ref sig .tc := ⟨.hbm, 406, rfl⟩
abbrev main_cst_48 : Ref sig .tc := ⟨.hbm, 407, rfl⟩
abbrev main_v355 : Ref sig .tc := ⟨.hbm, 408, rfl⟩
abbrev main_v356 : Ref sig .tc := ⟨.hbm, 409, rfl⟩
abbrev main_cst_49 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_cst_50 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_v363 : Ref sig .tc := ⟨.hbm, 418, rfl⟩
abbrev main_cst_51 : Ref sig .tc := ⟨.hbm, 419, rfl⟩
abbrev main_v364 : Ref sig .tc := ⟨.hbm, 420, rfl⟩
abbrev main_v365 : Ref sig .tc := ⟨.hbm, 421, rfl⟩
abbrev main_cst_52 : Ref sig .tc := ⟨.hbm, 422, rfl⟩
abbrev main_v366 : Ref sig .tc := ⟨.hbm, 423, rfl⟩
abbrev main_v367 : Ref sig .tc := ⟨.hbm, 424, rfl⟩
abbrev main_cst_53 : Ref sig .tc := ⟨.hbm, 425, rfl⟩
abbrev main_v368 : Ref sig .tc := ⟨.hbm, 426, rfl⟩
abbrev main_v369 : Ref sig .tc := ⟨.hbm, 427, rfl⟩
abbrev main_v370 : Ref sig .tc := ⟨.hbm, 428, rfl⟩
abbrev main_cst_54 : Ref sig .tc := ⟨.hbm, 429, rfl⟩
abbrev main_v371 : Ref sig .tc := ⟨.hbm, 430, rfl⟩
abbrev main_v372 : Ref sig .tc := ⟨.hbm, 431, rfl⟩
abbrev main_v373 : Ref sig .tc := ⟨.hbm, 432, rfl⟩
abbrev main_v374 : Ref sig .tc := ⟨.hbm, 433, rfl⟩
abbrev main_cst_55 : Ref sig .tc := ⟨.hbm, 434, rfl⟩
abbrev main_v375 : Ref sig .tc := ⟨.hbm, 435, rfl⟩
abbrev main_v376 : Ref sig .tc := ⟨.hbm, 436, rfl⟩
abbrev main_cst_56 : Ref sig .tc := ⟨.hbm, 437, rfl⟩
abbrev main_v377 : Ref sig .tc := ⟨.hbm, 438, rfl⟩
abbrev main_v378 : Ref sig .tc := ⟨.hbm, 439, rfl⟩
abbrev main_cst_57 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_cst_58 : Ref sig .tc := ⟨.hbm, 444, rfl⟩
abbrev main_v382 : Ref sig .tc := ⟨.hbm, 445, rfl⟩
abbrev main_v383 : Ref sig .tc := ⟨.hbm, 446, rfl⟩
abbrev main_v384 : Ref sig .tc := ⟨.hbm, 447, rfl⟩
abbrev main_v385 : Ref sig .tc := ⟨.hbm, 448, rfl⟩
abbrev main_cst_59 : Ref sig .tc := ⟨.hbm, 449, rfl⟩
abbrev main_v386 : Ref sig .tc := ⟨.hbm, 450, rfl⟩
abbrev main_v387 : Ref sig .tc := ⟨.hbm, 451, rfl⟩
abbrev main_cst_60 : Ref sig .tc := ⟨.hbm, 452, rfl⟩
abbrev main_v388 : Ref sig .tc := ⟨.hbm, 453, rfl⟩
abbrev main_v389 : Ref sig .tc := ⟨.hbm, 454, rfl⟩
abbrev main_cst_61 : Ref sig .tc := ⟨.hbm, 455, rfl⟩
abbrev main_v390 : Ref sig .tc := ⟨.hbm, 456, rfl⟩
abbrev main_v391 : Ref sig .tc := ⟨.hbm, 457, rfl⟩
abbrev main_v392 : Ref sig .tc := ⟨.hbm, 458, rfl⟩
abbrev main_cst_62 : Ref sig .tc := ⟨.hbm, 459, rfl⟩
abbrev main_v393 : Ref sig .tc := ⟨.hbm, 460, rfl⟩
abbrev main_v394 : Ref sig .tc := ⟨.hbm, 461, rfl⟩
abbrev main_v395 : Ref sig .tc := ⟨.hbm, 462, rfl⟩
abbrev main_v396 : Ref sig .tc := ⟨.hbm, 463, rfl⟩
abbrev main_cst_63 : Ref sig .tc := ⟨.hbm, 464, rfl⟩
abbrev main_v397 : Ref sig .tc := ⟨.hbm, 465, rfl⟩
abbrev main_v398 : Ref sig .tc := ⟨.hbm, 466, rfl⟩
abbrev main_cst_64 : Ref sig .tc := ⟨.hbm, 467, rfl⟩
abbrev main_v399 : Ref sig .tc := ⟨.hbm, 468, rfl⟩
abbrev main_v400 : Ref sig .tc := ⟨.hbm, 469, rfl⟩
abbrev main_cst_65 : Ref sig .tc := ⟨.hbm, 470, rfl⟩
abbrev main_v401 : Ref sig .tc := ⟨.hbm, 471, rfl⟩
abbrev main_v402 : Ref sig .tc := ⟨.hbm, 472, rfl⟩
abbrev main_v403 : Ref sig .tc := ⟨.hbm, 473, rfl⟩
abbrev main_cst_66 : Ref sig .tc := ⟨.hbm, 474, rfl⟩
abbrev main_v404 : Ref sig .tc := ⟨.hbm, 475, rfl⟩
abbrev main_v405 : Ref sig .tc := ⟨.hbm, 476, rfl⟩
abbrev main_v406 : Ref sig .tc := ⟨.hbm, 477, rfl⟩
abbrev main_v407 : Ref sig .tc := ⟨.hbm, 478, rfl⟩
abbrev main_cst_67 : Ref sig .tc := ⟨.hbm, 479, rfl⟩
abbrev main_v408 : Ref sig .tc := ⟨.hbm, 480, rfl⟩
abbrev main_v409 : Ref sig .tc := ⟨.hbm, 481, rfl⟩
abbrev main_cst_68 : Ref sig .tc := ⟨.hbm, 482, rfl⟩
abbrev main_v410 : Ref sig .tc := ⟨.hbm, 483, rfl⟩
abbrev main_v411 : Ref sig .tc := ⟨.hbm, 484, rfl⟩
abbrev main_cst_69 : Ref sig .tc := ⟨.hbm, 485, rfl⟩
abbrev main_v412 : Ref sig .tc := ⟨.hbm, 486, rfl⟩
abbrev main_v413 : Ref sig .tc := ⟨.hbm, 487, rfl⟩
abbrev main_v414 : Ref sig .tc := ⟨.hbm, 488, rfl⟩
abbrev main_cst_70 : Ref sig .tc := ⟨.hbm, 489, rfl⟩
abbrev main_v415 : Ref sig .tc := ⟨.hbm, 490, rfl⟩
abbrev main_v416 : Ref sig .tc := ⟨.hbm, 491, rfl⟩
abbrev main_v417 : Ref sig .tc := ⟨.hbm, 492, rfl⟩
abbrev main_v418 : Ref sig .tc := ⟨.hbm, 493, rfl⟩
abbrev main_cst_71 : Ref sig .tc := ⟨.hbm, 494, rfl⟩
abbrev main_v419 : Ref sig .tc := ⟨.hbm, 495, rfl⟩
abbrev main_v420 : Ref sig .tc := ⟨.hbm, 496, rfl⟩
abbrev main_cst_72 : Ref sig .tc := ⟨.hbm, 497, rfl⟩
abbrev main_v421 : Ref sig .tc := ⟨.hbm, 498, rfl⟩
abbrev main_v422 : Ref sig .tc := ⟨.hbm, 499, rfl⟩
abbrev main_cst_73 : Ref sig .tc := ⟨.hbm, 500, rfl⟩
abbrev main_v423 : Ref sig .tc := ⟨.hbm, 501, rfl⟩
abbrev main_v424 : Ref sig .tc := ⟨.hbm, 502, rfl⟩
abbrev main_v425 : Ref sig .tc := ⟨.hbm, 503, rfl⟩
abbrev main_cst_74 : Ref sig .tc := ⟨.hbm, 504, rfl⟩
abbrev main_v426 : Ref sig .tc := ⟨.hbm, 505, rfl⟩
abbrev main_v427 : Ref sig .tc := ⟨.hbm, 506, rfl⟩
abbrev main_v428 : Ref sig .tc := ⟨.hbm, 507, rfl⟩
abbrev main_v429 : Ref sig .tc := ⟨.hbm, 508, rfl⟩
abbrev main_cst_75 : Ref sig .tc := ⟨.hbm, 509, rfl⟩
abbrev main_v430 : Ref sig .tc := ⟨.hbm, 510, rfl⟩
abbrev main_v431 : Ref sig .tc := ⟨.hbm, 511, rfl⟩
abbrev main_cst_76 : Ref sig .tc := ⟨.hbm, 512, rfl⟩
abbrev main_v432 : Ref sig .tc := ⟨.hbm, 513, rfl⟩
abbrev main_v433 : Ref sig .tc := ⟨.hbm, 514, rfl⟩
abbrev main_cst_77 : Ref sig .tc := ⟨.hbm, 515, rfl⟩
abbrev main_v434 : Ref sig .tc := ⟨.hbm, 516, rfl⟩
abbrev main_v435 : Ref sig .tc := ⟨.hbm, 517, rfl⟩
abbrev main_v436 : Ref sig .tc := ⟨.hbm, 518, rfl⟩
abbrev main_cst_78 : Ref sig .tc := ⟨.hbm, 519, rfl⟩
abbrev main_v437 : Ref sig .tc := ⟨.hbm, 520, rfl⟩
abbrev main_v438 : Ref sig .tc := ⟨.hbm, 521, rfl⟩
abbrev main_v439 : Ref sig .tc := ⟨.hbm, 522, rfl⟩
abbrev main_v440 : Ref sig .tc := ⟨.hbm, 523, rfl⟩
abbrev main_cst_79 : Ref sig .tc := ⟨.hbm, 524, rfl⟩
abbrev main_v441 : Ref sig .tc := ⟨.hbm, 525, rfl⟩
abbrev main_v442 : Ref sig .tc := ⟨.hbm, 526, rfl⟩
abbrev main_cst_80 : Ref sig .tc := ⟨.hbm, 527, rfl⟩
abbrev main_v443 : Ref sig .tc := ⟨.hbm, 528, rfl⟩
abbrev main_v444 : Ref sig .tc := ⟨.hbm, 529, rfl⟩
abbrev main_cst_81 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_cst_82 : Ref sig .tc := ⟨.hbm, 534, rfl⟩
abbrev main_v448 : Ref sig .tc := ⟨.hbm, 535, rfl⟩
abbrev main_v449 : Ref sig .tc := ⟨.hbm, 536, rfl⟩
abbrev main_v450 : Ref sig .tc := ⟨.hbm, 537, rfl⟩
abbrev main_v451 : Ref sig .tc := ⟨.hbm, 538, rfl⟩
abbrev main_cst_83 : Ref sig .tc := ⟨.hbm, 539, rfl⟩
abbrev main_v452 : Ref sig .tc := ⟨.hbm, 540, rfl⟩
abbrev main_v453 : Ref sig .tc := ⟨.hbm, 541, rfl⟩
abbrev main_cst_84 : Ref sig .tc := ⟨.hbm, 542, rfl⟩
abbrev main_v454 : Ref sig .tc := ⟨.hbm, 543, rfl⟩
abbrev main_v455 : Ref sig .tc := ⟨.hbm, 544, rfl⟩
abbrev main_cst_85 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_cst_86 : Ref sig .tc := ⟨.hbm, 549, rfl⟩
abbrev main_v459 : Ref sig .tc := ⟨.hbm, 550, rfl⟩
abbrev main_v460 : Ref sig .tc := ⟨.hbm, 551, rfl⟩
abbrev main_v461 : Ref sig .tc := ⟨.hbm, 552, rfl⟩
abbrev main_v462 : Ref sig .tc := ⟨.hbm, 553, rfl⟩
abbrev main_cst_87 : Ref sig .tc := ⟨.hbm, 554, rfl⟩
abbrev main_v463 : Ref sig .tc := ⟨.hbm, 555, rfl⟩
abbrev main_v464 : Ref sig .tc := ⟨.hbm, 556, rfl⟩
abbrev main_cst_88 : Ref sig .tc := ⟨.hbm, 557, rfl⟩
abbrev main_v465 : Ref sig .tc := ⟨.hbm, 558, rfl⟩
abbrev main_v466 : Ref sig .tc := ⟨.hbm, 559, rfl⟩
abbrev main_cst_89 : Ref sig .tc := ⟨.hbm, 560, rfl⟩
abbrev main_v467 : Ref sig .tc := ⟨.hbm, 561, rfl⟩
abbrev main_v468 : Ref sig .tc := ⟨.hbm, 562, rfl⟩
abbrev main_v469 : Ref sig .tc := ⟨.hbm, 563, rfl⟩
abbrev main_cst_90 : Ref sig .tc := ⟨.hbm, 564, rfl⟩
abbrev main_v470 : Ref sig .tc := ⟨.hbm, 565, rfl⟩
abbrev main_v471 : Ref sig .tc := ⟨.hbm, 566, rfl⟩
abbrev main_v472 : Ref sig .tc := ⟨.hbm, 567, rfl⟩
abbrev main_v473 : Ref sig .tc := ⟨.hbm, 568, rfl⟩
abbrev main_cst_91 : Ref sig .tc := ⟨.hbm, 569, rfl⟩
abbrev main_v474 : Ref sig .tc := ⟨.hbm, 570, rfl⟩
abbrev main_v475 : Ref sig .tc := ⟨.hbm, 571, rfl⟩
abbrev main_cst_92 : Ref sig .tc := ⟨.hbm, 572, rfl⟩
abbrev main_v476 : Ref sig .tc := ⟨.hbm, 573, rfl⟩
abbrev main_v477 : Ref sig .tc := ⟨.hbm, 574, rfl⟩
abbrev main_cst_93 : Ref sig .tc := ⟨.hbm, 575, rfl⟩
abbrev main_v478 : Ref sig .tc := ⟨.hbm, 576, rfl⟩
abbrev main_v479 : Ref sig .tc := ⟨.hbm, 577, rfl⟩
abbrev main_v480 : Ref sig .tc := ⟨.hbm, 578, rfl⟩
abbrev main_cst_94 : Ref sig .tc := ⟨.hbm, 579, rfl⟩
abbrev main_v481 : Ref sig .tc := ⟨.hbm, 580, rfl⟩
abbrev main_v482 : Ref sig .tc := ⟨.hbm, 581, rfl⟩
abbrev main_v483 : Ref sig .tc := ⟨.hbm, 582, rfl⟩
abbrev main_v484 : Ref sig .tc := ⟨.hbm, 583, rfl⟩
abbrev main_cst_95 : Ref sig .tc := ⟨.hbm, 584, rfl⟩
abbrev main_v485 : Ref sig .tc := ⟨.hbm, 585, rfl⟩
abbrev main_v486 : Ref sig .tc := ⟨.hbm, 586, rfl⟩
abbrev main_cst_96 : Ref sig .tc := ⟨.hbm, 587, rfl⟩
abbrev main_v487 : Ref sig .tc := ⟨.hbm, 588, rfl⟩
abbrev main_v488 : Ref sig .tc := ⟨.hbm, 589, rfl⟩
abbrev main_cst_97 : Ref sig .tc := ⟨.hbm, 590, rfl⟩
abbrev main_v489 : Ref sig .tc := ⟨.hbm, 591, rfl⟩
abbrev main_v490 : Ref sig .tc := ⟨.hbm, 592, rfl⟩
abbrev main_v491 : Ref sig .tc := ⟨.hbm, 593, rfl⟩
abbrev main_cst_98 : Ref sig .tc := ⟨.hbm, 594, rfl⟩
abbrev main_v492 : Ref sig .tc := ⟨.hbm, 595, rfl⟩
abbrev main_v493 : Ref sig .tc := ⟨.hbm, 596, rfl⟩
abbrev main_v494 : Ref sig .tc := ⟨.hbm, 597, rfl⟩
abbrev main_v495 : Ref sig .tc := ⟨.hbm, 598, rfl⟩
abbrev main_cst_99 : Ref sig .tc := ⟨.hbm, 599, rfl⟩
abbrev main_v496 : Ref sig .tc := ⟨.hbm, 600, rfl⟩
abbrev main_v497 : Ref sig .tc := ⟨.hbm, 601, rfl⟩
abbrev main_cst_100 : Ref sig .tc := ⟨.hbm, 602, rfl⟩
abbrev main_v498 : Ref sig .tc := ⟨.hbm, 603, rfl⟩
abbrev main_v499 : Ref sig .tc := ⟨.hbm, 604, rfl⟩
abbrev main_cst_101 : Ref sig .tc := ⟨.hbm, 605, rfl⟩
abbrev main_v500 : Ref sig .tc := ⟨.hbm, 606, rfl⟩
abbrev main_v501 : Ref sig .tc := ⟨.hbm, 607, rfl⟩
abbrev main_v502 : Ref sig .tc := ⟨.hbm, 608, rfl⟩
abbrev main_cst_102 : Ref sig .tc := ⟨.hbm, 609, rfl⟩
abbrev main_v503 : Ref sig .tc := ⟨.hbm, 610, rfl⟩
abbrev main_v504 : Ref sig .tc := ⟨.hbm, 611, rfl⟩
abbrev main_v505 : Ref sig .tc := ⟨.hbm, 612, rfl⟩
abbrev main_v506 : Ref sig .tc := ⟨.hbm, 613, rfl⟩
abbrev main_cst_103 : Ref sig .tc := ⟨.hbm, 614, rfl⟩
abbrev main_v507 : Ref sig .tc := ⟨.hbm, 615, rfl⟩
abbrev main_v508 : Ref sig .tc := ⟨.hbm, 616, rfl⟩
abbrev main_cst_104 : Ref sig .tc := ⟨.hbm, 617, rfl⟩
abbrev main_v509 : Ref sig .tc := ⟨.hbm, 618, rfl⟩
abbrev main_v510 : Ref sig .tc := ⟨.hbm, 619, rfl⟩
abbrev main_cst_105 : Ref sig .tc := ⟨.hbm, 620, rfl⟩
abbrev main_v511 : Ref sig .tc := ⟨.hbm, 621, rfl⟩
abbrev main_v512 : Ref sig .tc := ⟨.hbm, 622, rfl⟩
abbrev main_v513 : Ref sig .tc := ⟨.hbm, 623, rfl⟩
abbrev main_cst_106 : Ref sig .tc := ⟨.hbm, 624, rfl⟩
abbrev main_v514 : Ref sig .tc := ⟨.hbm, 625, rfl⟩
abbrev main_v515 : Ref sig .tc := ⟨.hbm, 626, rfl⟩
abbrev main_v516 : Ref sig .tc := ⟨.hbm, 627, rfl⟩
abbrev main_v517 : Ref sig .tc := ⟨.hbm, 628, rfl⟩
abbrev main_cst_107 : Ref sig .tc := ⟨.hbm, 629, rfl⟩
abbrev main_v518 : Ref sig .tc := ⟨.hbm, 630, rfl⟩
abbrev main_v519 : Ref sig .tc := ⟨.hbm, 631, rfl⟩
abbrev main_cst_108 : Ref sig .tc := ⟨.hbm, 632, rfl⟩
abbrev main_v520 : Ref sig .tc := ⟨.hbm, 633, rfl⟩
abbrev main_v521 : Ref sig .tc := ⟨.hbm, 634, rfl⟩
abbrev main_cst_109 : Ref sig .tc := ⟨.hbm, 635, rfl⟩
abbrev main_v522 : Ref sig .tc := ⟨.hbm, 636, rfl⟩
abbrev main_v523 : Ref sig .tc := ⟨.hbm, 637, rfl⟩
abbrev main_v524 : Ref sig .tc := ⟨.hbm, 638, rfl⟩
abbrev main_cst_110 : Ref sig .tc := ⟨.hbm, 639, rfl⟩
abbrev main_v525 : Ref sig .tc := ⟨.hbm, 640, rfl⟩
abbrev main_v526 : Ref sig .tc := ⟨.hbm, 641, rfl⟩
abbrev main_v527 : Ref sig .tc := ⟨.hbm, 642, rfl⟩
abbrev main_v528 : Ref sig .tc := ⟨.hbm, 643, rfl⟩
abbrev main_cst_111 : Ref sig .tc := ⟨.hbm, 644, rfl⟩
abbrev main_v529 : Ref sig .tc := ⟨.hbm, 645, rfl⟩
abbrev main_v530 : Ref sig .tc := ⟨.hbm, 646, rfl⟩
abbrev main_cst_112 : Ref sig .tc := ⟨.hbm, 647, rfl⟩
abbrev main_v531 : Ref sig .tc := ⟨.hbm, 648, rfl⟩
abbrev main_v532 : Ref sig .tc := ⟨.hbm, 649, rfl⟩
abbrev main_cst_113 : Ref sig .tc := ⟨.hbm, 650, rfl⟩
abbrev main_v533 : Ref sig .tc := ⟨.hbm, 651, rfl⟩
abbrev main_v534 : Ref sig .tc := ⟨.hbm, 652, rfl⟩
abbrev main_v535 : Ref sig .tc := ⟨.hbm, 653, rfl⟩
abbrev main_cst_114 : Ref sig .tc := ⟨.hbm, 654, rfl⟩
abbrev main_v536 : Ref sig .tc := ⟨.hbm, 655, rfl⟩
abbrev main_v537 : Ref sig .tc := ⟨.hbm, 656, rfl⟩
abbrev main_v538 : Ref sig .tc := ⟨.hbm, 657, rfl⟩
abbrev main_v539 : Ref sig .tc := ⟨.hbm, 658, rfl⟩
abbrev main_cst_115 : Ref sig .tc := ⟨.hbm, 659, rfl⟩
abbrev main_v540 : Ref sig .tc := ⟨.hbm, 660, rfl⟩
abbrev main_v541 : Ref sig .tc := ⟨.hbm, 661, rfl⟩
abbrev main_cst_116 : Ref sig .tc := ⟨.hbm, 662, rfl⟩
abbrev main_v542 : Ref sig .tc := ⟨.hbm, 663, rfl⟩
abbrev main_v543 : Ref sig .tc := ⟨.hbm, 664, rfl⟩
abbrev main_cst_117 : Ref sig .tc := ⟨.hbm, 665, rfl⟩
abbrev main_v544 : Ref sig .tc := ⟨.hbm, 666, rfl⟩
abbrev main_v545 : Ref sig .tc := ⟨.hbm, 667, rfl⟩
abbrev main_v546 : Ref sig .tc := ⟨.hbm, 668, rfl⟩
abbrev main_cst_118 : Ref sig .tc := ⟨.hbm, 669, rfl⟩
abbrev main_v547 : Ref sig .tc := ⟨.hbm, 670, rfl⟩
abbrev main_v548 : Ref sig .tc := ⟨.hbm, 671, rfl⟩
abbrev main_v549 : Ref sig .tc := ⟨.hbm, 672, rfl⟩
abbrev main_v550 : Ref sig .tc := ⟨.hbm, 673, rfl⟩
abbrev main_cst_119 : Ref sig .tc := ⟨.hbm, 674, rfl⟩
abbrev main_v551 : Ref sig .tc := ⟨.hbm, 675, rfl⟩
abbrev main_v552 : Ref sig .tc := ⟨.hbm, 676, rfl⟩
abbrev main_cst_120 : Ref sig .tc := ⟨.hbm, 677, rfl⟩
abbrev main_v553 : Ref sig .tc := ⟨.hbm, 678, rfl⟩
abbrev main_v554 : Ref sig .tc := ⟨.hbm, 679, rfl⟩
abbrev main_cst_121 : Ref sig .tc := ⟨.hbm, 680, rfl⟩
abbrev main_v555 : Ref sig .tc := ⟨.hbm, 681, rfl⟩
abbrev main_v556 : Ref sig .tc := ⟨.hbm, 682, rfl⟩
abbrev main_v557 : Ref sig .tc := ⟨.hbm, 683, rfl⟩
abbrev main_cst_122 : Ref sig .tc := ⟨.hbm, 684, rfl⟩
abbrev main_v558 : Ref sig .tc := ⟨.hbm, 685, rfl⟩
abbrev main_v559 : Ref sig .tc := ⟨.hbm, 686, rfl⟩
abbrev main_v560 : Ref sig .tc := ⟨.hbm, 687, rfl⟩
abbrev main_v561 : Ref sig .tc := ⟨.hbm, 688, rfl⟩
abbrev main_cst_123 : Ref sig .tc := ⟨.hbm, 689, rfl⟩
abbrev main_v562 : Ref sig .tc := ⟨.hbm, 690, rfl⟩
abbrev main_v563 : Ref sig .tc := ⟨.hbm, 691, rfl⟩
abbrev main_cst_124 : Ref sig .tc := ⟨.hbm, 692, rfl⟩
abbrev main_v564 : Ref sig .tc := ⟨.hbm, 693, rfl⟩
abbrev main_v565 : Ref sig .tc := ⟨.hbm, 694, rfl⟩
abbrev main_cst_125 : Ref sig .tc := ⟨.hbm, 695, rfl⟩
abbrev main_v566 : Ref sig .tc := ⟨.hbm, 696, rfl⟩
abbrev main_v567 : Ref sig .tc := ⟨.hbm, 697, rfl⟩
abbrev main_cst_126 : Ref sig .tc := ⟨.hbm, 698, rfl⟩
abbrev main_v568 : Ref sig .tc := ⟨.hbm, 699, rfl⟩
abbrev main_v569 : Ref sig .tc := ⟨.hbm, 700, rfl⟩
abbrev main_cst_127 : Ref sig .tc := ⟨.hbm, 701, rfl⟩
abbrev main_v570 : Ref sig .tc := ⟨.hbm, 702, rfl⟩
abbrev main_v571 : Ref sig .tc := ⟨.hbm, 703, rfl⟩
abbrev main_cst_128 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_cst_129 : Ref sig .tc := ⟨.hbm, 709, rfl⟩
abbrev main_v576 : Ref sig .tc := ⟨.hbm, 710, rfl⟩
abbrev main_v577 : Ref sig .tc := ⟨.hbm, 711, rfl⟩
abbrev main_cst_130 : Ref sig .tc := ⟨.hbm, 712, rfl⟩
abbrev main_v578 : Ref sig .tc := ⟨.hbm, 713, rfl⟩
abbrev main_v579 : Ref sig .tc := ⟨.hbm, 714, rfl⟩
abbrev main_cst_131 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_v588 : Ref sig .tc := ⟨.hbm, 724, rfl⟩
abbrev main_v589 : Ref sig .tc := ⟨.hbm, 725, rfl⟩
abbrev main_v590 : Ref sig .tc := ⟨.hbm, 726, rfl⟩
abbrev main_v591 : Ref sig .tc := ⟨.hbm, 727, rfl⟩

abbrev nD : Nat := 1
abbrev τ : Topo := Topo.v7x

variable {F : FTy → Type} [FloatOps F]
-- ==== Kernel2.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x8192 : Shape := ⟨2, ![4096, 8192]⟩
abbrev S2048x8192 : Shape := ⟨2, ![2048, 8192]⟩
abbrev S4096x2048 : Shape := ⟨2, ![4096, 2048]⟩
abbrev S256x8192 : Shape := ⟨2, ![256, 8192]⟩
abbrev S1024x8192 : Shape := ⟨2, ![1024, 8192]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S256x8192, .bf16⟩
  | .local _ .vmem, ⟨1, _⟩ => ⟨S256x8192, .bf16⟩
  | .local _ .vmem, ⟨2, _⟩ => ⟨S1024x8192, .bf16⟩
  | .local _ .vmem, ⟨3, _⟩ => ⟨S1024x8192, .bf16⟩
  | .local _ .vmem, ⟨4, _⟩ => ⟨S256x1024, .f32⟩
  | .local _ .vmem, ⟨5, _⟩ => ⟨S256x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2048 : Shape := ⟨2, ![4096, 2048]⟩
abbrev S4096x8192 : Shape := ⟨2, ![4096, 8192]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | .hbm, ⟨10, _⟩ => ⟨S2048x8x1024, .bf16⟩
  | .hbm, ⟨11, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S4096x5120 : Shape := ⟨2, ![4096, 5120]⟩
abbrev S8x2048x640 : Shape := ⟨3, ![8, 2048, 640]⟩
abbrev S4096x512 : Shape := ⟨2, ![4096, 512]⟩
abbrev S4096x1280 : Shape := ⟨2, ![4096, 1280]⟩
abbrev S2x512x640 : Shape := ⟨3, ![2, 512, 640]⟩
abbrev S512x1280 : Shape := ⟨2, ![512, 1280]⟩
abbrev S512x640 : Shape := ⟨2, ![512, 640]⟩
abbrev S1x512x640 : Shape := ⟨3, ![1, 512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S8x2048x640, .bf16⟩
  | .local _ .vmem, ⟨0, _⟩ => ⟨S4096x512, .bf16⟩
  | .local _ .vmem, ⟨1, _⟩ => ⟨S4096x512, .bf16⟩
  | .local _ .vmem, ⟨2, _⟩ => ⟨S4096x1280, .bf16⟩
  | .local _ .vmem, ⟨3, _⟩ => ⟨S4096x1280, .bf16⟩
  | .local _ .vmem, ⟨4, _⟩ => ⟨S2x512x640, .bf16⟩
  | .local _ .vmem, ⟨5, _⟩ => ⟨S2x512x640, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩
abbrev S2048x8x640 : Shape := ⟨3, ![2048, 8, 640]⟩
abbrev S8x2048x640 : Shape := ⟨3, ![8, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S_, .f32⟩
  | .hbm, ⟨3, _⟩ => ⟨S2048x5120, .f32⟩
  | .hbm, ⟨4, _⟩ => ⟨S4096x2048, .f32⟩
  | .hbm, ⟨5, _⟩ => ⟨S4096x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | .hbm, ⟨10, _⟩ => ⟨S2048x8x640, .bf16⟩
  | .hbm, ⟨11, _⟩ => ⟨S8x2048x640, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S4096x5120 : Shape := ⟨2, ![4096, 5120]⟩
abbrev S2048x5120 : Shape := ⟨2, ![2048, 5120]⟩
abbrev S4096x2048 : Shape := ⟨2, ![4096, 2048]⟩
abbrev S512x5120 : Shape := ⟨2, ![512, 5120]⟩
abbrev S1024x5120 : Shape := ⟨2, ![1024, 5120]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .f32⟩
  | .local _ .vmem, ⟨0, _⟩ => ⟨S512x5120, .bf16⟩
  | .local _ .vmem, ⟨1, _⟩ => ⟨S512x5120, .bf16⟩
  | .local _ .vmem, ⟨2, _⟩ => ⟨S1024x5120, .bf16⟩
  | .local _ .vmem, ⟨3, _⟩ => ⟨S1024x5120, .bf16⟩
  | .local _ .vmem, ⟨4, _⟩ => ⟨S512x1024, .f32⟩
  | .local _ .vmem, ⟨5, _⟩ => ⟨S512x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x5120 : Shape := ⟨2, ![4096, 5120]⟩
abbrev S2048x5120 : Shape := ⟨2, ![2048, 5120]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S_, .f32⟩
  | .hbm, ⟨3, _⟩ => ⟨S4096x2048, .f32⟩
  | .hbm, ⟨4, _⟩ => ⟨S2048x5120, .f32⟩
  | .hbm, ⟨5, _⟩ => ⟨S4096x5120, .f32⟩
  | .hbm, ⟨6, _⟩ => ⟨S4096x5120, .f32⟩
  | .hbm, ⟨7, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x5120 : Shape := ⟨2, ![2048, 5120]⟩
abbrev S4096x5120 : Shape := ⟨2, ![4096, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5120, .bf16⟩
  | .hbm, ⟨2, _⟩ => ⟨S4096x2048, .f32⟩
  | .hbm, ⟨3, _⟩ => ⟨S2048x5120, .f32⟩
  | .hbm, ⟨4, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S4096x8192 : Shape := ⟨2, ![4096, 8192]⟩
abbrev S8192x2048 : Shape := ⟨2, ![8192, 2048]⟩
abbrev S4096x2048 : Shape := ⟨2, ![4096, 2048]⟩
abbrev S256x8192 : Shape := ⟨2, ![256, 8192]⟩
abbrev S8192x1024 : Shape := ⟨2, ![8192, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S256x8192, .bf16⟩
  | .local _ .vmem, ⟨1, _⟩ => ⟨S256x8192, .bf16⟩
  | .local _ .vmem, ⟨2, _⟩ => ⟨S8192x1024, .bf16⟩
  | .local _ .vmem, ⟨3, _⟩ => ⟨S8192x1024, .bf16⟩
  | .local _ .vmem, ⟨4, _⟩ => ⟨S256x1024, .f32⟩
  | .local _ .vmem, ⟨5, _⟩ => ⟨S256x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S8192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4x2048x640 : Shape := ⟨3, ![4, 2048, 640]⟩
abbrev S4x256x640 : Shape := ⟨3, ![4, 256, 640]⟩
abbrev S1x256x640 : Shape := ⟨3, ![1, 256, 640]⟩
abbrev S256x640 : Shape := ⟨2, ![256, 640]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x640, .bf16⟩
  | .hbm, ⟨1, _⟩ => ⟨S4x2048x640, .f32⟩
  | .hbm, ⟨2, _⟩ => ⟨S4x2048x640, .f32⟩
  | .hbm, ⟨3, _⟩ => ⟨S4x2048x640, .f32⟩
  | .hbm, ⟨4, _⟩ => ⟨S4x2048x640, .f32⟩
  | .hbm, ⟨5, _⟩ => ⟨S4x2048x640, .f32⟩
  | .hbm, ⟨6, _⟩ => ⟨S4x2048x640, .f32⟩
  | .hbm, ⟨7, _⟩ => ⟨S4x2048x640, .f32⟩
  | .hbm, ⟨8, _⟩ => ⟨S4x2048x640, .f32⟩
  | .hbm, ⟨9, _⟩ => ⟨S4x2048x640, .f32⟩
  | .hbm, ⟨10, _⟩ => ⟨S4x2048x640, .f32⟩
  | .hbm, ⟨11, _⟩ => ⟨S4x2048x640, .f32⟩
  | .local _ .vmem, ⟨0, _⟩ => ⟨S4x256x640, .bf16⟩
  | .local _ .vmem, ⟨1, _⟩ => ⟨S4x256x640, .bf16⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | _, _ => ⟨S4x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
abbrev S4x2048x640 : Shape := ⟨3, ![4, 2048, 640]⟩
abbrev S4x256x640 : Shape := ⟨3, ![4, 256, 640]⟩
abbrev S1x256x640 : Shape := ⟨3, ![1, 256, 640]⟩
abbrev S256x640 : Shape := ⟨2, ![256, 640]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x640, .bf16⟩
  | .hbm, ⟨1, _⟩ => ⟨S4x2048x640, .f32⟩
  | .hbm, ⟨2, _⟩ => ⟨S4x2048x640, .f32⟩
  | .hbm, ⟨3, _⟩ => ⟨S4x2048x640, .f32⟩
  | .hbm, ⟨4, _⟩ => ⟨S4x2048x640, .f32⟩
  | .hbm, ⟨5, _⟩ => ⟨S4x2048x640, .f32⟩
  | .hbm, ⟨6, _⟩ => ⟨S4x2048x640, .f32⟩
  | .hbm, ⟨7, _⟩ => ⟨S4x2048x640, .f32⟩
  | .hbm, ⟨8, _⟩ => ⟨S4x2048x640, .f32⟩
  | .hbm, ⟨9, _⟩ => ⟨S4x2048x640, .f32⟩
  | .hbm, ⟨10, _⟩ => ⟨S4x2048x640, .f32⟩
  | .hbm, ⟨11, _⟩ => ⟨S4x2048x640, .f32⟩
  | .local _ .vmem, ⟨0, _⟩ => ⟨S4x256x640, .bf16⟩
  | .local _ .vmem, ⟨1, _⟩ => ⟨S4x256x640, .bf16⟩
  | .local _ .vmem, ⟨2, _⟩ => ⟨S1x256x640, .f32⟩
  | .local _ .vmem, ⟨3, _⟩ => ⟨S1x256x640, .f32⟩
  | .local _ .vmem, ⟨4, _⟩ => ⟨S1x256x640, .f32⟩
  | .local _ .vmem, ⟨5, _⟩ => ⟨S1x256x640, .f32⟩
  | .local _ .vmem, ⟨6, _⟩ => ⟨S1x256x640, .f32⟩
  | .local _ .vmem, ⟨7, _⟩ => ⟨S1x256x640, .f32⟩
  | .local _ .vmem, ⟨8, _⟩ => ⟨S1x256x640, .f32⟩
  | .local _ .vmem, ⟨9, _⟩ => ⟨S1x256x640, .f32⟩
  | .local _ .vmem, ⟨10, _⟩ => ⟨S1x256x640, .f32⟩
  | .local _ .vmem, ⟨11, _⟩ => ⟨S1x256x640, .f32⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | _, _ => ⟨S4x2048x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S4x2048x640 : Shape := ⟨3, ![4, 2048, 640]⟩
abbrev S_ : Shape := ⟨0, ![]⟩
abbrev S2048x640 : Shape := ⟨2, ![2048, 640]⟩
abbrev S1x2048x640 : Shape := ⟨3, ![1, 2048, 640]⟩
abbrev S3x2048x640 : Shape := ⟨3, ![3, 2048, 640]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x640, .bf16⟩
  | .hbm, ⟨1, _⟩ => ⟨S4x2048x640, .f32⟩
  | .hbm, ⟨2, _⟩ => ⟨S4x2048x640, .f32⟩
  | .hbm, ⟨3, _⟩ => ⟨S4x2048x640, .f32⟩
  | .hbm, ⟨4, _⟩ => ⟨S4x2048x640, .f32⟩
  | .hbm, ⟨5, _⟩ => ⟨S4x2048x640, .f32⟩
  | .hbm, ⟨6, _⟩ => ⟨S4x2048x640, .f32⟩
  | .hbm, ⟨7, _⟩ => ⟨S4x2048x640, .f32⟩
  | .hbm, ⟨8, _⟩ => ⟨S4x2048x640, .f32⟩
  | .hbm, ⟨9, _⟩ => ⟨S_, .f32⟩
  | .hbm, ⟨10, _⟩ => ⟨S2048x640, .f32⟩
  | .hbm, ⟨11, _⟩ => ⟨S1x2048x640, .f32⟩
  | .hbm, ⟨12, _⟩ => ⟨S2048x640, .f32⟩
  | .hbm, ⟨13, _⟩ => ⟨S1x2048x640, .f32⟩
  | .hbm, ⟨14, _⟩ => ⟨S2048x640, .f32⟩
  | .hbm, ⟨15, _⟩ => ⟨S1x2048x640, .f32⟩
  | .hbm, ⟨16, _⟩ => ⟨S2048x640, .f32⟩
  | .hbm, ⟨17, _⟩ => ⟨S_, .f32⟩
  | .hbm, ⟨18, _⟩ => ⟨S2048x640, .f32⟩
  | .hbm, ⟨19, _⟩ => ⟨S2048x640, .f32⟩
  | .hbm, ⟨20, _⟩ => ⟨S_, .f32⟩
  | .hbm, ⟨21, _⟩ => ⟨S2048x640, .f32⟩
  | .hbm, ⟨22, _⟩ => ⟨S2048x640, .f32⟩
  | .hbm, ⟨23, _⟩ => ⟨S2048x640, .f32⟩
  | .hbm, ⟨24, _⟩ => ⟨S_, .f32⟩
  | .hbm, ⟨25, _⟩ => ⟨S2048x640, .f32⟩
  | .hbm, ⟨26, _⟩ => ⟨S2048x640, .f32⟩
  | .hbm, ⟨27, _⟩ => ⟨S2048x640, .f32⟩
  | .hbm, ⟨28, _⟩ => ⟨S_, .f32⟩
  | .hbm, ⟨29, _⟩ => ⟨S2048x640, .f32⟩
  | .hbm, ⟨30, _⟩ => ⟨S2048x640, .f32⟩
  | .hbm, ⟨31, _⟩ => ⟨S2048x640, .f32⟩
  | .hbm, ⟨32, _⟩ => ⟨S_, .f32⟩
  | .hbm, ⟨33, _⟩ => ⟨S2048x640, .f32⟩
  | .hbm, ⟨34, _⟩ => ⟨S2048x640, .f32⟩
  | .hbm, ⟨35, _⟩ => ⟨S_, .f32⟩
  | .hbm, ⟨36, _⟩ => ⟨S2048x640, .f32⟩
  | .hbm, ⟨37, _⟩ => ⟨S2048x640, .f32⟩
  | .hbm, ⟨38, _⟩ => ⟨S2048x640, .f32⟩
  | .hbm, ⟨39, _⟩ => ⟨S_, .f32⟩
  | .hbm, ⟨40, _⟩ => ⟨S2048x640, .f32⟩
  | .hbm, ⟨41, _⟩ => ⟨S2048x640, .f32⟩
  | .hbm, ⟨42, _⟩ => ⟨S2048x640, .f32⟩
  | .hbm, ⟨43, _⟩ => ⟨S_, .f32⟩
  | .hbm, ⟨44, _⟩ => ⟨S2048x640, .f32⟩
  | .hbm, ⟨45, _⟩ => ⟨S2048x640, .f32⟩
  | .hbm, ⟨46, _⟩ => ⟨S2048x640, .f32⟩
  | .hbm, ⟨47, _⟩ => ⟨S_, .f32⟩
  | .hbm, ⟨48, _⟩ => ⟨S2048x640, .f32⟩
  | .hbm, ⟨49, _⟩ => ⟨S2048x640, .f32⟩
  | .hbm, ⟨50, _⟩ => ⟨S1x2048x640, .f32⟩
  | .hbm, ⟨51, _⟩ => ⟨S3x2048x640, .f32⟩
  | .hbm, ⟨52, _⟩ => ⟨S4x2048x640, .f32⟩
  | .hbm, ⟨53, _⟩ => ⟨S1x2048x640, .f32⟩
  | .hbm, ⟨54, _⟩ => ⟨S3x2048x640, .f32⟩
  | .hbm, ⟨55, _⟩ => ⟨S4x2048x640, .f32⟩
  | .hbm, ⟨56, _⟩ => ⟨S1x2048x640, .f32⟩
  | .hbm, ⟨57, _⟩ => ⟨S3x2048x640, .f32⟩
  | .hbm, ⟨58, _⟩ => ⟨S4x2048x640, .f32⟩
  | .hbm, ⟨59, _⟩ => ⟨S1x2048x640, .f32⟩
  | .hbm, ⟨60, _⟩ => ⟨S3x2048x640, .f32⟩
  | .hbm, ⟨61, _⟩ => ⟨S4x2048x640, .f32⟩
  | _, _ => ⟨S4x2048x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel15.lean ====
abbrev S4x256x2048 : Shape := ⟨3, ![4, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel15Ideal.lean ====
abbrev S4x256x2048 : Shape := ⟨3, ![4, 256, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4x256x2048 : Shape := ⟨3, ![4, 256, 2048]⟩
abbrev S_ : Shape := ⟨0, ![]⟩
abbrev S256x2048 : Shape := ⟨2, ![256, 2048]⟩
abbrev S1x256x2048 : Shape := ⟨3, ![1, 256, 2048]⟩
abbrev S3x256x2048 : Shape := ⟨3, ![3, 256, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S3x256x2048, .f32⟩
  | .hbm, ⟨52, _⟩ => ⟨S4x256x2048, .f32⟩
  | .hbm, ⟨53, _⟩ => ⟨S1x256x2048, .f32⟩
  | .hbm, ⟨54, _⟩ => ⟨S3x256x2048, .f32⟩
  | .hbm, ⟨55, _⟩ => ⟨S4x256x2048, .f32⟩
  | .hbm, ⟨56, _⟩ => ⟨S1x256x2048, .f32⟩
  | .hbm, ⟨57, _⟩ => ⟨S3x256x2048, .f32⟩
  | .hbm, ⟨58, _⟩ => ⟨S4x256x2048, .f32⟩
  | .hbm, ⟨59, _⟩ => ⟨S1x256x2048, .f32⟩
  | .hbm, ⟨60, _⟩ => ⟨S3x256x2048, .f32⟩
  | .hbm, ⟨61, _⟩ => ⟨S4x256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel16.lean ====
abbrev S4x2048x1024 : Shape := ⟨3, ![4, 2048, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel16Ideal.lean ====
abbrev S4x2048x1024 : Shape := ⟨3, ![4, 2048, 1024]⟩
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S4x2048x1024 : Shape := ⟨3, ![4, 2048, 1024]⟩
abbrev S_ : Shape := ⟨0, ![]⟩
abbrev S2048x1024 : Shape := ⟨2, ![2048, 1024]⟩
abbrev S1x2048x1024 : Shape := ⟨3, ![1, 2048, 1024]⟩
abbrev S3x2048x1024 : Shape := ⟨3, ![3, 2048, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S2048x1024, .f32⟩
  | .hbm, ⟨11, _⟩ => ⟨S1x2048x1024, .f32⟩
  | .hbm, ⟨12, _⟩ => ⟨S2048x1024, .f32⟩
  | .hbm, ⟨13, _⟩ => ⟨S1x2048x1024, .f32⟩
  | .hbm, ⟨14, _⟩ => ⟨S2048x1024, .f32⟩
  | .hbm, ⟨15, _⟩ => ⟨S1x2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S1x2048x1024, .f32⟩
  | .hbm, ⟨51, _⟩ => ⟨S3x2048x1024, .f32⟩
  | .hbm, ⟨52, _⟩ => ⟨S4x2048x1024, .f32⟩
  | .hbm, ⟨53, _⟩ => ⟨S1x2048x1024, .f32⟩
  | .hbm, ⟨54, _⟩ => ⟨S3x2048x1024, .f32⟩
  | .hbm, ⟨55, _⟩ => ⟨S4x2048x1024, .f32⟩
  | .hbm, ⟨56, _⟩ => ⟨S1x2048x1024, .f32⟩
  | .hbm, ⟨57, _⟩ => ⟨S3x2048x1024, .f32⟩
  | .hbm, ⟨58, _⟩ => ⟨S4x2048x1024, .f32⟩
  | .hbm, ⟨59, _⟩ => ⟨S1x2048x1024, .f32⟩
  | .hbm, ⟨60, _⟩ => ⟨S3x2048x1024, .f32⟩
  | .hbm, ⟨61, _⟩ => ⟨S4x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel17.lean ====
abbrev S4x1024x2048 : Shape := ⟨3, ![4, 1024, 2048]⟩
abbrev S4x128x2048 : Shape := ⟨3, ![4, 128, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S4x1024x2048 : Shape := ⟨3, ![4, 1024, 2048]⟩
abbrev S_ : Shape := ⟨0, ![]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x1024x2048, .f32⟩
  | .hbm, ⟨9, _⟩ => ⟨S_, .f32⟩
  | .hbm, ⟨10, _⟩ => ⟨S1024x2048, .f32⟩
  | .hbm, ⟨11, _⟩ => ⟨S1x1024x2048, .f32⟩
  | .hbm, ⟨12, _⟩ => ⟨S1024x2048, .f32⟩
  | .hbm, ⟨13, _⟩ => ⟨S1x1024x2048, .f32⟩
  | .hbm, ⟨14, _⟩ => ⟨S1024x2048, .f32⟩
  | .hbm, ⟨15, _⟩ => ⟨S1x1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S_, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S_, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S_, .f32⟩
  | .hbm, ⟨48, _⟩ => ⟨S1024x2048, .f32⟩
  | .hbm, ⟨49, _⟩ => ⟨S1024x2048, .f32⟩
  | .hbm, ⟨50, _⟩ => ⟨S1x1024x2048, .f32⟩
  | .hbm, ⟨51, _⟩ => ⟨S3x1024x2048, .f32⟩
  | .hbm, ⟨52, _⟩ => ⟨S4x1024x2048, .f32⟩
  | .hbm, ⟨53, _⟩ => ⟨S1x1024x2048, .f32⟩
  | .hbm, ⟨54, _⟩ => ⟨S3x1024x2048, .f32⟩
  | .hbm, ⟨55, _⟩ => ⟨S4x1024x2048, .f32⟩
  | .hbm, ⟨56, _⟩ => ⟨S1x1024x2048, .f32⟩
  | .hbm, ⟨57, _⟩ => ⟨S3x1024x2048, .f32⟩
  | .hbm, ⟨58, _⟩ => ⟨S4x1024x2048, .f32⟩
  | .hbm, ⟨59, _⟩ => ⟨S1x1024x2048, .f32⟩
  | .hbm, ⟨60, _⟩ => ⟨S3x1024x2048, .f32⟩
  | .hbm, ⟨61, _⟩ => ⟨S4x1024x2048, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel18.lean ====
abbrev S4x31x128 : Shape := ⟨3, ![4, 31, 128]⟩
abbrev S15872 : Shape := ⟨1, ![15872]⟩
abbrev S_ : Shape := ⟨0, ![]⟩
abbrev S16384 : Shape := ⟨1, ![16384]⟩
abbrev S128x128 : Shape := ⟨2, ![128, 128]⟩

abbrev nBuf : Space → Nat
  | .hbm => 27
  | .vmem => 7
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S15872, .f32⟩
  | .hbm, ⟨5, _⟩ => ⟨S_, .i32⟩
  | .hbm, ⟨6, _⟩ => ⟨S_, .f32⟩
  | .hbm, ⟨7, _⟩ => ⟨S16384, .f32⟩
  | .hbm, ⟨8, _⟩ => ⟨S128x128, .f32⟩
  | .hbm, ⟨9, _⟩ => ⟨S15872, .f32⟩
  | .hbm, ⟨10, _⟩ => ⟨S_, .i32⟩
  | .hbm, ⟨11, _⟩ => ⟨S_, .f32⟩
  | .hbm, ⟨12, _⟩ => ⟨S16384, .f32⟩
  | .hbm, ⟨13, _⟩ => ⟨S128x128, .f32⟩
  | .hbm, ⟨14, _⟩ => ⟨S15872, .f32⟩
  | .hbm, ⟨15, _⟩ => ⟨S_, .i32⟩
  | .hbm, ⟨16, _⟩ => ⟨S_, .f32⟩
  | .hbm, ⟨17, _⟩ => ⟨S16384, .f32⟩
  | .hbm, ⟨18, _⟩ => ⟨S128x128, .f32⟩
  | .hbm, ⟨19, _⟩ => ⟨S15872, .f32⟩
  | .hbm, ⟨20, _⟩ => ⟨S_, .i32⟩
  | .hbm, ⟨21, _⟩ => ⟨S_, .f32⟩
  | .hbm, ⟨22, _⟩ => ⟨S16384, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S4x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S4x31x128 : Shape := ⟨3, ![4, 31, 128]⟩
abbrev S_ : Shape := ⟨0, ![]⟩
abbrev S15872 : Shape := ⟨1, ![15872]⟩
abbrev S512 : Shape := ⟨1, ![512]⟩
abbrev S16384 : Shape := ⟨1, ![16384]⟩
abbrev S128x128 : Shape := ⟨2, ![128, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x31x128, .f32⟩
  | .hbm, ⟨1, _⟩ => ⟨S4x31x128, .f32⟩
  | .hbm, ⟨2, _⟩ => ⟨S4x31x128, .f32⟩
  | .hbm, ⟨3, _⟩ => ⟨S4x31x128, .f32⟩
  | .hbm, ⟨4, _⟩ => ⟨S_, .f32⟩
  | .hbm, ⟨5, _⟩ => ⟨S4x31x128, .f32⟩
  | .hbm, ⟨6, _⟩ => ⟨S4x31x128, .f32⟩
  | .hbm, ⟨7, _⟩ => ⟨S_, .f32⟩
  | .hbm, ⟨8, _⟩ => ⟨S4x31x128, .f32⟩
  | .hbm, ⟨9, _⟩ => ⟨S4x31x128, .f32⟩
  | .hbm, ⟨10, _⟩ => ⟨S4x31x128, .f32⟩
  | .hbm, ⟨11, _⟩ => ⟨S_, .f32⟩
  | .hbm, ⟨12, _⟩ => ⟨S4x31x128, .f32⟩
  | .hbm, ⟨13, _⟩ => ⟨S4x31x128, .f32⟩
  | .hbm, ⟨14, _⟩ => ⟨S4x31x128, .f32⟩
  | .hbm, ⟨15, _⟩ => ⟨S_, .f32⟩
  | .hbm, ⟨16, _⟩ => ⟨S4x31x128, .f32⟩
  | .hbm, ⟨17, _⟩ => ⟨S4x31x128, .f32⟩
  | .hbm, ⟨18, _⟩ => ⟨S4x31x128, .f32⟩
  | .hbm, ⟨19, _⟩ => ⟨S_, .f32⟩
  | .hbm, ⟨20, _⟩ => ⟨S4x31x128, .f32⟩
  | .hbm, ⟨21, _⟩ => ⟨S4x31x128, .f32⟩
  | .hbm, ⟨22, _⟩ => ⟨S_, .f32⟩
  | .hbm, ⟨23, _⟩ => ⟨S4x31x128, .f32⟩
  | .hbm, ⟨24, _⟩ => ⟨S4x31x128, .f32⟩
  | .hbm, ⟨25, _⟩ => ⟨S4x31x128, .f32⟩
  | .hbm, ⟨26, _⟩ => ⟨S_, .f32⟩
  | .hbm, ⟨27, _⟩ => ⟨S4x31x128, .f32⟩
  | .hbm, ⟨28, _⟩ => ⟨S4x31x128, .f32⟩
  | .hbm, ⟨29, _⟩ => ⟨S4x31x128, .f32⟩
  | .hbm, ⟨30, _⟩ => ⟨S_, .f32⟩
  | .hbm, ⟨31, _⟩ => ⟨S4x31x128, .f32⟩
  | .hbm, ⟨32, _⟩ => ⟨S4x31x128, .f32⟩
  | .hbm, ⟨33, _⟩ => ⟨S4x31x128, .f32⟩
  | .hbm, ⟨34, _⟩ => ⟨S_, .f32⟩
  | .hbm, ⟨35, _⟩ => ⟨S4x31x128, .f32⟩
  | .hbm, ⟨36, _⟩ => ⟨S4x31x128, .f32⟩
  | .hbm, ⟨37, _⟩ => ⟨S15872, .f32⟩
  | .hbm, ⟨38, _⟩ => ⟨S_, .f32⟩
  | .hbm, ⟨39, _⟩ => ⟨S512, .f32⟩
  | .hbm, ⟨40, _⟩ => ⟨S16384, .f32⟩
  | .hbm, ⟨41, _⟩ => ⟨S128x128, .f32⟩
  | .hbm, ⟨42, _⟩ => ⟨S15872, .f32⟩
  | .hbm, ⟨43, _⟩ => ⟨S_, .f32⟩
  | .hbm, ⟨44, _⟩ => ⟨S512, .f32⟩
  | .hbm, ⟨45, _⟩ => ⟨S16384, .f32⟩
  | .hbm, ⟨46, _⟩ => ⟨S128x128, .f32⟩
  | .hbm, ⟨47, _⟩ => ⟨S15872, .f32⟩
  | .hbm, ⟨48, _⟩ => ⟨S_, .f32⟩
  | .hbm, ⟨49, _⟩ => ⟨S512, .f32⟩
  | .hbm, ⟨50, _⟩ => ⟨S16384, .f32⟩
  | .hbm, ⟨51, _⟩ => ⟨S128x128, .f32⟩
  | _, _ => ⟨S4x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Kernel19.lean ====
abbrev S4x1024 : Shape := ⟨2, ![4, 1024]⟩
abbrev S4x16x15x31 : Shape := ⟨4, ![4, 16, 15, 31]⟩
abbrev S4x2048 : Shape := ⟨2, ![4, 2048]⟩
abbrev S4096 : Shape := ⟨1, ![4096]⟩
abbrev S29760 : Shape := ⟨1, ![29760]⟩
abbrev S8192 : Shape := ⟨1, ![8192]⟩
abbrev S74816 : Shape := ⟨1, ![74816]⟩
abbrev S_ : Shape := ⟨0, ![]⟩
abbrev S75776 : Shape := ⟨1, ![75776]⟩
abbrev S592x128 : Shape := ⟨2, ![592, 128]⟩
abbrev S296x128 : Shape := ⟨2, ![296, 128]⟩

abbrev nBuf : Space → Nat
  | .hbm => 87
  | .vmem => 14
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x16x15x31, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x16x15x31, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S4x2048, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x16x15x31, .f32⟩
  | .hbm, ⟨20, _⟩ => ⟨S4x2048, .f32⟩
  | .hbm, ⟨21, _⟩ => ⟨S4x2048, .f32⟩
  | .hbm, ⟨22, _⟩ => ⟨S4x2048, .f32⟩
  | .hbm, ⟨23, _⟩ => ⟨S4x2048, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S4x16x15x31, .f32⟩
  | .hbm, ⟨28, _⟩ => ⟨S4x2048, .f32⟩
  | .hbm, ⟨29, _⟩ => ⟨S4x2048, .f32⟩
  | .hbm, ⟨30, _⟩ => ⟨S4x2048, .f32⟩
  | .hbm, ⟨31, _⟩ => ⟨S4x2048, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S29760, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S74816, .f32⟩
  | .hbm, ⟨41, _⟩ => ⟨S_, .i32⟩
  | .hbm, ⟨42, _⟩ => ⟨S_, .f32⟩
  | .hbm, ⟨43, _⟩ => ⟨S75776, .f32⟩
  | .hbm, ⟨44, _⟩ => ⟨S592x128, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S29760, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S74816, .f32⟩
  | .hbm, ⟨54, _⟩ => ⟨S_, .i32⟩
  | .hbm, ⟨55, _⟩ => ⟨S_, .f32⟩
  | .hbm, ⟨56, _⟩ => ⟨S75776, .f32⟩
  | .hbm, ⟨57, _⟩ => ⟨S592x128, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S29760, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S8192, .f32⟩
  | .hbm, ⟨66, _⟩ => ⟨S74816, .f32⟩
  | .hbm, ⟨67, _⟩ => ⟨S_, .i32⟩
  | .hbm, ⟨68, _⟩ => ⟨S_, .f32⟩
  | .hbm, ⟨69, _⟩ => ⟨S75776, .f32⟩
  | .hbm, ⟨70, _⟩ => ⟨S592x128, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S29760, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S74816, .f32⟩
  | .hbm, ⟨80, _⟩ => ⟨S_, .i32⟩
  | .hbm, ⟨81, _⟩ => ⟨S_, .f32⟩
  | .hbm, ⟨82, _⟩ => ⟨S75776, .f32⟩
  | .hbm, ⟨83, _⟩ => ⟨S592x128, .f32⟩
  | .hbm, ⟨84, _⟩ => ⟨S592x128, .f32⟩
  | .hbm, ⟨85, _⟩ => ⟨S592x128, .f32⟩
  | .hbm, ⟨86, _⟩ => ⟨S592x128, .f32⟩
  | .local _ .vmem, ⟨0, _⟩ => ⟨S296x128, .f32⟩
  | .local _ .vmem, ⟨1, _⟩ => ⟨S296x128, .f32⟩
  | .local _ .vmem, ⟨2, _⟩ => ⟨S296x128, .f32⟩
  | .local _ .vmem, ⟨3, _⟩ => ⟨S296x128, .f32⟩
  | .local _ .vmem, ⟨4, _⟩ => ⟨S296x128, .f32⟩
  | .local _ .vmem, ⟨5, _⟩ => ⟨S296x128, .f32⟩
  | .local _ .vmem, ⟨6, _⟩ => ⟨S296x128, .f32⟩
  | .local _ .vmem, ⟨7, _⟩ => ⟨S296x128, .f32⟩
  | .local _ .vmem, ⟨8, _⟩ => ⟨S296x128, .f32⟩
  | .local _ .vmem, ⟨9, _⟩ => ⟨S296x128, .f32⟩
  | .local _ .vmem, ⟨10, _⟩ => ⟨S296x128, .f32⟩
  | .local _ .vmem, ⟨11, _⟩ => ⟨S296x128, .f32⟩
  | .local _ .vmem, ⟨12, _⟩ => ⟨S296x128, .f32⟩
  | .local _ .vmem, ⟨13, _⟩ => ⟨S296x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_c : Ref sig .tc := ⟨.hbm, 41, rfl⟩
abbrev main_call0_v0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_0 : Ref sig .tc := ⟨.hbm, 54, rfl⟩
abbrev main_call1_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_1 : Ref sig .tc := ⟨.hbm, 67, rfl⟩
abbrev main_call2_v0 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_2 : Ref sig .tc := ⟨.hbm, 80, rfl⟩
abbrev main_call3_v0 : Ref sig .tc := ⟨.hbm, 81, rfl⟩
abbrev main_v42 : Ref sig .tc := ⟨.hbm, 82, rfl⟩
abbrev main_v43 : Ref sig .tc := ⟨.hbm, 83, rfl⟩
abbrev main_v44_0 : Ref sig .tc := ⟨.hbm, 84, rfl⟩
abbrev main_v44_1 : Ref sig .tc := ⟨.hbm, 85, rfl⟩
abbrev main_v44_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S296x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S296x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S296x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S296x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S296x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S296x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S296x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x1024 : Shape := ⟨2, ![4, 1024]⟩
abbrev S4x16x15x31 : Shape := ⟨4, ![4, 16, 15, 31]⟩
abbrev S4x2048 : Shape := ⟨2, ![4, 2048]⟩
abbrev S_ : Shape := ⟨0, ![]⟩
abbrev S4096 : Shape := ⟨1, ![4096]⟩
abbrev S29760 : Shape := ⟨1, ![29760]⟩
abbrev S8192 : Shape := ⟨1, ![8192]⟩
abbrev S74816 : Shape := ⟨1, ![74816]⟩
abbrev S960 : Shape := ⟨1, ![960]⟩
abbrev S75776 : Shape := ⟨1, ![75776]⟩
abbrev S592x128 : Shape := ⟨2, ![592, 128]⟩

abbrev nBuf : Space → Nat
  | .hbm => 335
  | .vmem => 0
  | .smem => 0
  | _ => 0

abbrev hbmTy0_0 (i : Nat) : BufTy := match i % 128 with
  | 0 => ⟨S4x1024, .f32⟩
  | 1 => ⟨S4x1024, .f32⟩
  | 2 => ⟨S4x1024, .f32⟩
  | 3 => ⟨S4x16x15x31, .f32⟩
  | 4 => ⟨S4x2048, .f32⟩
  | 5 => ⟨S4x2048, .f32⟩
  | 6 => ⟨S4x2048, .f32⟩
  | 7 => ⟨S4x2048, .f32⟩
  | 8 => ⟨S4x1024, .f32⟩
  | 9 => ⟨S4x1024, .f32⟩
  | 10 => ⟨S4x1024, .f32⟩
  | 11 => ⟨S4x16x15x31, .f32⟩
  | 12 => ⟨S4x2048, .f32⟩
  | 13 => ⟨S4x2048, .f32⟩
  | 14 => ⟨S4x2048, .f32⟩
  | 15 => ⟨S4x2048, .f32⟩
  | 16 => ⟨S4x1024, .f32⟩
  | 17 => ⟨S4x1024, .f32⟩
  | 18 => ⟨S4x1024, .f32⟩
  | 19 => ⟨S4x16x15x31, .f32⟩
  | 20 => ⟨S4x2048, .f32⟩
  | 21 => ⟨S4x2048, .f32⟩
  | 22 => ⟨S4x2048, .f32⟩
  | 23 => ⟨S4x2048, .f32⟩
  | 24 => ⟨S4x1024, .f32⟩
  | 25 => ⟨S4x1024, .f32⟩
  | 26 => ⟨S4x1024, .f32⟩
  | 27 => ⟨S4x16x15x31, .f32⟩
  | 28 => ⟨S4x2048, .f32⟩
  | 29 => ⟨S4x2048, .f32⟩
  | 30 => ⟨S4x2048, .f32⟩
  | 31 => ⟨S4x2048, .f32⟩
  | 32 => ⟨S_, .f32⟩
  | 33 => ⟨S4x1024, .f32⟩
  | 34 => ⟨S4x1024, .f32⟩
  | 35 => ⟨S_, .f32⟩
  | 36 => ⟨S4x1024, .f32⟩
  | 37 => ⟨S4x1024, .f32⟩
  | 38 => ⟨S4x1024, .f32⟩
  | 39 => ⟨S_, .f32⟩
  | 40 => ⟨S4x1024, .f32⟩
  | 41 => ⟨S4x1024, .f32⟩
  | 42 => ⟨S4x1024, .f32⟩
  | 43 => ⟨S_, .f32⟩
  | 44 => ⟨S4x1024, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S_, .f32⟩
  | 51 => ⟨S4x1024, .f32⟩
  | 52 => ⟨S4x1024, .f32⟩
  | 53 => ⟨S4x1024, .f32⟩
  | 54 => ⟨S_, .f32⟩
  | 55 => ⟨S4x1024, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S_, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S_, .f32⟩
  | 102 => ⟨S4x1024, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S4x1024, .f32⟩
  | 113 => ⟨S_, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S4x1024, .f32⟩
  | _ => ⟨S4x1024, .f32⟩

abbrev hbmTy0_1 (i : Nat) : BufTy := match i % 128 with
  | 0 => ⟨S_, .f32⟩
  | 1 => ⟨S4x1024, .f32⟩
  | 2 => ⟨S4x1024, .f32⟩
  | 3 => ⟨S_, .f32⟩
  | 4 => ⟨S4x16x15x31, .f32⟩
  | 5 => ⟨S4x16x15x31, .f32⟩
  | 6 => ⟨S_, .f32⟩
  | 7 => ⟨S4x16x15x31, .f32⟩
  | 8 => ⟨S4x16x15x31, .f32⟩
  | 9 => ⟨S4x16x15x31, .f32⟩
  | 10 => ⟨S_, .f32⟩
  | 11 => ⟨S4x16x15x31, .f32⟩
  | 12 => ⟨S4x16x15x31, .f32⟩
  | 13 => ⟨S4x16x15x31, .f32⟩
  | 14 => ⟨S_, .f32⟩
  | 15 => ⟨S4x16x15x31, .f32⟩
  | 16 => ⟨S4x16x15x31, .f32⟩
  | 17 => ⟨S4x16x15x31, .f32⟩
  | 18 => ⟨S_, .f32⟩
  | 19 => ⟨S4x16x15x31, .f32⟩
  | 20 => ⟨S4x16x15x31, .f32⟩
  | 21 => ⟨S_, .f32⟩
  | 22 => ⟨S4x16x15x31, .f32⟩
  | 23 => ⟨S4x16x15x31, .f32⟩
  | 24 => ⟨S4x16x15x31, .f32⟩
  | 25 => ⟨S_, .f32⟩
  | 26 => ⟨S4x16x15x31, .f32⟩
  | 27 => ⟨S4x16x15x31, .f32⟩
  | 28 => ⟨S4x16x15x31, .f32⟩
  | 29 => ⟨S_, .f32⟩
  | 30 => ⟨S4x16x15x31, .f32⟩
  | 31 => ⟨S4x16x15x31, .f32⟩
  | 32 => ⟨S4x16x15x31, .f32⟩
  | 33 => ⟨S_, .f32⟩
  | 34 => ⟨S4x16x15x31, .f32⟩
  | 35 => ⟨S4x16x15x31, .f32⟩
  | 36 => ⟨S_, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S4x2048, .f32⟩
  | 47 => ⟨S_, .f32⟩
  | 48 => ⟨S4x2048, .f32⟩
  | 49 => ⟨S4x2048, .f32⟩
  | 50 => ⟨S4x2048, .f32⟩
  | 51 => ⟨S_, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S4x2048, .f32⟩
  | 66 => ⟨S_, .f32⟩
  | 67 => ⟨S4x2048, .f32⟩
  | 68 => ⟨S4x2048, .f32⟩
  | 69 => ⟨S_, .f32⟩
  | 70 => ⟨S4x2048, .f32⟩
  | 71 => ⟨S4x2048, .f32⟩
  | 72 => ⟨S_, .f32⟩
  | 73 => ⟨S4x2048, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S4x2048, .f32⟩
  | 80 => ⟨S_, .f32⟩
  | 81 => ⟨S4x2048, .f32⟩
  | 82 => ⟨S4x2048, .f32⟩
  | 83 => ⟨S4x2048, .f32⟩
  | 84 => ⟨S_, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S4x2048, .f32⟩
  | 95 => ⟨S_, .f32⟩
  | 96 => ⟨S4x2048, .f32⟩
  | 97 => ⟨S4x2048, .f32⟩
  | 98 => ⟨S4x2048, .f32⟩
  | 99 => ⟨S_, .f32⟩
  | 100 => ⟨S4x2048, .f32⟩
  | 101 => ⟨S4x2048, .f32⟩
  | 102 => ⟨S_, .f32⟩
  | 103 => ⟨S4x2048, .f32⟩
  | 104 => ⟨S4x2048, .f32⟩
  | 105 => ⟨S_, .f32⟩
  | 106 => ⟨S4x2048, .f32⟩
  | 107 => ⟨S4x2048, .f32⟩
  | 108 => ⟨S4x2048, .f32⟩
  | 109 => ⟨S_, .f32⟩
  | 110 => ⟨S4x2048, .f32⟩
  | 111 => ⟨S4x2048, .f32⟩
  | 112 => ⟨S4x2048, .f32⟩
  | 113 => ⟨S_, .f32⟩
  | 114 => ⟨S4x2048, .f32⟩
  | 115 => ⟨S4x2048, .f32⟩
  | 116 => ⟨S4x2048, .f32⟩
  | 117 => ⟨S_, .f32⟩
  | 118 => ⟨S4x2048, .f32⟩
  | 119 => ⟨S4x2048, .f32⟩
  | 120 => ⟨S_, .f32⟩
  | 121 => ⟨S4x2048, .f32⟩
  | 122 => ⟨S4x2048, .f32⟩
  | 123 => ⟨S4x2048, .f32⟩
  | 124 => ⟨S_, .f32⟩
  | 125 => ⟨S4x2048, .f32⟩
  | 126 => ⟨S4x2048, .f32⟩
  | 127 => ⟨S4x2048, .f32⟩
  | _ => ⟨S4x1024, .f32⟩

abbrev hbmTy0_2 (i : Nat) : BufTy := match i % 128 with
  | 0 => ⟨S_, .f32⟩
  | 1 => ⟨S4x2048, .f32⟩
  | 2 => ⟨S4x2048, .f32⟩
  | 3 => ⟨S4x2048, .f32⟩
  | 4 => ⟨S_, .f32⟩
  | 5 => ⟨S4x2048, .f32⟩
  | 6 => ⟨S4x2048, .f32⟩
  | 7 => ⟨S_, .f32⟩
  | 8 => ⟨S4x2048, .f32⟩
  | 9 => ⟨S4x2048, .f32⟩
  | 10 => ⟨S_, .f32⟩
  | 11 => ⟨S4x2048, .f32⟩
  | 12 => ⟨S4x2048, .f32⟩
  | 13 => ⟨S4x2048, .f32⟩
  | 14 => ⟨S_, .f32⟩
  | 15 => ⟨S4x2048, .f32⟩
  | 16 => ⟨S4x2048, .f32⟩
  | 17 => ⟨S4x2048, .f32⟩
  | 18 => ⟨S_, .f32⟩
  | 19 => ⟨S4x2048, .f32⟩
  | 20 => ⟨S4x2048, .f32⟩
  | 21 => ⟨S4x2048, .f32⟩
  | 22 => ⟨S_, .f32⟩
  | 23 => ⟨S4x2048, .f32⟩
  | 24 => ⟨S4x2048, .f32⟩
  | 25 => ⟨S_, .f32⟩
  | 26 => ⟨S4x2048, .f32⟩
  | 27 => ⟨S4x2048, .f32⟩
  | 28 => ⟨S4x2048, .f32⟩
  | 29 => ⟨S_, .f32⟩
  | 30 => ⟨S4x2048, .f32⟩
  | 31 => ⟨S4x2048, .f32⟩
  | 32 => ⟨S4x2048, .f32⟩
  | 33 => ⟨S_, .f32⟩
  | 34 => ⟨S4x2048, .f32⟩
  | 35 => ⟨S4x2048, .f32⟩
  | 36 => ⟨S4x2048, .f32⟩
  | 37 => ⟨S_, .f32⟩
  | 38 => ⟨S4x2048, .f32⟩
  | 39 => ⟨S4x2048, .f32⟩
  | 40 => ⟨S4096, .f32⟩
  | 41 => ⟨S4096, .f32⟩
  | 42 => ⟨S4096, .f32⟩
  | 43 => ⟨S29760, .f32⟩
  | 44 => ⟨S8192, .f32⟩
  | 45 => ⟨S8192, .f32⟩
  | 46 => ⟨S8192, .f32⟩
  | 47 => ⟨S8192, .f32⟩
  | 48 => ⟨S74816, .f32⟩
  | 49 => ⟨S_, .f32⟩
  | 50 => ⟨S960, .f32⟩
  | 51 => ⟨S75776, .f32⟩
  | 52 => ⟨S592x128, .f32⟩
  | 53 => ⟨S4096, .f32⟩
  | 54 => ⟨S4096, .f32⟩
  | 55 => ⟨S4096, .f32⟩
  | 56 => ⟨S29760, .f32⟩
  | 57 => ⟨S8192, .f32⟩
  | 58 => ⟨S8192, .f32⟩
  | 59 => ⟨S8192, .f32⟩
  | 60 => ⟨S8192, .f32⟩
  | 61 => ⟨S74816, .f32⟩
  | 62 => ⟨S_, .f32⟩
  | 63 => ⟨S960, .f32⟩
  | 64 => ⟨S75776, .f32⟩
  | 65 => ⟨S592x128, .f32⟩
  | 66 => ⟨S4096, .f32⟩
  | 67 => ⟨S4096, .f32⟩
  | 68 => ⟨S4096, .f32⟩
  | 69 => ⟨S29760, .f32⟩
  | 70 => ⟨S8192, .f32⟩
  | 71 => ⟨S8192, .f32⟩
  | 72 => ⟨S8192, .f32⟩
  | 73 => ⟨S8192, .f32⟩
  | 74 => ⟨S74816, .f32⟩
  | 75 => ⟨S_, .f32⟩
  | 76 => ⟨S960, .f32⟩
  | 77 => ⟨S75776, .f32⟩
  | 78 => ⟨S592x128, .f32⟩
  | _ => ⟨S4x1024, .f32⟩

abbrev hbmTy (i : Nat) : BufTy := match i / 128 with
  | 0 => hbmTy0_0 i
  | 1 => hbmTy0_1 i
  | 2 => hbmTy0_2 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_cst_71 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_cst_72 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_v216 : Ref sig .tc := ⟨.hbm, 322, rfl⟩
abbrev main_v217 : Ref sig .tc := ⟨.hbm, 323, rfl⟩
abbrev main_v218 : Ref sig .tc := ⟨.hbm, 324, rfl⟩
abbrev main_v219 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev main_cst_73 : Ref sig .tc := ⟨.hbm, 331, rfl⟩
abbrev main_v225 : Ref sig .tc := ⟨.hbm, 332, rfl⟩
abbrev main_v226 : Ref sig .tc := ⟨.hbm, 333, rfl⟩
abbrev main_v227 : Ref sig .tc := ⟨.hbm, 334, rfl⟩

abbrev nD : Nat := 1
abbrev τ : Topo := Topo.v7x

variable {F : FTy → Type} [FloatOps F]
-- ==== Kernel20.lean ====
abbrev S8x1584x128 : Shape := ⟨3, ![8, 1584, 128]⟩
abbrev S1584x128 : Shape := ⟨2, ![1584, 128]⟩
abbrev S8x264x128 : Shape := ⟨3, ![8, 264, 128]⟩
abbrev S264x128 : Shape := ⟨2, ![264, 128]⟩
abbrev S1x264x128 : Shape := ⟨3, ![1, 264, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1584x128, .f32⟩
  | .hbm, ⟨1, _⟩ => ⟨S1584x128, .f32⟩
  | .local _ .vmem, ⟨0, _⟩ => ⟨S8x264x128, .f32⟩
  | .local _ .vmem, ⟨1, _⟩ => ⟨S8x264x128, .f32⟩
  | .local _ .vmem, ⟨2, _⟩ => ⟨S264x128, .f32⟩
  | .local _ .vmem, ⟨3, _⟩ => ⟨S264x128, .f32⟩
  | _, _ => ⟨S8x1584x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x264x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S264x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference20Ideal.lean ====
abbrev S8x1584x128 : Shape := ⟨3, ![8, 1584, 128]⟩
abbrev S_ : Shape := ⟨0, ![]⟩
abbrev S1584x128 : Shape := ⟨2, ![1584, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1584x128, .f32⟩
  | .hbm, ⟨1, _⟩ => ⟨S_, .f32⟩
  | .hbm, ⟨2, _⟩ => ⟨S1584x128, .f32⟩
  | _, _ => ⟨S8x1584x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S4096x2048 : Shape := ⟨2, ![4096, 2048]⟩
abbrev S4x2048 : Shape := ⟨2, ![4, 2048]⟩
abbrev S4x1x2048 : Shape := ⟨3, ![4, 1, 2048]⟩
abbrev S1x2048 : Shape := ⟨2, ![1, 2048]⟩
abbrev S256x2048 : Shape := ⟨2, ![256, 2048]⟩
abbrev S1x1x2048 : Shape := ⟨3, ![1, 1, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S4096x2048, .f32⟩
  | .hbm, ⟨3, _⟩ => ⟨S4096x2048, .f32⟩
  | .hbm, ⟨4, _⟩ => ⟨S4x1x2048, .f32⟩
  | .hbm, ⟨5, _⟩ => ⟨S4096x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v43 : BitVec 1 := Scalar.cmpi .eq arg0 c15_i32
  let v44 : BitVec 32 := Scalar.extui v43
  let c0_i32_20 : BitVec 32 := 0#32
  let v45 : BitVec 1 := Scalar.cmpi .ne v44 c0_i32_20
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S4096x2048 : Shape := ⟨2, ![4096, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel22.lean ====
abbrev S4096x2048 : Shape := ⟨2, ![4096, 2048]⟩
abbrev S4x2048 : Shape := ⟨2, ![4, 2048]⟩
abbrev S4x1x2048 : Shape := ⟨3, ![4, 1, 2048]⟩
abbrev S1x2048 : Shape := ⟨2, ![1, 2048]⟩
abbrev S256x2048 : Shape := ⟨2, ![256, 2048]⟩
abbrev S1x1x2048 : Shape := ⟨3, ![1, 1, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S4096x2048, .f32⟩
  | .hbm, ⟨3, _⟩ => ⟨S4x1x2048, .f32⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | .local _ .vmem, ⟨8, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v42 : BitVec 1 := Scalar.cmpi .eq arg0 c15_i32
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference22Ideal.lean ====
abbrev S4096x2048 : Shape := ⟨2, ![4096, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S4096x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel23.lean ====
abbrev S4096x2048 : Shape := ⟨2, ![4096, 2048]⟩
abbrev S4x2048 : Shape := ⟨2, ![4, 2048]⟩
abbrev S4x1x2048 : Shape := ⟨3, ![4, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S4x1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x2048 : Shape := ⟨2, ![4096, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel24.lean ====
abbrev S4096x2048 : Shape := ⟨2, ![4096, 2048]⟩
abbrev S4x2048 : Shape := ⟨2, ![4, 2048]⟩
abbrev S4x1x2048 : Shape := ⟨3, ![4, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S1x2048 : Shape := ⟨2, ![1, 2048]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x2048, .f32⟩
  | .hbm, ⟨3, _⟩ => ⟨S4x2048, .f32⟩
  | .hbm, ⟨4, _⟩ => ⟨S4x1x2048, .f32⟩
  | .hbm, ⟨5, _⟩ => ⟨S4x1x2048, .f32⟩
  | .hbm, ⟨6, _⟩ => ⟨S4096x2048, .f32⟩
  | .hbm, ⟨7, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference24Ideal.lean ====
abbrev S4096x2048 : Shape := ⟨2, ![4096, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x2048, .f32⟩
  | .hbm, ⟨3, _⟩ => ⟨S4x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Kernel25.lean ====
abbrev S4096x2048 : Shape := ⟨2, ![4096, 2048]⟩
abbrev S4x2048 : Shape := ⟨2, ![4, 2048]⟩
abbrev S4x1x2048 : Shape := ⟨3, ![4, 1, 2048]⟩
abbrev S1x1 : Shape := ⟨2, ![1, 1]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S1x2048 : Shape := ⟨2, ![1, 2048]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x2048, .f32⟩
  | .hbm, ⟨3, _⟩ => ⟨S4096x2048, .f32⟩
  | .hbm, ⟨4, _⟩ => ⟨S4x1x2048, .f32⟩
  | .hbm, ⟨5, _⟩ => ⟨S4096x2048, .f32⟩
  | .hbm, ⟨6, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S4096x2048 : Shape := ⟨2, ![4096, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x2048, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S_, .f32⟩
  | .hbm, ⟨50, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Proof.ConvBase.lean ====
module

public import proofs.«01_k».proof.Proof.Gen.KernelIdeal.Frame
public import proofs.«01_k».proof.Proof.Gen.KernelIdeal.Loops
public import Idealize.ShloMosaic.Lib.Pipeline.ValueKit
public import Idealize.ShloMosaic.Lib.Pointwise

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The eleven buffers the body is called with. -/
structure Bufs where
  a1 : Memref sig .tc .vmem S4096x128 .f32
  h1 : a1.IsWhole
  a2 : Memref sig .tc .vmem S4096x128 .f32
  h2 : a2.IsWhole
  a3 : Memref sig .tc .vmem S4096x128 .f32
  h3 : a3.IsWhole
  a4 : Memref sig .tc .vmem S1x31x128 .f32
  h4 : a4.IsWhole
  a5 : Memref sig .tc .vmem S4096x128 .bf16
  h5 : a5.IsWhole
  a6 : Memref sig .tc .vmem S4096x128 .bf16
  h6 : a6.IsWhole
  a7 : Memref sig .tc .vmem S32x128 .f32
  h7 : a7.IsWhole
  a8 : Memref sig .tc .vmem S4128x128 .f32
  h8 : a8.IsWhole
  a9 : Memref sig .tc .vmem S4128x128 .f32
  h9 : a9.IsWhole
  a10 : Memref sig .tc .vmem S4096x128 .f32
  h10 : a10.IsWhole
  a11 : Memref sig .tc .vmem S32x8x128 .f32
  h11 : a11.IsWhole

/-- What one trip stores, last first: into the gradient's buffer and into the partial sums' buffer. -/
abbrev trip (B : Bufs) (c : Dev nD) (i : grid0.Coords) (X4 : BufTy.Contents (Elt F) B.a4.view.ty) (X8 : BufTy.Contents (Elt F) B.a8.view.ty)
    (X9 : BufTy.Contents (Elt F) B.a9.view.ty) (k : Fin k0_t1_loop.trips) :=
  trip_k0_t1 (F := F) Variants.none c none i B.a1 B.h1 B.a2 B.h2 B.a3 B.h3 B.a4 B.h4 B.a5 B.h5 B.a6 B.h6 B.a7 B.h7 B.a8 B.h8 B.a9 B.h9
    B.a10 B.h10 B.a11 B.h11 X4 X8 X9 k

/-- The rows a trip reads start at 256 times its number. -/
theorem off1 : ∀ k : Fin k0_t1_loop.trips, k0_off1 k = ![256 * k.val, 0] := by decide +kernel

/-- The rows a trip writes start at 256 times its number. -/
theorem off2 : ∀ k : Fin k0_t1_loop.trips, k0_off2 k = ![256 * k.val, 0] := by decide +kernel

/-- The loop has sixteen trips. -/
theorem trips16 : k0_t1_loop.trips = 16 := by decide +kernel

end Cert.Conv
-- ==== Proof.ConvRun.lean ====
module

public import proofs.«01_k».proof.Proof.Gen.KernelIdeal.Frame
public import proofs.«01_k».proof.Proof.Gen.KernelIdeal.Loops
public import proofs.«01_k».proof.Proof.ConvBase
public import Idealize.ShloMosaic.Lib.Pipeline.ValueKit
public import Idealize.ShloMosaic.Lib.Pointwise
public import Idealize.ShloMosaic.Lib.VecWindow

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the trips before trip `n` store, last first. -/
abbrev pb (B : Bufs) (c : Dev nD) (i : grid0.Coords) (X4 : BufTy.Contents (Elt F) B.a4.view.ty) (X8 : BufTy.Contents (Elt F) B.a8.view.ty) (X9 : BufTy.Contents (Elt F) B.a9.view.ty)
    (G10 : BufTy.Contents (Elt F) B.a10.view.ty) (G11 : BufTy.Contents (Elt F) B.a11.view.ty) (n : ℕ) :=
  pb_k0_t1 (F := F) Variants.none c none i B.a1 B.h1 B.a2 B.h2 B.a3 B.h3 B.a4 B.h4 B.a5 B.h5 B.a6 B.h6 B.a7 B.h7 B.a8 B.h8 B.a9 B.h9 B.a10 B.h10 B.a11 B.h11 X4 X8 X9 G10 G11 n

/-- The stores of the trips before trip `k + 1` are trip `k`'s, at what the earlier trips left, and the earlier trips'. -/
theorem pb_succ (B : Bufs) (c : Dev nD) (i : grid0.Coords) (X4 : BufTy.Contents (Elt F) B.a4.view.ty) (X8 : BufTy.Contents (Elt F) B.a8.view.ty) (X9 : BufTy.Contents (Elt F) B.a9.view.ty)
    (G10 : BufTy.Contents (Elt F) B.a10.view.ty) (G11 : BufTy.Contents (Elt F) B.a11.view.ty) (k : Fin k0_t1_loop.trips) :
    pb B c i X4 X8 X9 G10 G11 (k.val + 1)
      = ((trip B c i X4 X8 X9 k).1 (B.a10.view.writes (Elt F) G10 (pb B c i X4 X8 X9 G10 G11 k.val).1)
            (B.a11.view.writes (Elt F) G11 (pb B c i X4 X8 X9 G10 G11 k.val).2) ++ (pb B c i X4 X8 X9 G10 G11 k.val).1,
          (trip B c i X4 X8 X9 k).2.1 (B.a10.view.writes (Elt F) G10 (pb B c i X4 X8 X9 G10 G11 k.val).1)
            (B.a11.view.writes (Elt F) G11 (pb B c i X4 X8 X9 G10 G11 k.val).2) ++ (pb B c i X4 X8 X9 G10 G11 k.val).2) :=
  pb_k0_t1_succ _ _ _ _ _ _ _ _ _ _ _ _ _ _ _ _ _ _ _ _ _ _ _ _ _ _ _ _ _ _ _ _

/-- A trip's stores do not depend on what the gradient's buffer held. -/
theorem trip_indep (B : Bufs) (c : Dev nD) (i : grid0.Coords) (X4 : BufTy.Contents (Elt F) B.a4.view.ty) (X8 : BufTy.Contents (Elt F) B.a8.view.ty) (X9 : BufTy.Contents (Elt F) B.a9.view.ty) (k : Fin k0_t1_loop.trips)
    (f10 g10 : BufTy.Contents (Elt F) B.a10.view.ty) (f11 : BufTy.Contents (Elt F) B.a11.view.ty) :
    (trip B c i X4 X8 X9 k).1 f10 f11 = (trip B c i X4 X8 X9 k).1 g10 f11
      ∧ (trip B c i X4 X8 X9 k).2.1 f10 f11 = (trip B c i X4 X8 X9 k).2.1 g10 f11 := by
  unfold trip trip_k0_t1
  exact ⟨rfl, rfl⟩

/-- A trip stores its 256 rows of the gradient. -/
theorem trip_cover (B : Bufs) (c : Dev nD) (i : grid0.Coords) (X4 : BufTy.Contents (Elt F) B.a4.view.ty) (X8 : BufTy.Contents (Elt F) B.a8.view.ty) (X9 : BufTy.Contents (Elt F) B.a9.view.ty) (k : Fin k0_t1_loop.trips)
    (f10 : BufTy.Contents (Elt F) B.a10.view.ty) (f11 : BufTy.Contents (Elt F) B.a11.view.ty) (y : S4096x128.Idx)
    (h₁ : 256 * k.val ≤ (y 0).val) (h₂ : (y 0).val < 256 * k.val + 256) :
    ∃ p ∈ (trip B c i X4 X8 X9 k).1 f10 f11, y ∈ p.1.set := by
  unfold trip trip_k0_t1
  refine ⟨_, List.mem_singleton.2 rfl, ?_⟩
  rw [Rect.mem_set_unit]
  rw [off2]
  intro a
  fin_cases a
  · exact ⟨h₁, h₂⟩
  · exact ⟨Nat.zero_le _, by have := (y 1).isLt; simpa using this⟩

/-- Nor do all the trips'. -/
theorem pb_indep (B : Bufs) (c : Dev nD) (i : grid0.Coords) (X4 : BufTy.Contents (Elt F) B.a4.view.ty) (X8 : BufTy.Contents (Elt F) B.a8.view.ty) (X9 : BufTy.Contents (Elt F) B.a9.view.ty)
    (G10 G10' : BufTy.Contents (Elt F) B.a10.view.ty) (G11 : BufTy.Contents (Elt F) B.a11.view.ty) (n : ℕ) (hn : n ≤ k0_t1_loop.trips) :
    pb B c i X4 X8 X9 G10 G11 n = pb B c i X4 X8 X9 G10' G11 n := by
  induction n with
  | zero => rfl
  | succ n ih =>
    have h := ih (Nat.le_of_succ_le hn)
    rw [pb_succ B c i X4 X8 X9 G10 G11 ⟨n, hn⟩, pb_succ B c i X4 X8 X9 G10' G11 ⟨n, hn⟩, h]
    refine Prod.ext ?_ ?_
    · exact congrArg (· ++ _) (trip_indep B c i X4 X8 X9 ⟨n, hn⟩ _ _ _).1
    · exact congrArg (· ++ _) (trip_indep B c i X4 X8 X9 ⟨n, hn⟩ _ _ _).2

/-- The trips before trip `n` store the rows below `256 n`. -/
theorem pb_cover (B : Bufs) (c : Dev nD) (i : grid0.Coords) (X4 : BufTy.Contents (Elt F) B.a4.view.ty) (X8 : BufTy.Contents (Elt F) B.a8.view.ty) (X9 : BufTy.Contents (Elt F) B.a9.view.ty)
    (G10 : BufTy.Contents (Elt F) B.a10.view.ty) (G11 : BufTy.Contents (Elt F) B.a11.view.ty) (n : ℕ) (hn : n ≤ k0_t1_loop.trips)
    (y : S4096x128.Idx) (hy : (y 0).val < 256 * n) : ∃ p ∈ (pb B c i X4 X8 X9 G10 G11 n).1, y ∈ p.1.set := by
  induction n with
  | zero => omega
  | succ n ih =>
    rw [pb_succ B c i X4 X8 X9 G10 G11 ⟨n, hn⟩]
    by_cases h : (y 0).val < 256 * n
    · obtain ⟨p, hp, hm⟩ := ih (Nat.le_of_succ_le hn) h
      exact ⟨p, List.mem_append_right _ hp, hm⟩
    · obtain ⟨p, hp, hm⟩ := trip_cover B c i X4 X8 X9 ⟨n, hn⟩ (B.a10.view.writes (Elt F) G10 (pb B c i X4 X8 X9 G10 G11 n).1)
        (B.a11.view.writes (Elt F) G11 (pb B c i X4 X8 X9 G10 G11 n).2) y (Nat.le_of_not_lt h) (by simpa using (by omega : (y 0).val < 256 * n + 256))
      exact ⟨p, List.mem_append_left _ hp, hm⟩

/-- The gated values between two times sixteen rows of zeros. -/
def u8 (B : Bufs) (x0 x1 : Vec F S4096x128 .f32) : BufTy.Contents (Elt F) B.a8.view.ty :=
  B.a8.view.writes (Elt F) B.a8.view.junk
    [⟨Rect.unit ![16, 0] ![4096, 128] inb_S4128x128_S4096x128_16_0, k0_pay80 x1 x0⟩,
      ⟨Rect.unit ![4112, 0] ![16, 128] inb_S4128x128_S16x128_4112_0, k0_pay76⟩,
      ⟨Rect.unit ![0, 0] ![16, 128] inb_S4128x128_S16x128_0_0, k0_pay75⟩]

/-- The incoming gradient between two times sixteen rows of zeros. -/
def d9 (B : Bufs) (x2 : Vec F S4096x128 .f32) : BufTy.Contents (Elt F) B.a9.view.ty :=
  B.a9.view.writes (Elt F) B.a9.view.junk
    [⟨Rect.unit ![16, 0] ![4096, 128] inb_S4128x128_S4096x128_16_0, k0_pay81 x2⟩,
      ⟨Rect.unit ![4112, 0] ![16, 128] inb_S4128x128_S16x128_4112_0, k0_pay78⟩,
      ⟨Rect.unit ![0, 0] ![16, 128] inb_S4128x128_S16x128_0_0, k0_pay77⟩]

/-- The partial sums before the first trip: zeros. -/
def z11 (B : Bufs) : BufTy.Contents (Elt F) B.a11.view.ty :=
  B.a11.view.writes (Elt F) B.a11.view.junk
    [⟨Rect.unit ![0, 0, 0] ![32, 8, 128] inb_S32x8x128_S32x8x128_0_0_0, k0_pay1 (Scalar.ofBits .f32 0x00000000#32)⟩]

/-- The stores of the sixteen trips. -/
abbrev pbL (B : Bufs) (c : Dev nD) (i : grid0.Coords) (x0 : Vec F S4096x128 .f32) (x1 : Vec F S4096x128 .f32) (x2 : Vec F S4096x128 .f32) (x3 : Vec F S1x31x128 .f32) (G10 : BufTy.Contents (Elt F) B.a10.view.ty) :=
  pb B c i (B.h4.unread x3) (u8 B x0 x1) (d9 B x2) G10 (z11 B) k0_t1_loop.trips

/-- The gradient of the gated values, as the trips leave it. -/
def duB (B : Bufs) (c : Dev nD) (i : grid0.Coords) (x0 : Vec F S4096x128 .f32) (x1 : Vec F S4096x128 .f32) (x2 : Vec F S4096x128 .f32) (x3 : Vec F S1x31x128 .f32) : Vec F S4096x128 .f32 :=
  View.read (Elt F) B.a10.view (B.a10.view.writes (Elt F) B.a10.view.junk (pbL B c i x0 x1 x2 x3 B.a10.view.junk).1)

/-- The partial sums of the taps' gradients, as the trips leave them. -/
def sumB (B : Bufs) (c : Dev nD) (i : grid0.Coords) (x0 : Vec F S4096x128 .f32) (x1 : Vec F S4096x128 .f32) (x2 : Vec F S4096x128 .f32) (x3 : Vec F S1x31x128 .f32) : Vec F S32x8x128 .f32 :=
  View.read (Elt F) B.a11.view (B.a11.view.writes (Elt F) (z11 B) (pbL B c i x0 x1 x2 x3 B.a10.view.junk).2)

/-- The gradient's buffer after the trips does not depend on what it held before them. -/
theorem read_du (B : Bufs) (c : Dev nD) (i : grid0.Coords) (x0 : Vec F S4096x128 .f32) (x1 : Vec F S4096x128 .f32) (x2 : Vec F S4096x128 .f32) (x3 : Vec F S1x31x128 .f32) (f : BufTy.Contents (Elt F) B.a10.view.ty) :
    View.read (Elt F) B.a10.view (B.a10.view.writes (Elt F) f (pbL B c i x0 x1 x2 x3 f).1) = duB B c i x0 x1 x2 x3 := by
  have hc := fun G (y : S4096x128.Idx) => pb_cover B c i (B.h4.unread x3) (u8 B x0 x1) (d9 B x2) G (z11 B) k0_t1_loop.trips le_rfl y
    (by rw [trips16]; exact (y 0).isLt)
  unfold duB
  rw [View.read_writes_eq_canon _ _ _ (hc f), View.read_writes_eq_canon _ _ _ (hc _), pb_indep B c i _ _ _ f B.a10.view.junk _ _ le_rfl]

/-- The buffer of partial sums, read after the trips. -/
theorem read_sum (B : Bufs) (c : Dev nD) (i : grid0.Coords) (x0 : Vec F S4096x128 .f32) (x1 : Vec F S4096x128 .f32) (x2 : Vec F S4096x128 .f32) (x3 : Vec F S1x31x128 .f32) (f : BufTy.Contents (Elt F) B.a10.view.ty) :
    View.read (Elt F) B.a11.view (B.a11.view.writes (Elt F) (z11 B) (pbL B c i x0 x1 x2 x3 f).2) = sumB B c i x0 x1 x2 x3 := by
  unfold sumB pbL
  rw [pb_indep B c i _ _ _ f B.a10.view.junk _ _ le_rfl]

set_option maxHeartbeats 4000000 in
/-- The body's run: the three results' buffers end at the products of the trips' sums, everything else as it was or at some contents. -/
theorem run (B : Bufs) (c : Dev nD) (i : grid0.Coords) (x0 : Vec F S4096x128 .f32) (x1 : Vec F S4096x128 .f32) (x2 : Vec F S4096x128 .f32) (x3 : Vec F S1x31x128 .f32) (E : Set ℕ) (K : PUnit → sProp 𝕄) :
    iprop(owns (c : Thread nD τ) B.a1 fullShare x0 ∗ owns (c : Thread nD τ) B.a2 fullShare x1 ∗ owns (c : Thread nD τ) B.a3 fullShare x2 ∗ owns (c : Thread nD τ) B.a4 fullShare x3 ∗ (∃ d, owns (c : Thread nD τ) B.a5 fullShare d) ∗ (∃ d, owns (c : Thread nD τ) B.a6 fullShare d) ∗ (∃ d, owns (c : Thread nD τ) B.a7 fullShare d) ∗ (∃ d, owns (c : Thread nD τ) B.a8 fullShare d) ∗ (∃ d, owns (c : Thread nD τ) B.a9 fullShare d) ∗ (∃ d, owns (c : Thread nD τ) B.a10 fullShare d) ∗ (∃ d, owns (c : Thread nD τ) B.a11 fullShare d)
        ∗ (iprop(owns (c : Thread nD τ) B.a1 fullShare x0 ∗ owns (c : Thread nD τ) B.a2 fullShare x1 ∗ owns (c : Thread nD τ) B.a3 fullShare x2 ∗ owns (c : Thread nD τ) B.a4 fullShare x3 ∗ owns (c : Thread nD τ) B.a5 fullShare (k0_pay2 (k0_pay79 x1) (duB B c i x0 x1 x2 x3))
            ∗ owns (c : Thread nD τ) B.a6 fullShare (k0_pay3 (k0_pay79 x1) (duB B c i x0 x1 x2 x3) x0)
            ∗ owns (c : Thread nD τ) B.a7 fullShare (k0_pay4 (sumB B c i x0 x1 x2 x3)) ∗ (∃ d, owns (c : Thread nD τ) B.a8 fullShare d) ∗ (∃ d, owns (c : Thread nD τ) B.a9 fullShare d) ∗ (∃ d, owns (c : Thread nD τ) B.a10 fullShare d) ∗ (∃ d, owns (c : Thread nD τ) B.a11 fullShare d)) -∗ K ⟨⟩))
      ⊢ wp frame (wpE (defs₀ (F := F)) Variants.none c none) E (cc0_conv_bwd i B.a1 B.h1 B.a2 B.h2 B.a3 B.h3 B.a4 B.h4 B.a5 B.h5 B.a6 B.h6 B.a7 B.h7 B.a8 B.h8 B.a9 B.h9 B.a10 B.h10 B.a11 B.h11) K := by
  simp only [cc0_conv_bwd_eq_skeleton]; unfold cc0_conv_bwd_skel
  simp only [k0_part16_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
  obtain rfl := B.h1.eq_unread hf0; obtain rfl := B.h2.eq_unread hf1; obtain rfl := B.h3.eq_unread hf2; obtain rfl := B.h4.eq_unread hf3
  sl_exec
  sl_step
  have e0 : ∀ h, View.readAt (Elt F) B.a1.view (Rect.unit (s := S4096x128) ![0, 0] ![4096, 128] h).toLoadRect (B.h1.unread x0) = x0 :=
    fun h => (View.readAt_full B.a1.view _ h).trans (B.h1.read_unread x0)
  have e1 : ∀ h, View.readAt (Elt F) B.a2.view (Rect.unit (s := S4096x128) ![0, 0] ![4096, 128] h).toLoadRect (B.h2.unread x1) = x1 :=
    fun h => (View.readAt_full B.a2.view _ h).trans (B.h2.read_unread x1)
  have e2 : ∀ h, View.readAt (Elt F) B.a3.view (Rect.unit (s := S4096x128) ![0, 0] ![4096, 128] h).toLoadRect (B.h3.unread x2) = x2 :=
    fun h => (View.readAt_full B.a3.view _ h).trans (B.h3.read_unread x2)
  have h8 : B.a8.view.writes (Elt F) B.a8.view.junk (run.sl.HS0_3 B c x0 x1) = u8 B x0 x1 := by
    delta run.sl.HS0_3; rw [e0, e1]; rfl
  have h9 : B.a9.view.writes (Elt F) B.a9.view.junk (run.sl.HS1_3 B c x2) = d9 B x2 := by
    delta run.sl.HS1_3; rw [e2]; rfl
  have hr : run.sl.r B c x1 = k0_pay79 x1 := congrArg k0_pay79 (e1 _)
  have h35 : run.sl.v35 B c i x0 x1 x2 x3 fs2 = duB B c i x0 x1 x2 x3 := by
    delta run.sl.v35
    refine (View.readAt_full B.a10.view _ _).trans ?_
    rw [h8, h9]
    exact read_du B c i x0 x1 x2 x3 fs2
  have h47 : run.sl.v47 B c i x0 x1 x2 x3 fs2 = sumB B c i x0 x1 x2 x3 := by
    delta run.sl.v47
    refine (View.readAt_full B.a11.view _ _).trans ?_
    rw [h8, h9, View.writes_append]
    exact read_sum B c i x0 x1 x2 x3 fs2
  rw [hr, h35, h47, e0]
  iapply Hk
  isplitl [H0]
  · iexists _; isplitr; · ipureintro; exact B.h1.read_unread _
    iexact H0
  isplitl [H1]
  · iexists _; isplitr; · ipureintro; exact B.h2.read_unread _
    iexact H1
  isplitl [H2]
  · iexists _; isplitr; · ipureintro; exact B.h3.read_unread _
    iexact H2
  isplitl [H3]
  · iexists _; isplitr; · ipureintro; exact B.h4.read_unread _
    iexact H3
  isplitl [H4]
  · iexists _; isplitr; swap; · iexact H4
    ipureintro
    exact View.read_writes_full _ _ _ _ _
  isplitl [H5]
  · iexists _; isplitr; swap; · iexact H5
    ipureintro
    exact View.read_writes_full _ _ _ _ _
  isplitl [H6]
  · iexists _; isplitr; swap; · iexact H6
    ipureintro
    exact View.read_writes_full _ _ _ _ _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Conv
-- ==== Proof.ConvTap.lean ====
module

public import proofs.«01_k».proof.Proof.Gen.KernelIdeal.Frame
public import proofs.«01_k».proof.Proof.Gen.KernelIdeal.Loops
public import proofs.«01_k».proof.Proof.ConvBase
public import Idealize.ShloMosaic.Lib.Pipeline.ValueKit
public import Idealize.ShloMosaic.Lib.Pointwise

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The taps' sum at row `n` of a block of columns: row `j` of `w` times the row `15 - j` further of `d`. -/
def duAt (D : ℕ → Fin 128 → EReal) (w : Fin 31 → Fin 128 → EReal) (n : ℕ) (ch : Fin 128) : EReal :=
  ∑ j : Fin 31, D (n + 31 - j.val) ch * w j ch

/-- The order in which the 31 taps are added does not matter. -/
theorem order (g : Fin 31 → EReal) :
    g 23 + g 15 + g 7 + g 30 + g 22 + g 14 + g 6 + g 29 + g 21 + g 13 + g 5 + g 28 + g 20 + g 12 + g 4 + g 27 + g 19 + g 11 + g 3 + g 26 + g 18 + g 10 + g 2 + g 25 + g 17 + g 9 + g 1 + g 24 + g 16 + g 8 + g 0 = ∑ j, g j := by
  have h : ∑ j, g j = g 0 + (g 1 + (g 2 + (g 3 + (g 4 + (g 5 + (g 6 + (g 7 + (g 8 + (g 9 + (g 10 + (g 11 + (g 12 + (g 13 + (g 14 + (g 15 + (g 16 + (g 17 + (g 18 + (g 19 + (g 20 + (g 21 + (g 22 + (g 23 + (g 24 + (g 25 + (g 26 + (g 27 + (g 28 + (g 29 + (g 30)))))))))))))))))))))))))))))) := by
    simp only [Fin.sum_univ_succ, Finset.univ_eq_empty, Finset.sum_empty, add_zero]
    rfl
  rw [h]
  abel

set_option maxHeartbeats 4000000 in
/-- What one trip stores of the gated values' gradient: the taps' sums of its chunk. -/
theorem trip10 (B : Bufs) (c : Dev nD) (i : grid0.Coords) (X4 : BufTy.Contents (Elt Ideal) B.a4.view.ty) (X8 : BufTy.Contents (Elt Ideal) B.a8.view.ty)
    (X9 : BufTy.Contents (Elt Ideal) B.a9.view.ty) (k : Fin k0_t1_loop.trips) (D : ℕ → Fin 128 → EReal) (w : Fin 31 → Fin 128 → EReal)
    (h9 : ∀ y : S4128x128.Idx, View.read (Elt Ideal) B.a9.view X9 y = D (y 0).val (y 1))
    (h4 : ∀ y : S1x31x128.Idx, View.read (Elt Ideal) B.a4.view X4 y = w (y 1) (y 2))
    (f10 : BufTy.Contents (Elt Ideal) B.a10.view.ty) (f11 : BufTy.Contents (Elt Ideal) B.a11.view.ty) :
    ∀ p ∈ (trip B c i X4 X8 X9 k).1 f10 f11, ∀ x : p.1.shape.Idx, p.2 x = duAt D w (p.1.idx x 0).val (p.1.idx x 1) := by
  unfold trip trip_k0_t1
  dsimp only
  simp only [List.mem_singleton, forall_eq]
  intro x
  unfold duAt
  simp only [trip_k0_t1.sl.r, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16]
  pointwise [k0_pay5, k0_pay6, k0_pay7, k0_pay8, k0_pay9, k0_pay10, k0_pay11, k0_pay12, k0_pay13, k0_pay14, k0_pay15, k0_pay16, k0_pay17, k0_pay18, k0_pay19, k0_pay20, k0_pay21, View.readAt_apply, h9, h4]

  have e : (k0_off2 k 0) = 256 * k.val ∧ k0_off2 k 1 = 0 ∧ k0_off1 k 0 = 256 * k.val ∧ k0_off1 k 1 = 0 := by
    rw [off1, off2]; exact ⟨rfl, rfl, rfl, rfl⟩
  have hx : (x 0).val < 256 := (x 0).isLt
  simp only [e.1, e.2.1, e.2.2.1, e.2.2.2]
  have hc : ∀ h, (⟨0 + (x 1).val, h⟩ : Fin 128) = x 1 := fun _ => Fin.ext (Nat.zero_add _)
  simp only [hc]
  refine Eq.trans ?_ (order fun j : Fin 31 => D (256 * k.val + (x 0).val + 31 - j.val) (x 1) * w j (x 1))
  repeat' refine congrArg₂ (fun a b : EReal => a + b) ?_ ?_
  all_goals
    refine congrArg (fun n => D n (x 1) * _) ?_
    simp only [Fin.isValue, Fin.reduceFinMk, Fin.val_zero, Fin.val_one, Fin.coe_ofNat_eq_mod]
    omega

end Cert.Conv
-- ==== Proof.ConvSum.lean ====
module

public import proofs.«01_k».proof.Proof.Gen.KernelIdeal.Frame
public import proofs.«01_k».proof.Proof.Gen.KernelIdeal.Loops
public import proofs.«01_k».proof.Proof.ConvBase
public import Idealize.ShloMosaic.Lib.Pipeline.ValueKit
public import Idealize.ShloMosaic.Lib.Pointwise

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- What one trip adds to the partial sum of row `s` of tap `j`: the rows `8 g + s` of its 256 rows. -/
def sumAt (U D : ℕ → Fin 128 → EReal) (b : ℕ) (j s : ℕ) (ch : Fin 128) : EReal :=
  ∑ g : Fin 32, if j = 31 then D (b + 8 * g.val + s + 16) ch else U (b + 8 * g.val + s + j + 1) ch * D (b + 8 * g.val + s + 16) ch

set_option maxHeartbeats 4000000 in
/-- What one trip stores of the taps' gradients: for each tap its chunk's sums over every eighth row. -/
theorem trip11 (B : Bufs) (c : Dev nD) (i : grid0.Coords) (X4 : BufTy.Contents (Elt Ideal) B.a4.view.ty) (X8 : BufTy.Contents (Elt Ideal) B.a8.view.ty)
    (X9 : BufTy.Contents (Elt Ideal) B.a9.view.ty) (k : Fin k0_t1_loop.trips) (U D : ℕ → Fin 128 → EReal)
    (h8 : ∀ y : S4128x128.Idx, View.read (Elt Ideal) B.a8.view X8 y = U (y 0).val (y 1))
    (h9 : ∀ y : S4128x128.Idx, View.read (Elt Ideal) B.a9.view X9 y = D (y 0).val (y 1))
    (f10 : BufTy.Contents (Elt Ideal) B.a10.view.ty) (f11 : BufTy.Contents (Elt Ideal) B.a11.view.ty) :
    ∀ p ∈ (trip B c i X4 X8 X9 k).2.1 f10 f11, ∀ x : p.1.shape.Idx, p.2 x = View.read (Elt Ideal) B.a11.view f11 (p.1.idx x)
       + sumAt U D (256 * k.val) (p.1.idx x 0).val (p.1.idx x 1).val (p.1.idx x 2) := by
  unfold trip trip_k0_t1
  dsimp only
  simp only [List.mem_cons, List.not_mem_nil, or_false, forall_eq_or_imp, forall_eq]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    intro x
    have e : k0_off1 k 0 = 256 * k.val ∧ k0_off1 k 1 = 0 := by rw [off1]; exact ⟨rfl, rfl⟩
    have hx : (x 1).val < 8 := (x 1).isLt
    have hc : ∀ h, (⟨0 + (x 2).val, h⟩ : Fin 128) = x 2 := fun _ => Fin.ext (Nat.zero_add _)
    simp only [trip_k0_t1.sl.r, trip_k0_t1.sl.r_1, trip_k0_t1.sl.r_2, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.v266, trip_k0_t1.sl.v276, trip_k0_t1.sl.v287, trip_k0_t1.sl.v297, trip_k0_t1.sl.v307, trip_k0_t1.sl.v317, trip_k0_t1.sl.v328, trip_k0_t1.sl.v338, trip_k0_t1.sl.v348, trip_k0_t1.sl.v358, trip_k0_t1.sl.v369, trip_k0_t1.sl.v379, trip_k0_t1.sl.v389, trip_k0_t1.sl.v399, trip_k0_t1.sl.v410, trip_k0_t1.sl.v420, trip_k0_t1.sl.v430, trip_k0_t1.sl.v440, trip_k0_t1.sl.v451, trip_k0_t1.sl.v461, trip_k0_t1.sl.v471, trip_k0_t1.sl.v481, trip_k0_t1.sl.v492, trip_k0_t1.sl.v502, trip_k0_t1.sl.v512, trip_k0_t1.sl.v522, trip_k0_t1.sl.v533, trip_k0_t1.sl.v543, trip_k0_t1.sl.v553, trip_k0_t1.sl.v563, trip_k0_t1.sl.v572]
    pointwise [k0_pay5, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, View.readAt_apply, h8, h9]
    simp only [e.1, e.2, hc, sumAt, Nat.reduceEqDiff, reduceIte]
    refine congrArg (fun z : EReal => _ + z) (Finset.sum_congr (M := EReal) rfl fun g _ => ?_)
    first
    | refine congrArg (fun n => D n (x 2)) ?_
      omega
    | refine congrArg₂ (fun n m => U n (x 2) * D m (x 2)) ?_ ?_ <;> omega

end Cert.Conv
-- ==== Proof.ConvVal.lean ====
module

public import proofs.«01_k».proof.Proof.Gen.KernelIdeal.Frame
public import proofs.«01_k».proof.Proof.Gen.KernelIdeal.Loops
public import proofs.«01_k».proof.Proof.ConvRun
public import proofs.«01_k».proof.Proof.ConvTap
public import proofs.«01_k».proof.Proof.ConvSum
public import Idealize.ShloMosaic.Lib.Pipeline.ValueKit
public import Idealize.ShloMosaic.Lib.Pointwise

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The rows of `g` after sixteen rows of zeros, and zeros after them. -/
def padAt (g : Fin 4096 → Fin 128 → EReal) (n : ℕ) (ch : Fin 128) : EReal :=
  if h : 16 ≤ n ∧ n < 4112 then g ⟨n - 16, by omega⟩ ch else 0

/-- A buffer stored as sixteen rows of zeros, a block and sixteen rows of zeros reads as the padded block. -/
theorem read_pad (v : View sig .tc .vmem S4128x128 .f32) (f : BufTy.Contents (Elt Ideal) v.ty) (p : Vec Ideal S4096x128 .f32)
    (z z' : Vec Ideal S16x128 .f32) (hz : ∀ x, z x = (0 : EReal)) (hz' : ∀ x, z' x = (0 : EReal)) (y : S4128x128.Idx) :
    View.read (Elt Ideal) v (v.writes (Elt Ideal) f
        [⟨Rect.unit ![16, 0] ![4096, 128] inb_S4128x128_S4096x128_16_0, p⟩,
          ⟨Rect.unit ![4112, 0] ![16, 128] inb_S4128x128_S16x128_4112_0, z⟩,
          ⟨Rect.unit ![0, 0] ![16, 128] inb_S4128x128_S16x128_0_0, z'⟩]) y
      = padAt (fun r ch => p (ix2 r ch)) (y 0).val (y 1) := by
  have hy0 : (y 0).val < 4128 := (y 0).isLt
  have hy1 : (y 1).val < 128 := (y 1).isLt
  have hc : ∀ y : S4128x128.Idx, ∃ q ∈ ([⟨Rect.unit ![16, 0] ![4096, 128] inb_S4128x128_S4096x128_16_0, p⟩,
          ⟨Rect.unit ![4112, 0] ![16, 128] inb_S4128x128_S16x128_4112_0, z⟩,
          ⟨Rect.unit ![0, 0] ![16, 128] inb_S4128x128_S16x128_0_0, z'⟩] : List (View.Piece (Elt Ideal) S4128x128 .f32)), y ∈ q.1.set := by
    intro y
    have hy0 : (y 0).val < 4128 := (y 0).isLt
    have hy1 : (y 1).val < 128 := (y 1).isLt
    by_cases h : (y 0).val < 16
    · refine ⟨⟨Rect.unit ![0, 0] ![16, 128] inb_S4128x128_S16x128_0_0, z'⟩, List.mem_cons_of_mem _ (List.mem_cons_of_mem _ List.mem_cons_self), ?_⟩
      rw [Rect.mem_set_unit]
      exact Fin.forall_fin_two.2 ⟨⟨Nat.zero_le _, h⟩, ⟨Nat.zero_le _, by simpa using hy1⟩⟩
    by_cases h' : (y 0).val < 4112
    · refine ⟨_, List.mem_cons_self, ?_⟩
      rw [Rect.mem_set_unit]
      exact Fin.forall_fin_two.2 ⟨⟨Nat.le_of_not_lt h, h'⟩, ⟨Nat.zero_le _, by simpa using hy1⟩⟩
    · refine ⟨_, List.mem_cons_of_mem _ List.mem_cons_self, ?_⟩
      rw [Rect.mem_set_unit]
      exact Fin.forall_fin_two.2 ⟨⟨Nat.le_of_not_lt h', hy0⟩, ⟨Nat.zero_le _, by simpa using hy1⟩⟩
  rw [View.read_writes_eq_canon _ _ _ hc]
  refine View.canon_apply_of_pieces (Val := Elt Ideal) (S := S4128x128) (e := .f32) (fun y => padAt (fun r ch => p (ix2 r ch)) (y 0).val (y 1)) _ ?_ y (hc y)
  simp only [List.mem_cons, List.not_mem_nil, _root_.or_false, forall_eq_or_imp, forall_eq]
  refine ⟨fun x => ?_, fun x => ?_, fun x => ?_⟩
  · have hx : (x 0).val < 4096 := (x 0).isLt
    unfold padAt
    rw [dif_pos (by constructor <;> simp [Rect.emb_apply] <;> omega)]
    refine congrArg p (funext fun a => ?_)
    fin_cases a <;> apply Fin.ext <;> simp
  · have hx : (x 0).val < 16 := (x 0).isLt
    unfold padAt
    rw [dif_neg (by simp), hz]
  · have hx : (x 0).val < 16 := (x 0).isLt
    unfold padAt
    rw [dif_neg (by simp; omega), hz']

/-- A trip stores every partial sum. -/
theorem trip_cover11 (B : Bufs) (c : Dev nD) (i : grid0.Coords) (X4 : BufTy.Contents (Elt Ideal) B.a4.view.ty) (X8 : BufTy.Contents (Elt Ideal) B.a8.view.ty) (X9 : BufTy.Contents (Elt Ideal) B.a9.view.ty) (k : Fin k0_t1_loop.trips)
    (f10 : BufTy.Contents (Elt Ideal) B.a10.view.ty) (f11 : BufTy.Contents (Elt Ideal) B.a11.view.ty) :
    ∀ y, ∃ p ∈ (trip B c i X4 X8 X9 k).2.1 f10 f11, y ∈ p.1.set := by
  unfold trip trip_k0_t1
  exact View.cover_of_tiled _ ![1, 8, 128] (by rfl)

/-- Every store of the trips into the gradient's buffer holds the taps' sums of its rows. -/
theorem pieces10 (B : Bufs) (c : Dev nD) (i : grid0.Coords) (X4 : BufTy.Contents (Elt Ideal) B.a4.view.ty) (X8 : BufTy.Contents (Elt Ideal) B.a8.view.ty) (X9 : BufTy.Contents (Elt Ideal) B.a9.view.ty) (D : ℕ → Fin 128 → EReal) (w : Fin 31 → Fin 128 → EReal)
    (h9 : ∀ y : S4128x128.Idx, View.read (Elt Ideal) B.a9.view X9 y = D (y 0).val (y 1))
    (h4 : ∀ y : S1x31x128.Idx, View.read (Elt Ideal) B.a4.view X4 y = w (y 1) (y 2)) (G10 : BufTy.Contents (Elt Ideal) B.a10.view.ty) (G11 : BufTy.Contents (Elt Ideal) B.a11.view.ty) (n : ℕ) (hn : n ≤ k0_t1_loop.trips) :
    ∀ p ∈ (pb B c i X4 X8 X9 G10 G11 n).1, ∀ x : p.1.shape.Idx, p.2 x = duAt D w (p.1.idx x 0).val (p.1.idx x 1) := by
  induction n with
  | zero => intro p hp; exact absurd hp List.not_mem_nil
  | succ n ih =>
    rw [pb_succ B c i X4 X8 X9 G10 G11 ⟨n, hn⟩]
    intro p hp
    rcases List.mem_append.1 hp with h | h
    · exact trip10 B c i X4 X8 X9 ⟨n, hn⟩ D w h9 h4 _ _ p h
    · exact ih (Nat.le_of_succ_le hn) p h

/-- The partial sums after the trips before trip `n`: what they were and what those trips add. -/
theorem read11 (B : Bufs) (c : Dev nD) (i : grid0.Coords) (X4 : BufTy.Contents (Elt Ideal) B.a4.view.ty) (X8 : BufTy.Contents (Elt Ideal) B.a8.view.ty) (X9 : BufTy.Contents (Elt Ideal) B.a9.view.ty) (U D : ℕ → Fin 128 → EReal)
    (h8 : ∀ y : S4128x128.Idx, View.read (Elt Ideal) B.a8.view X8 y = U (y 0).val (y 1))
    (h9 : ∀ y : S4128x128.Idx, View.read (Elt Ideal) B.a9.view X9 y = D (y 0).val (y 1)) (G10 : BufTy.Contents (Elt Ideal) B.a10.view.ty) (G11 : BufTy.Contents (Elt Ideal) B.a11.view.ty) (n : ℕ) (hn : n ≤ k0_t1_loop.trips) (y : S32x8x128.Idx) :
    View.read (Elt Ideal) B.a11.view (B.a11.view.writes (Elt Ideal) G11 (pb B c i X4 X8 X9 G10 G11 n).2) y
      = View.read (Elt Ideal) B.a11.view G11 y + ∑ k : Fin n, sumAt U D (256 * k.val) (y 0).val (y 1).val (y 2) := by
  induction n with
  | zero => exact (add_zero (M := EReal) _).symm
  | succ n ih =>
    rw [pb_succ B c i X4 X8 X9 G10 G11 ⟨n, hn⟩]
    rw [View.writes_append, View.read_writes_eq_canon _ _ _ (trip_cover11 B c i X4 X8 X9 ⟨n, hn⟩ _ _)]
    rw [Fin.sum_univ_castSucc, ← add_assoc]
    refine (View.canon_apply_of_pieces (Val := Elt Ideal) (S := S32x8x128) (e := .f32)
      (fun y => View.read (Elt Ideal) B.a11.view (B.a11.view.writes (Elt Ideal) G11 (pb B c i X4 X8 X9 G10 G11 n).2) y
        + sumAt U D (256 * n) (y 0).val (y 1).val (y 2)) _
      (trip11 B c i X4 X8 X9 ⟨n, hn⟩ U D h8 h9 _ _) y (trip_cover11 B c i X4 X8 X9 ⟨n, hn⟩ _ _ y)).trans ?_
    exact congrArg (· + sumAt U D (256 * n) (y 0).val (y 1).val (y 2)) (ih (Nat.le_of_succ_le hn))

/-- The gated values' rows and the incoming gradient's, between zeros. -/
abbrev gated (x0 x1 : Vec Ideal S4096x128 .f32) : ℕ → Fin 128 → EReal := padAt fun r ch => x0 (ix2 r ch) * k0_pay79 x1 (ix2 r ch)
/-- The incoming gradients, padded. -/
abbrev incoming (x2 : Vec Ideal S4096x128 .f32) : ℕ → Fin 128 → EReal := padAt fun r ch => x2 (ix2 r ch)

/-- The buffer of gated values reads as them padded. -/
theorem read_u8 (B : Bufs) (x0 x1 : Vec Ideal S4096x128 .f32) (y : S4128x128.Idx) :
    View.read (Elt Ideal) B.a8.view (u8 B x0 x1) y = gated x0 x1 (y 0).val (y 1) := by
  refine (read_pad _ _ _ _ _ (fun x => ?_) (fun x => ?_) y).trans ?_
  · pointwise [k0_pay76, k0_pay74]
  · pointwise [k0_pay75, k0_pay74]
  · refine congrArg (fun g => padAt g _ _) (funext fun r => funext fun ch => ?_)
    pointwise [k0_pay80]

/-- The buffer of incoming gradients reads as them padded. -/
theorem read_d9 (B : Bufs) (x2 : Vec Ideal S4096x128 .f32) (y : S4128x128.Idx) :
    View.read (Elt Ideal) B.a9.view (d9 B x2) y = incoming x2 (y 0).val (y 1) := by
  refine (read_pad _ _ _ _ _ (fun x => ?_) (fun x => ?_) y).trans ?_
  · pointwise [k0_pay78, k0_pay74]
  · pointwise [k0_pay77, k0_pay74]
  · refine congrArg (fun g => padAt g _ _) (funext fun r => funext fun ch => ?_)
    pointwise [k0_pay81]

/-- The block of taps reads as the taps. -/
theorem read_w (B : Bufs) (x3 : Vec Ideal S1x31x128 .f32) (y : S1x31x128.Idx) :
    View.read (Elt Ideal) B.a4.view (B.h4.unread x3) y = x3 (ix3 0 (y 1) (y 2)) := by
  rw [B.h4.read_unread]
  refine congrArg x3 (funext fun a => ?_)
  fin_cases a
  · exact Subsingleton.elim (α := Fin 1) _ _
  · rfl
  · rfl

/-- The gradient of the gated values: the taps' sums. -/
theorem duB_apply (B : Bufs) (c : Dev nD) (i : grid0.Coords) (x0 : Vec Ideal S4096x128 .f32) (x1 : Vec Ideal S4096x128 .f32) (x2 : Vec Ideal S4096x128 .f32) (x3 : Vec Ideal S1x31x128 .f32) (y : S4096x128.Idx) :
    duB B c i x0 x1 x2 x3 y = duAt (incoming x2) (fun j ch => x3 (ix3 0 j ch)) (y 0).val (y 1) := by
  have hc := fun (y : S4096x128.Idx) => pb_cover B c i (B.h4.unread x3) (u8 B x0 x1) (d9 B x2) B.a10.view.junk (z11 B) k0_t1_loop.trips le_rfl y
    (by rw [trips16]; exact (y 0).isLt)
  unfold duB
  rw [View.read_writes_eq_canon _ _ _ hc]
  exact View.canon_apply_of_pieces (Val := Elt Ideal) (S := S4096x128) (e := .f32)
    (fun y => duAt (incoming x2) (fun j ch => x3 (ix3 0 j ch)) (y 0).val (y 1)) _
    (pieces10 B c i _ _ _ _ _ (read_d9 B x2) (read_w B x3) _ _ _ le_rfl) y (hc y)

/-- The partial sums: what the sixteen trips add. -/
theorem sumB_apply (B : Bufs) (c : Dev nD) (i : grid0.Coords) (x0 : Vec Ideal S4096x128 .f32) (x1 : Vec Ideal S4096x128 .f32) (x2 : Vec Ideal S4096x128 .f32) (x3 : Vec Ideal S1x31x128 .f32) (y : S32x8x128.Idx) :
    sumB B c i x0 x1 x2 x3 y = ∑ k : Fin 16, sumAt (gated x0 x1) (incoming x2) (256 * k.val) (y 0).val (y 1).val (y 2) := by
  unfold sumB
  refine (read11 B c i _ _ _ _ _ (read_u8 B x0 x1) (read_d9 B x2) _ _ 16 (le_of_eq trips16.symm) y).trans ?_
  have hz : View.read (Elt Ideal) B.a11.view (z11 B) y = (0 : EReal) := by
    refine (congrFun (View.read_writes_full _ _ _ _ _) y).trans ?_
    pointwise [k0_pay1]
  rw [hz]
  exact zero_add _

end Cert.Conv
-- ==== Proof.ConvLaunch.lean ====
module

public import proofs.«01_k».proof.Proof.Gen.KernelIdeal.Frame
public import proofs.«01_k».proof.Proof.Gen.KernelIdeal.Loops
public import proofs.«01_k».proof.Proof.ConvRun
public import Idealize.ShloMosaic.Lib.Claim
public import Idealize.ShloMosaic.Lib.Pipeline.ValueKit
public import Idealize.ShloMosaic.Lib.Pointwise

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the pipeline calls the body with at point `t`. -/
def bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), Memref.whole cc0_scratch0, Memref.isWhole_whole _, Memref.whole cc0_scratch1, Memref.isWhole_whole _, Memref.whole cc0_scratch2, Memref.isWhole_whole _, Memref.whole cc0_scratch3, Memref.isWhole_whole _⟩

/-- What the body leaves in the three results' buffers at point `t`. -/
def out4 (c : Dev nD) (t : Fin cfg0.N) : Vec F S4096x128 .bf16 :=
  k0_pay2 (k0_pay79 (iblk m c 1 t)) (duB (bufs t) c (grid0.coords t) (iblk m c 0 t) (iblk m c 1 t) (iblk m c 2 t) (iblk m c 3 t))
/-- What a point writes of the second result. -/
def out5 (c : Dev nD) (t : Fin cfg0.N) : Vec F S4096x128 .bf16 :=
  k0_pay3 (k0_pay79 (iblk m c 1 t)) (duB (bufs t) c (grid0.coords t) (iblk m c 0 t) (iblk m c 1 t) (iblk m c 2 t) (iblk m c 3 t)) (iblk m c 0 t)
/-- What a point writes of the third result. -/
def out6 (c : Dev nD) (t : Fin cfg0.N) : Vec F S32x128 .f32 :=
  k0_pay4 (sumB (bufs t) c (grid0.coords t) (iblk m c 0 t) (iblk m c 1 t) (iblk m c 2 t) (iblk m c 3 t))

/-- The launch's data: the inputs' buffers keep their blocks, the results' end at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => out5 m c t
    | ⟨6, _⟩ => out6 m c t
  Φ _ := Pipeline.ΦA spec0 c
  q w := Pipeline.shareOf spec0 w
  owed _ := 0

/-- The arrays are as launched when the region is entered. -/
theorem A_eq (c : Dev nD) (w : Fin cfg0.W) : (dats m 0 c).A w = V m c (Pipeline.arrRef spec0 w) := by dsimp only [dats]

/-- What window 0 holds after a point. -/
theorem after0 (c : Dev nD) (t : Fin cfg0.N) : (dats m 0 c).after 0 t = iblk m c 0 t := by dsimp only [dats]
/-- What window 1 holds after a point. -/
theorem after1 (c : Dev nD) (t : Fin cfg0.N) : (dats m 0 c).after 1 t = iblk m c 1 t := by dsimp only [dats]
/-- What window 2 holds after a point. -/
theorem after2 (c : Dev nD) (t : Fin cfg0.N) : (dats m 0 c).after 2 t = iblk m c 2 t := by dsimp only [dats]
/-- What window 3 holds after a point. -/
theorem after3 (c : Dev nD) (t : Fin cfg0.N) : (dats m 0 c).after 3 t = iblk m c 3 t := by dsimp only [dats]
/-- What window 4 holds after a point. -/
theorem after4 (c : Dev nD) (t : Fin cfg0.N) : (dats m 0 c).after 4 t = out4 m c t := by dsimp only [dats]
/-- What window 5 holds after a point. -/
theorem after5 (c : Dev nD) (t : Fin cfg0.N) : (dats m 0 c).after 5 t = out5 m c t := by dsimp only [dats]
/-- What window 6 holds after a point. -/
theorem after6 (c : Dev nD) (t : Fin cfg0.N) : (dats m 0 c).after 6 t = out6 m c t := by dsimp only [dats]

/-- What input window 0 holds before a point. -/
theorem before0 (c : Dev nD) (t : Fin cfg0.N) (d) : (dats m 0 c).before 0 t d = iblk m c 0 t :=
  before0_0_of m (dats m 0 c) (A_eq m c 0) (after0 m c) t d
/-- What input window 1 holds before a point. -/
theorem before1 (c : Dev nD) (t : Fin cfg0.N) (d) : (dats m 0 c).before 1 t d = iblk m c 1 t :=
  before0_1_of m (dats m 0 c) (A_eq m c 1) (after1 m c) t d
/-- What input window 2 holds before a point. -/
theorem before2 (c : Dev nD) (t : Fin cfg0.N) (d) : (dats m 0 c).before 2 t d = iblk m c 2 t :=
  before0_2_of m (dats m 0 c) (A_eq m c 2) (after2 m c) t d
/-- What input window 3 holds before a point. -/
theorem before3 (c : Dev nD) (t : Fin cfg0.N) (d) : (dats m 0 c).before 3 t d = iblk m c 3 t :=
  before0_3_of m (dats m 0 c) (A_eq m c 3) (after3 m c) t d

/-- The launch's invariant: the four scratch buffers at some contents, and the generator's register. -/
theorem inv_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, after6]
  rw [show (dats m 0 c).Φ t.castSucc = Pipeline.ΦA spec0 c from rfl, inv_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (run (bufs t) c (grid0.coords t) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  iintro ⟨H0, H1, H2, H3, H4, H5, H6, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table's row of the call is its body at the point. -/
theorem row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 800000 in
/-- The launch: the arrays end at what the data say, and every semaphore at zero. -/
theorem launch : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.Conv
-- ==== Proof.ConvFin.lean ====
module

public import proofs.«01_k».proof.Proof.Gen.KernelIdeal.Frame
public import proofs.«01_k».proof.Proof.Gen.KernelIdeal.Loops
public import proofs.«01_k».proof.Proof.ConvVal
public import proofs.«01_k».proof.Proof.ConvLaunch
public import Idealize.ShloMosaic.Lib.Pipeline.ValueKit
public import Idealize.ShloMosaic.Lib.Pointwise

@[expose] public section

set_option maxRecDepth 16384

noncomputable section

namespace Cert.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-- The entries of a column after sixteen zeros, and zeros after them. -/
def colPad (g : Fin 4096 → EReal) (n : ℕ) : EReal := if h : 16 ≤ n ∧ n < 4112 then g ⟨n - 16, by omega⟩ else 0

/-- The gradient of a column of gated values: the taps' sum at row `r`, from the column `d` of incoming gradients and the taps `w`. -/
def duCol (d : Fin 4096 → EReal) (w : Fin 31 → EReal) (r : ℕ) : EReal := ∑ j : Fin 31, colPad d (r + 31 - j.val) * w j

/-- The gate: one over one and the exponential of minus the entry 1024 columns on. -/
def gateAt (A : S4096x5120.Idx → EReal) (r : Fin 4096) (ch : Fin 1024) : EReal :=
  Ideal.div 1 (1 + Ideal.exp (0 - A (ix2 r ⟨1024 + ch.val, by omega⟩)))

/-- The values gated. -/
def valAt (A : S4096x5120.Idx → EReal) (r : Fin 4096) (ch : Fin 1024) : EReal := A (ix2 r ⟨ch.val, by omega⟩)

/-- At point `t` the blocks are the `t`-th 128 columns of each array; the gate's start 1024 columns on, the taps are the second layer's. -/
theorem idx : ∀ t : Fin cfg0.N, win0_0.index t = ![0, t.val] ∧ win0_1.index t = ![0, 8 + t.val] ∧ win0_2.index t = ![0, t.val]
    ∧ win0_3.index t = ![1, 0, t.val] ∧ win0_4.index t = ![0, t.val] ∧ win0_5.index t = ![0, t.val] ∧ win0_6.index t = ![0, t.val] :=
  (by decide +kernel : ∀ t : Fin grid0.N, _)

/-- Block `t` of the values. -/
theorem blk0 (c : Dev nD) (t : Fin cfg0.N) (y : S4096x128.Idx) (h : t.val * 128 + (y 1).val < 5120) :
    iblk m c 0 t y = m ((c : Thread nD τ).loc main_arg0) (ix2 (y 0) ⟨t.val * 128 + (y 1).val, h⟩) := by
  show m ((c : Thread nD τ).loc main_arg0) ((win0_0.blk t).view.emb y) = _
  congr 1; blk_ext [(idx t).1]

/-- Block `t` of what the gate is taken of. -/
theorem blk1 (c : Dev nD) (t : Fin cfg0.N) (y : S4096x128.Idx) (h : 1024 + (t.val * 128 + (y 1).val) < 5120) :
    iblk m c 1 t y = m ((c : Thread nD τ).loc main_arg0) (ix2 (y 0) ⟨1024 + (t.val * 128 + (y 1).val), h⟩) := by
  show m ((c : Thread nD τ).loc main_arg0) ((win0_1.blk t).view.emb y) = _
  congr 1; blk_ext [(idx t).2.1]

/-- Block `t` of the incoming gradients. -/
theorem blk2 (c : Dev nD) (t : Fin cfg0.N) (r : Fin 4096) (ch : Fin 128) (h : t.val * 128 + ch.val < 1024) :
    iblk m c 2 t (ix2 r ch) = m ((c : Thread nD τ).loc main_arg1) (ix2 r ⟨t.val * 128 + ch.val, h⟩) := by
  show m ((c : Thread nD τ).loc main_arg1) ((win0_2.blk t).view.emb (ix2 r ch)) = _
  congr 1; blk_ext [(idx t).2.2.1]

/-- Block `t` of the taps. -/
theorem blk3 (c : Dev nD) (t : Fin cfg0.N) (k : Fin 31) (ch : Fin 128) (h : t.val * 128 + ch.val < 1024) :
    iblk m c 3 t (ix3 0 k ch) = m ((c : Thread nD τ).loc main_arg2) (ix3 1 k ⟨t.val * 128 + ch.val, h⟩) := by
  show m ((c : Thread nD τ).loc main_arg2) ((win0_3.blk t).view.emb (ix3 0 k ch)) = _
  congr 1; blk_ext [(idx t).2.2.2.1]

/-- The grid has eight points. -/
theorem lt8 (t : Fin cfg0.N) : t.val < 8 := t.isLt

/-- The taps' sum of block `t`, in the whole array's columns. -/
theorem duAt_blk (c : Dev nD) (t : Fin cfg0.N) (n : ℕ) (ch : Fin 128) (h : t.val * 128 + ch.val < 1024) :
    duAt (incoming (iblk m c 2 t)) (fun j ch => iblk m c 3 t (ix3 0 j ch)) n ch
      = duCol (fun r => m ((c : Thread nD τ).loc main_arg1) (ix2 r ⟨t.val * 128 + ch.val, h⟩))
        (fun k => m ((c : Thread nD τ).loc main_arg2) (ix3 1 k ⟨t.val * 128 + ch.val, h⟩)) n := by
  unfold duAt duCol
  refine Finset.sum_congr (M := EReal) rfl fun j _ => ?_
  refine congrArg₂ (· * ·) ?_ (blk3 m c t j ch h)
  unfold incoming padAt colPad
  split
  · exact blk2 m c t _ ch h
  · rfl

/-- The gate of block `t`. -/
theorem gate_blk (c : Dev nD) (t : Fin cfg0.N) (y : S4096x128.Idx) (h : t.val * 128 + (y 1).val < 1024) :
    k0_pay79 (iblk m c 1 t) y = gateAt (m ((c : Thread nD τ).loc main_arg0)) (y 0) ⟨t.val * 128 + (y 1).val, h⟩ := by
  pointwise [k0_pay79]
  unfold gateAt
  rw [blk1 m c t y (by omega)]

/-- The first result's array. -/
theorem final4 (c : Dev nD) : (dats m 0 c).arrAt 4 cfg0.N
    = fun j : S4096x1024.Idx => duCol (fun r => m ((c : Thread nD τ).loc main_arg1) (ix2 r (j 1)))
        (fun k => m ((c : Thread nD τ).loc main_arg2) (ix3 1 k (j 1))) (j 0).val * gateAt (m ((c : Thread nD τ).loc main_arg0)) (j 0) (j 1) := by
  refine (dats m 0 c).arrAt_eq_of_covers 4 _ (by decide +kernel) fun t hf y => ?_
  have ht := lt8 t
  have hy : (y 1).val < 128 := (y 1).isLt
  have e : (win0_4.blk t).view.emb y = ix2 (y 0) (⟨t.val * 128 + (y 1).val, by omega⟩ : Fin 1024) := by blk_ext [(idx t).2.2.2.2.1]
  have hg := gate_blk m c t y (by omega)
  have hd := duAt_blk m c t (y 0).val (y 1) (by omega)
  have e0 : win0_4.index t 0 = 0 := congrFun (idx t).2.2.2.2.1 0
  blk_simp
  rw [after4, e, e0, Nat.zero_mul, Nat.zero_add]
  unfold out4
  pointwise [k0_pay2, duB_apply]
  rw [hd, hg]

/-- The second result's array. -/
theorem final5 (c : Dev nD) : (dats m 0 c).arrAt 5 cfg0.N
    = fun j : S4096x1024.Idx => duCol (fun r => m ((c : Thread nD τ).loc main_arg1) (ix2 r (j 1)))
        (fun k => m ((c : Thread nD τ).loc main_arg2) (ix3 1 k (j 1))) (j 0).val * valAt (m ((c : Thread nD τ).loc main_arg0)) (j 0) (j 1)
        * gateAt (m ((c : Thread nD τ).loc main_arg0)) (j 0) (j 1) * (1 - gateAt (m ((c : Thread nD τ).loc main_arg0)) (j 0) (j 1)) := by
  refine (dats m 0 c).arrAt_eq_of_covers 5 _ (by decide +kernel) fun t hf y => ?_
  have ht := lt8 t
  have hy : (y 1).val < 128 := (y 1).isLt
  have e : (win0_5.blk t).view.emb y = ix2 (y 0) (⟨t.val * 128 + (y 1).val, by omega⟩ : Fin 1024) := by blk_ext [(idx t).2.2.2.2.2.1]
  have hg := gate_blk m c t y (by omega)
  have hv := blk0 m c t y (by omega)
  have hd := duAt_blk m c t (y 0).val (y 1) (by omega)
  have e0 : win0_5.index t 0 = 0 := congrFun (idx t).2.2.2.2.2.1 0
  blk_simp
  rw [after5, e, e0, Nat.zero_mul, Nat.zero_add]
  unfold out5
  pointwise [k0_pay3, duB_apply]
  rw [hd, hg, hv]
  rfl

/-- A sum over a product of lengths. -/
theorem sum_mul (a b : ℕ) (f : ℕ → EReal) : ∑ t : Fin (a * b), f t.val = ∑ i : Fin a, ∑ j : Fin b, f (j.val + b * i.val) := by
  rw [← Equiv.sum_comp finProdFinEquiv, Fintype.sum_prod_type]
  rfl

/-- A sum over eight, sixteen and thirty-two is one over 4096. -/
theorem sum_split (f : ℕ → EReal) :
    (∑ s : Fin 8, ∑ k : Fin 16, ∑ g : Fin 32, f (256 * k.val + 8 * g.val + s.val)) = ∑ t : Fin 4096, f t.val := by
  refine Eq.trans ?_ (sum_mul 16 256 f).symm
  rw [Finset.sum_comm]
  refine Finset.sum_congr (M := EReal) rfl fun k _ => ?_
  refine Eq.trans ?_ (sum_mul 32 8 fun n => f (n + 256 * k.val)).symm
  rw [Finset.sum_comm]
  refine Finset.sum_congr (M := EReal) rfl fun g _ => Finset.sum_congr (M := EReal) rfl fun s _ => ?_
  congr 1; omega

/-- The third result: for each tap the sum of the gated values' products with the incoming gradients, last the gradients' sum. -/
def dwCol (u d : Fin 4096 → EReal) (k : ℕ) : EReal :=
  ∑ t : Fin 4096, if k = 31 then d t else colPad u (t.val + k + 1) * d t

/-- The third result's array. -/
theorem final6 (c : Dev nD) : (dats m 0 c).arrAt 6 cfg0.N
    = fun j : S32x1024.Idx => dwCol (fun r => valAt (m ((c : Thread nD τ).loc main_arg0)) r (j 1) * gateAt (m ((c : Thread nD τ).loc main_arg0)) r (j 1))
        (fun r => m ((c : Thread nD τ).loc main_arg1) (ix2 r (j 1))) (j 0).val := by
  refine (dats m 0 c).arrAt_eq_of_covers 6 _ (by decide +kernel) fun t hf y => ?_
  have ht := lt8 t
  have hy : (y 1).val < 128 := (y 1).isLt
  have e : (win0_6.blk t).view.emb y = ix2 (y 0) (⟨t.val * 128 + (y 1).val, by omega⟩ : Fin 1024) := by blk_ext [(idx t).2.2.2.2.2.2]
  have e0 : win0_6.index t 0 = 0 := congrFun (idx t).2.2.2.2.2.2 0
  blk_simp
  rw [after6, e, e0, Nat.zero_mul, Nat.zero_add]
  unfold out6
  pointwise [k0_pay4, sumB_apply]
  have hd (n : ℕ) : incoming (iblk m c 2 t) n (y 1)
      = colPad (fun r => m ((c : Thread nD τ).loc main_arg1) (ix2 r ⟨t.val * 128 + (y 1).val, by omega⟩)) n := by
    unfold incoming padAt colPad
    split
    · exact blk2 m c t _ (y 1) (by omega)
    · rfl
  have hu (n : ℕ) : gated (iblk m c 0 t) (iblk m c 1 t) n (y 1)
      = colPad (fun r => valAt (m ((c : Thread nD τ).loc main_arg0)) r ⟨t.val * 128 + (y 1).val, by omega⟩
        * gateAt (m ((c : Thread nD τ).loc main_arg0)) r ⟨t.val * 128 + (y 1).val, by omega⟩) n := by
    unfold gated padAt colPad
    split
    · exact congrArg₂ (· * ·) (blk0 m c t (ix2 _ (y 1)) (by show t.val * 128 + (y 1).val < 5120; omega))
        (gate_blk m c t (ix2 _ (y 1)) (by show t.val * 128 + (y 1).val < 1024; omega))
    · rfl
  have hp (g : Fin 4096 → EReal) (n : Fin 4096) : colPad g (n.val + 16) = g n := by
    unfold colPad
    rw [dif_pos ⟨by omega, by omega⟩]
    exact congrArg g (Fin.ext (Nat.add_sub_cancel ..))
  unfold sumAt dwCol
  simp only [hd, hu]
  refine (sum_split fun n => if (y 0).val = 31 then colPad _ (n + 16) else colPad _ (n + (y 0).val + 1) * colPad _ (n + 16)).trans ?_
  refine Finset.sum_congr (M := EReal) rfl fun n _ => ?_
  simp only [hp]

end Cert.Conv
-- ==== Proof.ConvRef.lean ====
module

public import proofs.«01_k».proof.Defs
public import proofs.«01_k».proof.Proof.Gen.ReferenceIdeal.Run
public import proofs.«01_k».proof.Proof.ConvFin
public import Idealize.ShloMosaic.Lib.Pointwise

/-! The reference's results at an index: the sums of the taps and the sums over the rows. -/

@[expose] public section

noncomputable section

namespace Cert.Conv

open Cert.ReferenceIdeal Cert.ReferenceIdeal.Gen Cert.ReferenceIdeal.Value Idealize.ShloMosaic Idealize.ShloMosaic.TcCoe Idealize.SL.Sem

variable (V : Valuation τ sig (Elt Ideal))

/-- The values and gates the reference reads. -/
abbrev argA : S4096x5120.Idx → EReal := V (Proc.devRef .tc main_arg0)

/-- The incoming gradients the reference reads. -/
abbrev argD : S4096x1024.Idx → EReal := V (Proc.devRef .tc main_arg1)

/-- The taps the reference reads. -/
abbrev argW : S4x31x1024.Idx → EReal := V (Proc.devRef .tc main_arg2)

/-- The reference's gate. -/
theorem ref_gate (r : Fin 4096) (ch : Fin 1024) : res_main_v10 V (ix2 r ch) = gateAt (argA V) r ch := by
  unfold gateAt
  pointwise [res_main_v10]
  rw [sub_eq_add_neg, zero_add]

/-- The reference's values. -/
theorem ref_val (r : Fin 4096) (ch : Fin 1024) : res_main_v0 V (ix2 r ch) = valAt (argA V) r ch := by
  unfold valAt
  pointwise [res_main_v0]

/-- Outside the column the padded column is zero. -/
theorem colPad_neg (g : Fin 4096 → EReal) (n : ℕ) (h : ¬(16 ≤ n ∧ n < 4112)) : colPad g n = 0 := dif_neg h

/-- Sixteen rows on the padded column is the column. -/
theorem colPad_pos (g : Fin 4096 → EReal) (r : Fin 4096) (n : ℕ) (h : n = r.val + 16) : colPad g n = g r := by
  subst h
  unfold colPad
  rw [dif_pos ⟨by omega, by omega⟩]
  exact congrArg g (Fin.ext (Nat.add_sub_cancel ..))

/-- Rows appended before and after read as the padded column. -/
theorem ref_pad (k hi : ℕ) (x : FVec Ideal S4096x1024 .f32) (h hu) (r : Fin 4096) (ch : Fin 1024) (hr : 15 + r.val < 4126) :
    pad S4126x1024 ![k, 0] ![hi, 0] ![0, 0] x (constant S_ .f32 0x00000000#32 : FVec Ideal S_ .f32) h hu (ix2 ⟨15 + r.val, hr⟩ ch)
      = colPad (fun r => x (ix2 r ch)) (r.val + 31 - k) := by
  unfold colPad
  pointwise
  split
  · rw [dif_pos (by omega)]
    exact congrArg (fun i => x (ix2 i ch)) (Fin.ext (by show 15 + r.val - k = r.val + 31 - k - 16; omega))
  · rw [dif_neg (by omega)]

/-- The gated values between fifteen zeros read as the padded column. -/
theorem ref_cat (k : ℕ) (h) (r : Fin 4096) (ch : Fin 1024) :
    extractStridedSlice S4096x1024 ![k, 0] (res_main_v16 V) h (ix2 r ch)
      = colPad (fun r => valAt (argA V) r ch * gateAt (argA V) r ch) (r.val + k + 1) := by
  have hz : ∀ y, res_main_v15 V y = (0 : EReal) := fun y => by pointwise [res_main_v15]
  pointwise [res_main_v16]
  by_cases h1 : k + r.val < 15
  · exact (dif_pos h1).trans ((hz _).trans (colPad_neg _ _ (by omega)).symm)
  refine (dif_neg h1).trans ?_
  by_cases h2 : k + r.val - 15 < 4096
  · refine (dif_pos h2).trans (Eq.trans (congrArg₂ (fun a b : EReal => a * b) (ref_val V _ ch) (ref_gate V _ ch)) ?_)
    exact (colPad_pos (fun r => valAt (argA V) r ch * gateAt (argA V) r ch) ⟨k + r.val - 15, h2⟩ _ (by show r.val + k + 1 = k + r.val - 15 + 16; omega)).symm
  · exact (dif_neg h2).trans ((hz _).trans (colPad_neg _ _ (by omega)).symm)

/-- A tap's products, appended to before and after. -/
theorem ref_tap (k hi : ℕ) (d : FVec Ideal S4096x1024 .f32) (hd : ∀ y, d y = argD V y) (h1 : S31x1024.Slices ![k, 0] S1x1024) (h hu) (hk : k < 31) (r : Fin 4096) (ch : Fin 1024) (hr : 15 + r.val < 4126) :
    pad S4126x1024 ![k, 0] ![hi, 0] ![0, 0] (mulf d (broadcastInDim S4096x1024 ![0, 1] bcast_S1x1024_S4096x1024_0_1
        (broadcastInDim S1x1024 ![1] bcast_S1024_S1x1024_1 (shapeCast _ (extractStridedSlice S1x1024 ![k, 0] (res_main_v4 V) h1) shapeCasts_S1x1024_S1024))))
        (constant S_ .f32 0x00000000#32 : FVec Ideal S_ .f32) h hu (ix2 ⟨15 + r.val, hr⟩ ch)
      = colPad (fun r => argD V (ix2 r ch)) (r.val + 31 - k) * argW V (ix3 1 ⟨k, hk⟩ ch) := by
  rw [ref_pad, ← show d = argD V from funext hd]
  unfold colPad
  split
  · pointwise [res_main_v4]
  · exact (zero_mul _).symm

/-- The order in which the taps are added does not matter. -/
theorem ref_order (g : Fin 31 → EReal) :
    g 30 + g 29 + g 28 + g 27 + g 26 + g 25 + g 24 + g 23 + g 22 + g 21 + g 20 + g 19 + g 18 + g 17 + g 16 + g 15 + g 14 + g 13 + g 12 + g 11 + g 10 + g 9 + g 8 + g 7 + g 6 + g 5 + g 4 + g 3 + g 2 + g 1 + g 0 = ∑ j, g j := by
  have h : ∑ j, g j = g 0 + (g 1 + (g 2 + (g 3 + (g 4 + (g 5 + (g 6 + (g 7 + (g 8 + (g 9 + (g 10 + (g 11 + (g 12 + (g 13 + (g 14 + (g 15 + (g 16 + (g 17 + (g 18 + (g 19 + (g 20 + (g 21 + (g 22 + (g 23 + (g 24 + (g 25 + (g 26 + (g 27 + (g 28 + (g 29 + (g 30 )))))))))))))))))))))))))))))) := by
    simp only [Fin.sum_univ_succ, Finset.univ_eq_empty, Finset.sum_empty, add_zero]
    rfl
  rw [h]
  abel

/-- The rows' sum, taken twice. -/
theorem ref_rows (X : FVec Ideal S4096x1024 .f32) (x : Fin 1) (ch : Fin 1024) :
    broadcastInDim S1x1024 ![1] bcast_S1024_S1x1024_1 (Host.reduceAdd (shapeCast _ (Host.reduceAdd X (constant S_ .f32 0x00000000#32 : FVec Ideal S_ .f32) reducesTo_S4096x1024_S1024_d0 h_S_) shapeCasts_S1024_S1x1024) (constant S_ .f32 0x00000000#32 : FVec Ideal S_ .f32) reducesTo_S1x1024_S1024_d0 h_S_) (ix2 x ch)
      = ∑ t : Fin 4096, X (ix2 t ch) := by
  pointwise
  exact Fintype.sum_unique _

/-- A row appended to between zeros. -/
theorem ref_row (k hi : ℕ) (x : FVec Ideal S1x1024 .f32) (h hu) (r : Fin 31) (ch : Fin 1024) :
    pad S31x1024 ![k, 0] ![hi, 0] ![0, 0] x (constant S_ .f32 0x00000000#32 : FVec Ideal S_ .f32) h hu (ix2 r ch)
      = if r.val = k then x (ix2 0 ch) else 0 := by
  pointwise
  by_cases e : r.val = k
  · rw [if_pos e, dif_pos (by omega)]
    exact congrArg (fun i => x (ix2 i ch)) (Subsingleton.elim (α := Fin 1) _ _)
  · rw [if_neg e, dif_neg (by omega)]

/-- A tap's gradient, between rows of zeros. -/
theorem ref_dwrow (k hi : ℕ) (d : FVec Ideal S4096x1024 .f32) (hd : ∀ y, d y = argD V y) (h1) (h hu) (r : Fin 31) (ch : Fin 1024) :
    pad S31x1024 ![k, 0] ![hi, 0] ![0, 0] (broadcastInDim S1x1024 ![1] bcast_S1024_S1x1024_1 (Host.reduceAdd (shapeCast _ (Host.reduceAdd
        (mulf (extractStridedSlice S4096x1024 ![k, 0] (res_main_v16 V) h1 : FVec Ideal S4096x1024 .f32) d)
        (constant S_ .f32 0x00000000#32 : FVec Ideal S_ .f32) reducesTo_S4096x1024_S1024_d0 h_S_) shapeCasts_S1024_S1x1024) (constant S_ .f32 0x00000000#32 : FVec Ideal S_ .f32) reducesTo_S1x1024_S1024_d0 h_S_))
        (constant S_ .f32 0x00000000#32 : FVec Ideal S_ .f32) h hu (ix2 r ch)
      = if r.val = k then ∑ t : Fin 4096, colPad (fun r => valAt (argA V) r ch * gateAt (argA V) r ch) (t.val + k + 1) * argD V (ix2 t ch) else 0 := by
  rw [ref_row, ref_rows, ← show d = argD V from funext hd]
  refine if_congr Iff.rfl (Finset.sum_congr (M := EReal) rfl fun t _ => ?_) rfl
  exact congrArg (fun a : EReal => a * d (ix2 t ch)) (ref_cat V k h1 t ch)

/-- A sum's terms replaced. -/
theorem ref_add {a b x y : EReal} (h : a = x) (h' : b = y) : (FloatOps.addf a b : Ideal .f32) = x + y := congrArg₂ (fun x y : EReal => x + y) h h'

/-- The reference reads the incoming gradients. -/
theorem ref_d : ∀ y, res_main_v238 V y = argD V y := fun y => by pointwise [res_main_v238]

/-- The reference reads the incoming gradients. -/
theorem ref_d' : ∀ y, res_main_v239 V y = argD V y := fun y => by pointwise [res_main_v239]

/-- The reference's gradient of the gated values. -/
theorem ref_du (r : Fin 4096) (ch : Fin 1024) : res_main_v583 V (ix2 r ch)
    = duCol (fun r => argD V (ix2 r ch)) (fun k => argW V (ix3 1 k ch)) r.val := by
  have e : res_main_v583 V (ix2 r ch) = res_main_v581 V (ix2 ⟨15 + r.val, by omega⟩ ch) := by pointwise [res_main_v583]
  rw [e]
  simp only [res_main_v581, res_main_v435, res_main_v22, res_main_v31, res_main_v38, res_main_v45, res_main_v52, res_main_v59, res_main_v66, res_main_v73, res_main_v80, res_main_v87, res_main_v94, res_main_v101, res_main_v108, res_main_v115, res_main_v122, res_main_v129, res_main_v136, res_main_v143, res_main_v150, res_main_v157, res_main_v164, res_main_v171, res_main_v178, res_main_v185, res_main_v192, res_main_v199, res_main_v206, res_main_v213, res_main_v220, res_main_v227, res_main_v234, addf_apply]
  refine Eq.trans ?_ (ref_order fun j => colPad (fun r => argD V (ix2 r ch)) (r.val + 31 - j.val) * argW V (ix3 1 j ch))
  iterate 30 refine ref_add ?_ (ref_tap V _ _ _ (ref_d V) _ _ _ (by decide) r ch _)
  exact ref_tap V _ _ _ (ref_d' V) _ _ _ (by decide) r ch _

/-- The reference's gradient of the taps. -/
theorem ref_dw (r : Fin 31) (ch : Fin 1024) :
    addf (res_main_v565 V) (pad S31x1024 ![0, 0] ![30, 0] ![0, 0] (broadcastInDim S1x1024 ![1] bcast_S1024_S1x1024_1 (Host.reduceAdd (shapeCast _ (Host.reduceAdd (mulf (res_main_v19 V) (res_main_v238 V)) (constant S_ .f32 0x00000000#32) reducesTo_S4096x1024_S1024_d0 h_S_) shapeCasts_S1024_S1x1024) (constant S_ .f32 0x00000000#32) reducesTo_S1x1024_S1024_d0 h_S_)) (constant S_ .f32 0x00000000#32) pads_S1x1024_S31x1024_0300_000 h_S_) (ix2 r ch)
      = dwCol (fun r => valAt (argA V) r ch * gateAt (argA V) r ch) (fun r => argD V (ix2 r ch)) r.val := by
  simp only [res_main_v565, res_main_v455, res_main_v345, res_main_v19, res_main_v28, res_main_v35, res_main_v42, res_main_v49, res_main_v56, res_main_v63, res_main_v70, res_main_v77, res_main_v84, res_main_v91, res_main_v98, res_main_v105, res_main_v112, res_main_v119, res_main_v126, res_main_v133, res_main_v140, res_main_v147, res_main_v154, res_main_v161, res_main_v168, res_main_v175, res_main_v182, res_main_v189, res_main_v196, res_main_v203, res_main_v210, res_main_v217, res_main_v224, res_main_v231, addf_apply]
  refine Eq.trans ?_ ((ref_order fun j => if r.val = j.val then ∑ t : Fin 4096, colPad (fun r => valAt (argA V) r ch * gateAt (argA V) r ch) (t.val + j.val + 1) * argD V (ix2 t ch) else 0).trans ?_)
  · iterate 30 refine ref_add ?_ (ref_dwrow V _ _ _ (ref_d V) _ _ _ r ch)
    exact ref_dwrow V _ _ _ (ref_d' V) _ _ _ r ch
  simp only [← Fin.ext_iff]
  rw [Finset.sum_ite_eq, if_pos (Finset.mem_univ _)]
  unfold dwCol
  refine Finset.sum_congr (M := EReal) rfl fun t _ => ?_
  rw [if_neg (by omega)]

end Cert.Conv

end
-- ==== Proof.Conv.lean ====
module

public import proofs.«01_k».proof.Defs
public import proofs.«01_k».proof.Proof.Gen.ReferenceIdeal.Run
public import proofs.«01_k».proof.Proof.Gen.Kernel.Frame
public import proofs.«01_k».proof.Proof.ConvFin
public import proofs.«01_k».proof.Proof.ConvRef
public import Idealize.ShloMosaic.Lib.Pointwise

/-! The gradient of the gated convolution: the call's results are the reference's. -/

@[expose] public section

set_option maxRecDepth 16384

noncomputable section

namespace Cert.Conv

open Idealize.ShloMosaic Idealize.ShloMosaic.TcCoe Idealize.SL.Sem Idealize.ShloMosaic.StableHlo
open Idealize.ShloMosaic.Pipeline (Dat)

section
open Cert.KernelIdeal Cert.KernelIdeal.Gen

variable (m : (ℓ : Loc nD τ sig) → Buf (Elt Ideal) ℓ) (ρ : Dev nD → PrngReg)

/-- The call runs, its three results are the arrays its points wrote, and it leaves its arguments as launched. -/
theorem run_arrays : θ_run defs (onTc (τ := τ) (main (F := Ideal))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 4, (h.1 c).1 5, (h.1 c).1 6,
    ((h.1 c).1 1).trans (((dats m 0 c).arrAt_in 1 rfl _).trans ((A_eq m c 1).trans (V_main_arg0 m c))),
    ((h.1 c).1 2).trans (((dats m 0 c).arrAt_in 2 rfl _).trans ((A_eq m c 2).trans (V_main_arg1 m c))),
    ((h.1 c).1 3).trans (((dats m 0 c).arrAt_in 3 rfl _).trans ((A_eq m c 3).trans (V_main_arg2 m c)))⟩) (launch m ρ)

end

section
open Cert.ReferenceIdeal Cert.ReferenceIdeal.Gen Cert.ReferenceIdeal.Value

variable (V : Valuation τ sig (Elt Ideal))

/-- The reference's third result, the taps' gradients and below them the bias's. -/
theorem ref_out (x : FVec Ideal S31x1024 .f32)
    (hx : ∀ r ch, x (ix2 r ch) = dwCol (fun r => valAt (argA V) r ch * gateAt (argA V) r ch) (fun r => argD V (ix2 r ch)) r.val) (j : S32x1024.Idx) :
    concatenate S32x1024 0 [⟨S31x1024, x⟩, ⟨S1x1024, (broadcastInDim S1x1024 ![1] bcast_S1024_S1x1024_1 (Host.reduceAdd (shapeCast _ (Host.reduceAdd (res_main_v238 V) (constant S_ .f32 0x00000000#32) reducesTo_S4096x1024_S1024_d0 h_S_) shapeCasts_S1024_S1x1024) (constant S_ .f32 0x00000000#32) reducesTo_S1x1024_S1024_d0 h_S_) : FVec Ideal S1x1024 .f32)⟩] concatenates_S31x1024_S1x1024_S32x1024_d0 j
      = dwCol (fun r => valAt (argA V) r (j 1) * gateAt (argA V) r (j 1)) (fun r => argD V (ix2 r (j 1))) (j 0).val := by
  have hj : (j 0).val < 32 := (j 0).isLt
  rw [concatenate_pair_apply, show res_main_v238 V = argD V from funext (ref_d V)]
  by_cases h : (j 0).val < 31
  · refine (dif_pos h).trans (Eq.trans ?_ (hx ⟨(j 0).val, h⟩ (j 1)))
    exact congrArg x (by funext i; fin_cases i <;> rfl)
  · refine (dif_neg h).trans (Eq.trans (b := ∑ t : Fin 4096, argD V (ix2 t (j 1))) (Eq.trans ?_ (ref_rows (argD V) 0 (j 1))) ?_)
    · exact congrArg (broadcastInDim (s := S1024) S1x1024 ![1] bcast_S1024_S1x1024_1 _) (by funext i; fin_cases i <;> first | rfl | exact Subsingleton.elim (α := Fin 1) _ _)
    · unfold dwCol
      refine Finset.sum_congr (M := EReal) rfl fun t _ => ?_
      rw [if_pos (show (j 0).val = 31 by omega)]

end

/-- The call's three results are the reference's, whatever the arguments. -/
theorem claim : Cert.algebraic_KernelIdeal_ReferenceIdeal := by
  intro m g m' g' _ hagree
  refine ⟨fun c => _, fun c => _, fun c => _, run_arrays m g, ?_⟩
  refine (θ_run _ _ _).mono (fun r h c => ⟨(h c).1.trans ?_, (h c).2.1.trans ?_, (h c).2.2.1.trans ?_, (h c).2.2.2⟩) (Cert.ReferenceIdeal.Value.run m' g')
  · show _ = (dats m 0 c).arrAt 4 Cert.KernelIdeal.cfg0.N
    rw [final4, ← (hagree c).1, ← (hagree c).2.1, ← (hagree c).2.2]
    funext j
    exact congrArg₂ (fun a b : EReal => a * b) ((congrArg _ (eq_ix2 j)).trans (ref_du _ (j 0) (j 1))) ((congrArg _ (eq_ix2 j)).trans (ref_gate _ (j 0) (j 1)))
  · have key : ∀ a b x y : EReal, a * b * (x * y) = b * a * x * y := fun a b x y => by rw [mul_comm a b, ← mul_assoc]
    show _ = (dats m 0 c).arrAt 5 Cert.KernelIdeal.cfg0.N
    rw [final5, ← (hagree c).1, ← (hagree c).2.1, ← (hagree c).2.2]
    funext j
    have hu := (congrArg (Cert.ReferenceIdeal.Value.res_main_v583 (F := Ideal) _) (eq_ix2 j)).trans (ref_du (launchContents m' c) (j 0) (j 1))
    have hg := (congrArg (Cert.ReferenceIdeal.Value.res_main_v10 (F := Ideal) _) (eq_ix2 j)).trans (ref_gate (launchContents m' c) (j 0) (j 1))
    have hv := (congrArg (Cert.ReferenceIdeal.Value.res_main_v0 (F := Ideal) _) (eq_ix2 j)).trans (ref_val (launchContents m' c) (j 0) (j 1))
    pointwise
    rw [hu, hg, hv]
    exact key _ _ _ _
  · show _ = (dats m 0 c).arrAt 6 Cert.KernelIdeal.cfg0.N
    rw [final6, ← (hagree c).1, ← (hagree c).2.1]
    funext j
    exact ref_out _ _ (ref_dw _) j

/-- The reference runs, leaves its arguments as launched, and declares no semaphore. -/
theorem frame_ref : Cert.quiescent_ReferenceIdeal := fun m ρ _ =>
  (θ_run _ _ _).mono (fun r h => ⟨fun c => (h c).2.2.2, sem_eq_zero_of_no_sems (by decide) r.2⟩) (Cert.ReferenceIdeal.Value.run m ρ)

/-- The call over extended reals runs and leaves its arguments as launched. -/
theorem frame_ideal : Cert.quiescent_KernelIdeal := fun m ρ _ => Cert.Conv.frame m ρ

/-- The call over floats and the call over extended reals have the same kernels at any values. -/
theorem kernels_eq {F : FTy → Type} [FloatOps F] : Cert.Kernel.defs₀ (F := F) = Cert.KernelIdeal.defs₀ := by
  unfold Cert.Kernel.defs₀ Cert.KernelIdeal.defs₀
  congr 1
  funext l x
  match l, x with
  | 0, (t, s) => rfl

/-- The call over floats and the call over extended reals have the same bodies at any values. -/
theorem defs_eq {F : FTy → Type} [FloatOps F] : Cert.Kernel.defs (F := F) = Cert.KernelIdeal.defs :=
  congrArg (Pipeline.defs Cert.Kernel.pcfgs) kernels_eq

/-- The call over floats runs and leaves its arguments as launched. -/
theorem frame_bits : Cert.quiescent_Kernel := fun m ρ _ => by
  have h := Cert.Conv.frame (F := Bits) m ρ
  rw [← defs_eq] at h
  exact h

end Cert.Conv

end
-- ==== Proof.Products.lean ====
module

public import Idealize.ShloMosaic.PureOps.Ideal
public import Idealize.ShloMosaic.Lib.Pointwise

/-! The three products a dense layer's step takes, as functions of two arrays of extended reals. -/

@[expose] public section

noncomputable section

namespace Cert.Products

open Idealize.ShloMosaic

/-- `x · w`, contracting the last axis of `x` with the first of `w`. -/
def mulNN (M K N : ℕ) (x : ({ rank := 2, size := ![M, K] } : Shape).Idx → EReal)
    (w : ({ rank := 2, size := ![K, N] } : Shape).Idx → EReal) (i : Fin M) (j : Fin N) : EReal :=
  ∑ k : Fin K, x (ix2 i k) * w (ix2 k j)

/-- `x · wᵀ`, contracting the last axes of both. -/
def mulNT (M K N : ℕ) (x : ({ rank := 2, size := ![M, K] } : Shape).Idx → EReal)
    (w : ({ rank := 2, size := ![N, K] } : Shape).Idx → EReal) (i : Fin M) (j : Fin N) : EReal :=
  ∑ k : Fin K, x (ix2 i k) * w (ix2 j k)

/-- `xᵀ · w`, contracting the first axes of both. -/
def mulTN (M K N : ℕ) (x : ({ rank := 2, size := ![K, M] } : Shape).Idx → EReal)
    (w : ({ rank := 2, size := ![K, N] } : Shape).Idx → EReal) (i : Fin M) (j : Fin N) : EReal :=
  ∑ k : Fin K, x (ix2 k i) * w (ix2 k j)

end Cert.Products

end
-- ==== Proof.Call2.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Products
public import Idealize.ShloMosaic.Lib.Pipeline.ValueKit
public import Idealize.ShloMosaic.Lib.Pointwise

/-! The call that computes the gradient of the up projection’s output, through the down projection and the squared ReLU. -/

@[expose] public section

noncomputable section

namespace Cert.Call2

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns, and the
    saved activation's block with both. -/
theorem idx : ∀ t : Fin cfg0.N, win0_3.index t = ![win0_0.index t 0, win0_1.index t 0] ∧ win0_2.index t = win0_3.index t
    ∧ win0_0.index t 1 = 0 ∧ win0_1.index t 1 = 0 :=
  (by decide +kernel : ∀ t : Fin grid0.N, _)

/-- The ReLU of an array at an index. -/
def relu (u : S4096x8192.Idx → EReal) (j : S4096x8192.Idx) : EReal := max (u j) 0

/-- The saved activation the call reads is the ReLU of the third argument. -/
theorem saved (c : Dev nD) (j : S4096x8192.Idx) :
    V m c main_v2 j = relu (m ((c : Thread nD τ).loc main_arg2)) j := by
  have h : V m c main_v2 = (truncf .bf16 (maximumf (m ((c : Thread nD τ).loc main_arg2)) (broadcastInDim S4096x8192 ![] bcast_S_S4096x8192 (constant S_ .f32 0x00000000#32))) bitsLt_bf16_f32 : FVec Ideal S4096x8192 .bf16) := by
    unfold V hostOps0; after_results
  rw [h]; pointwise; rfl

/-- The result: the product with the transposed weight, times twice the saved activation. -/
theorem final (c : Dev nD) : (dats m 0 c).arrAt 3 cfg0.N = fun j : S4096x8192.Idx =>
    Products.mulNT 4096 2048 8192 (m ((c : Thread nD τ).loc main_arg0)) (m ((c : Thread nD τ).loc main_arg1)) (j 0) (j 1)
      * (Ideal.ofBits .f32 0x40000000#32 * relu (m ((c : Thread nD τ).loc main_arg2)) j) := by
  refine (dats m 0 c).arrAt_eq_of_covers 3 _ (by decide +kernel) fun t hf y => ?_
  blk_simp
  rw [after0_3]
  frame_out
  pointwise [k0_pay1]
  unfold Products.mulNT
  blk_simp [iblk, (idx t).1, (idx t).2.2.1, (idx t).2.2.2]
  rw [saved, V_main_arg0, V_main_arg1]
  refine congr (congrArg (fun (a b : EReal) => a * b) (Finset.sum_congr (M := EReal) rfl fun k _ => ?_)) ?_
  · congr 2 <;> blk_ext [(idx t).1, (idx t).2.2.1, (idx t).2.2.2]
  · congr 2; blk_ext [(idx t).2.1]

/-- The call's result is the reference's, whatever the arguments. -/
theorem claim : Cert.algebraic_Kernel2Ideal_Reference2Ideal := by
  intro m g m' g' _ hagree
  refine ⟨fun c => _, Cert.Kernel2Ideal.Value.run_blocks m g, ?_⟩
  refine (θ_run _ _ _).mono (fun r h c => ⟨(h c).1.trans ?_, (h c).2⟩) (Cert.Reference2Ideal.Value.run m' g')
  show _ = (dats m 0 c).arrAt 3 cfg0.N
  rw [final, (hagree c).1, (hagree c).2.1, (hagree c).2.2]
  funext j
  pointwise
  by_cases h0 : (0 : EReal) < (m ((c : Thread nD τ).loc main_arg2) : S4096x8192.Idx → EReal) j
  · rw [if_pos h0]; rfl
  · rw [if_neg h0]
    have : relu (m ((c : Thread nD τ).loc main_arg2)) j = 0 := max_eq_right (not_lt.mp h0)
    rw [this]
    exact (((congrArg _ (mul_zero (M₀ := EReal) _)).trans (mul_zero (M₀ := EReal) _))).symm

/-- The reference runs, leaves its arguments as launched, and declares no semaphore. -/
theorem frame : Cert.quiescent_Reference2Ideal := fun m ρ _ =>
  (θ_run _ _ _).mono (fun r h => ⟨fun c => (h c).2, sem_eq_zero_of_no_sems (by decide) r.2⟩) (Cert.Reference2Ideal.Value.run m ρ)

end Cert.Call2

end
-- ==== Proof.Call3.lean ====
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal.Run
public import proofs.«01_k».proof.Proof.Products
public import Idealize.ShloMosaic.Lib.Pipeline.ValueKit
public import Idealize.ShloMosaic.Lib.Pointwise

/-! The call that computes the gradient of the down projection’s weight. -/

@[expose] public section

noncomputable section

namespace Cert.Call3

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 1, win0_1.index t 1] ∧ win0_0.index t 0 = 0 ∧ win0_1.index t 0 = 0 :=
  (by decide +kernel : ∀ t : Fin grid0.N, _)

/-- The result array after the run is the product of the arguments as launched. -/
theorem final (c : Dev nD) : (dats m 0 c).arrAt 2 cfg0.N
    = fun j : S8192x2048.Idx => Products.mulTN 8192 4096 2048 (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  frame_out
  pointwise [k0_pay1]
  unfold Products.mulTN
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel3Ideal_Reference3Ideal := by
  intro m g m' g' _ hagree
  refine ⟨fun c => _, Cert.Kernel3Ideal.Value.run_blocks m g, ?_⟩
  refine (θ_run _ _ _).mono (fun r h c => ⟨(h c).1.trans ?_, (h c).2⟩) (Cert.Reference3Ideal.Value.run m' g')
  show _ = (dats m 0 c).arrAt 2 cfg0.N
  rw [final, (hagree c).1, (hagree c).2]
  funext j
  pointwise
  exact Finset.sum_congr (M := EReal) rfl fun k _ => mul_comm _ _

/-- The reference runs, leaves its arguments as launched, and declares no semaphore. -/
theorem frame : Cert.quiescent_Reference3Ideal := fun m ρ _ =>
  (θ_run _ _ _).mono (fun r h => ⟨fun c => (h c).2, sem_eq_zero_of_no_sems (by decide) r.2⟩) (Cert.Reference3Ideal.Value.run m ρ)

end Cert.Call3

end
-- ==== Proof.Call4.lean ====
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal.Run
public import proofs.«01_k».proof.Proof.Products
public import Idealize.ShloMosaic.Lib.Pipeline.ValueKit
public import Idealize.ShloMosaic.Lib.Pointwise

/-! The call that computes the gradient that enters the up projection’s input. -/

@[expose] public section

noncomputable section

namespace Cert.Call4

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 0, win0_1.index t 0] ∧ win0_0.index t 1 = 0 ∧ win0_1.index t 1 = 0 :=
  (by decide +kernel : ∀ t : Fin grid0.N, _)

/-- The result array after the run is the product of the arguments as launched. -/
theorem final (c : Dev nD) : (dats m 0 c).arrAt 2 cfg0.N
    = fun j : S4096x2048.Idx => Products.mulNT 4096 8192 2048 (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  frame_out
  pointwise [k0_pay1]
  unfold Products.mulNT
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel4Ideal_Reference4Ideal := by
  intro m g m' g' _ hagree
  refine ⟨fun c => _, Cert.Kernel4Ideal.Value.run_blocks m g, ?_⟩
  refine (θ_run _ _ _).mono (fun r h c => ⟨(h c).1.trans ?_, (h c).2⟩) (Cert.Reference4Ideal.Value.run m' g')
  show _ = (dats m 0 c).arrAt 2 cfg0.N
  rw [final, (hagree c).1, (hagree c).2]
  funext j
  pointwise
  rfl

/-- The reference runs, leaves its arguments as launched, and declares no semaphore. -/
theorem frame : Cert.quiescent_Reference4Ideal := fun m ρ _ =>
  (θ_run _ _ _).mono (fun r h => ⟨fun c => (h c).2, sem_eq_zero_of_no_sems (by decide) r.2⟩) (Cert.Reference4Ideal.Value.run m ρ)

end Cert.Call4

end
-- ==== Proof.Call5.lean ====
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal.Run
public import proofs.«01_k».proof.Proof.Products
public import Idealize.ShloMosaic.Lib.Pipeline.ValueKit
public import Idealize.ShloMosaic.Lib.Pointwise

/-! The call that computes the gradient of the up projection’s weight, its columns cut over the devices. -/

@[expose] public section

noncomputable section

namespace Cert.Call5

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_1.index t 1, win0_0.index t 1, 0] ∧ win0_0.index t 0 = 0 ∧ win0_1.index t 0 = 0 :=
  (by decide +kernel : ∀ t : Fin grid0.N, _)

/-- The result array after the run is the product of the arguments as launched. -/
theorem final (c : Dev nD) : (dats m 0 c).arrAt 2 cfg0.N
    = fun j : S8x2048x1024.Idx => Products.mulTN 2048 4096 8192 (m ((c : Thread nD τ).loc main_arg0)) (m ((c : Thread nD τ).loc main_arg1)) (j 1) ⟨(j 0 : ℕ) * 1024 + (j 2 : ℕ), by idx_bounds j; omega⟩ := by
  refine (dats m 0 c).arrAt_eq_of_covers 2 _ (by decide +kernel) fun t hf y => ?_
  blk_simp
  rw [after0_2]
  frame_out
  pointwise [k0_pay1]
  unfold Products.mulTN
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel5Ideal_Reference5Ideal := by
  intro m g m' g' _ hagree
  refine ⟨fun c => _, Cert.Kernel5Ideal.Value.run_blocks m g, ?_⟩
  refine (θ_run _ _ _).mono (fun r h c => ⟨(h c).1.trans ?_, (h c).2⟩) (Cert.Reference5Ideal.Value.run m' g')
  show _ = (dats m 0 c).arrAt 2 cfg0.N
  rw [final, (hagree c).1, (hagree c).2]
  funext j
  pointwise
  exact Finset.sum_congr (M := EReal) rfl fun k _ => mul_comm _ _

/-- The reference runs, leaves its arguments as launched, and declares no semaphore. -/
theorem frame : Cert.quiescent_Reference5Ideal := fun m ρ _ =>
  (θ_run _ _ _).mono (fun r h => ⟨fun c => (h c).2, sem_eq_zero_of_no_sems (by decide) r.2⟩) (Cert.Reference5Ideal.Value.run m ρ)

end Cert.Call5

end
-- ==== Proof.Call6.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal.Run
public import proofs.«01_k».proof.Proof.Products
public import Idealize.ShloMosaic.Lib.Pipeline.ValueKit
public import Idealize.ShloMosaic.Lib.Pointwise

/-! The call that computes the gradient of the mixing projection’s input. -/

@[expose] public section

noncomputable section

namespace Cert.Call6

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 0, win0_1.index t 0] ∧ win0_0.index t 1 = 0 ∧ win0_1.index t 1 = 0 :=
  (by decide +kernel : ∀ t : Fin grid0.N, _)

/-- The result array after the run is the product of the arguments as launched. -/
theorem final (c : Dev nD) : (dats m 0 c).arrAt 2 cfg0.N
    = fun j : S4096x2048.Idx => Products.mulNT 4096 2048 2048 (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  frame_out
  pointwise [k0_pay1]
  unfold Products.mulNT
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel6Ideal_Reference6Ideal := by
  intro m g m' g' _ hagree
  refine ⟨fun c => _, Cert.Kernel6Ideal.Value.run_blocks m g, ?_⟩
  refine (θ_run _ _ _).mono (fun r h c => ⟨(h c).1.trans ?_, (h c).2⟩) (Cert.Reference6Ideal.Value.run m' g')
  show _ = (dats m 0 c).arrAt 2 cfg0.N
  rw [final, (hagree c).1, (hagree c).2]
  funext j
  pointwise
  rfl

/-- The reference runs, leaves its arguments as launched, and declares no semaphore. -/
theorem frame : Cert.quiescent_Reference6Ideal := fun m ρ _ =>
  (θ_run _ _ _).mono (fun r h => ⟨fun c => (h c).2, sem_eq_zero_of_no_sems (by decide) r.2⟩) (Cert.Reference6Ideal.Value.run m ρ)

end Cert.Call6

end
-- ==== Proof.Call7.lean ====
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal.Run
public import proofs.«01_k».proof.Proof.Products
public import Idealize.ShloMosaic.Lib.Pipeline.ValueKit
public import Idealize.ShloMosaic.Lib.Pointwise

/-! The call that computes the gradient of the mixing projection’s weight. -/

@[expose] public section

noncomputable section

namespace Cert.Call7

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 1, win0_1.index t 1] ∧ win0_0.index t 0 = 0 ∧ win0_1.index t 0 = 0 :=
  (by decide +kernel : ∀ t : Fin grid0.N, _)

/-- The result array after the run is the product of the arguments as launched. -/
theorem final (c : Dev nD) : (dats m 0 c).arrAt 2 cfg0.N
    = fun j : S2048x2048.Idx => Products.mulTN 2048 4096 2048 (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  frame_out
  pointwise [k0_pay1]
  unfold Products.mulTN
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel7Ideal_Reference7Ideal := by
  intro m g m' g' _ hagree
  refine ⟨fun c => _, Cert.Kernel7Ideal.Value.run_blocks m g, ?_⟩
  refine (θ_run _ _ _).mono (fun r h c => ⟨(h c).1.trans ?_, (h c).2⟩) (Cert.Reference7Ideal.Value.run m' g')
  show _ = (dats m 0 c).arrAt 2 cfg0.N
  rw [final, (hagree c).1, (hagree c).2]
  funext j
  pointwise
  exact Finset.sum_congr (M := EReal) rfl fun k _ => mul_comm _ _

/-- The reference runs, leaves its arguments as launched, and declares no semaphore. -/
theorem frame : Cert.quiescent_Reference7Ideal := fun m ρ _ =>
  (θ_run _ _ _).mono (fun r h => ⟨fun c => (h c).2, sem_eq_zero_of_no_sems (by decide) r.2⟩) (Cert.Reference7Ideal.Value.run m ρ)

end Cert.Call7

end
-- ==== Proof.Call8.lean ====
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal.Run
public import proofs.«01_k».proof.Proof.Products
public import Idealize.ShloMosaic.Lib.Pipeline.ValueKit
public import Idealize.ShloMosaic.Lib.Pointwise

/-! The call that computes the gradient of the input projection’s weight, its columns cut over the devices. -/

@[expose] public section

noncomputable section

namespace Cert.Call8

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_1.index t 1, win0_0.index t 1, 0] ∧ win0_0.index t 0 = 0 ∧ win0_1.index t 0 = 0 :=
  (by decide +kernel : ∀ t : Fin grid0.N, _)

/-- The result array after the run is the product of the arguments as launched. -/
theorem final (c : Dev nD) : (dats m 0 c).arrAt 2 cfg0.N
    = fun j : S8x2048x640.Idx => Products.mulTN 2048 4096 5120 (m ((c : Thread nD τ).loc main_arg0)) (m ((c : Thread nD τ).loc main_arg1)) (j 1) ⟨(j 0 : ℕ) * 640 + (j 2 : ℕ), by idx_bounds j; omega⟩ := by
  refine (dats m 0 c).arrAt_eq_of_covers 2 _ (by decide +kernel) fun t hf y => ?_
  blk_simp
  rw [after0_2]
  unfold out0_2
  rw [Cert.Kernel8Ideal.Value.canon2_eq]
  frame_out
  pointwise [Cert.Kernel8Ideal.Value.E2, k0_pay1]
  unfold Products.mulTN
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel8Ideal_Reference8Ideal := by
  intro m g m' g' _ hagree
  refine ⟨fun c => _, Cert.Kernel8Ideal.Value.run_blocks m g, ?_⟩
  refine (θ_run _ _ _).mono (fun r h c => ⟨(h c).1.trans ?_, (h c).2⟩) (Cert.Reference8Ideal.Value.run m' g')
  show _ = (dats m 0 c).arrAt 2 cfg0.N
  rw [final, (hagree c).1, (hagree c).2]
  funext j
  pointwise
  exact Finset.sum_congr (M := EReal) rfl fun k _ => mul_comm _ _

/-- The reference runs, leaves its arguments as launched, and declares no semaphore. -/
theorem frame : Cert.quiescent_Reference8Ideal := fun m ρ _ =>
  (θ_run _ _ _).mono (fun r h => ⟨fun c => (h c).2, sem_eq_zero_of_no_sems (by decide) r.2⟩) (Cert.Reference8Ideal.Value.run m ρ)

end Cert.Call8

end
-- ==== Proof.Call9.lean ====
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal.Run
public import proofs.«01_k».proof.Proof.Products
public import Idealize.ShloMosaic.Lib.Pipeline.ValueKit
public import Idealize.ShloMosaic.Lib.Pointwise

/-! The call that computes the gradient of the input projection’s input. -/

@[expose] public section

noncomputable section

namespace Cert.Call9

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 0, win0_1.index t 0] ∧ win0_0.index t 1 = 0 ∧ win0_1.index t 1 = 0 :=
  (by decide +kernel : ∀ t : Fin grid0.N, _)

/-- The result array after the run is the product of the arguments as launched. -/
theorem final (c : Dev nD) : (dats m 0 c).arrAt 2 cfg0.N
    = fun j : S4096x2048.Idx => Products.mulNT 4096 5120 2048 (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  frame_out
  pointwise [k0_pay1]
  unfold Products.mulNT
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel9Ideal_Reference9Ideal := by
  intro m g m' g' _ hagree
  refine ⟨fun c => _, Cert.Kernel9Ideal.Value.run_blocks m g, ?_⟩
  refine (θ_run _ _ _).mono (fun r h c => ⟨(h c).1.trans ?_, (h c).2⟩) (Cert.Reference9Ideal.Value.run m' g')
  show _ = (dats m 0 c).arrAt 2 cfg0.N
  rw [final, (hagree c).1, (hagree c).2]
  funext j
  pointwise
  rfl

/-- The reference runs, leaves its arguments as launched, and declares no semaphore. -/
theorem frame : Cert.quiescent_Reference9Ideal := fun m ρ _ =>
  (θ_run _ _ _).mono (fun r h => ⟨fun c => (h c).2, sem_eq_zero_of_no_sems (by decide) r.2⟩) (Cert.Reference9Ideal.Value.run m ρ)

end Cert.Call9

end
-- ==== Proof.Call10.lean ====
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal.Run
public import proofs.«01_k».proof.Proof.Products
public import Idealize.ShloMosaic.Lib.Pipeline.ValueKit
public import Idealize.ShloMosaic.Lib.Pointwise

/-! The call that computes the input projection. -/

@[expose] public section

noncomputable section

namespace Cert.Call10

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 0, win0_1.index t 1] ∧ win0_0.index t 1 = 0 ∧ win0_1.index t 0 = 0 :=
  (by decide +kernel : ∀ t : Fin grid0.N, _)

/-- The result array after the run is the product of the arguments as launched. -/
theorem final (c : Dev nD) : (dats m 0 c).arrAt 2 cfg0.N
    = fun j : S4096x5120.Idx => Products.mulNN 4096 2048 5120 (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  frame_out
  pointwise [k0_pay1]
  unfold Products.mulNN
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel10Ideal_Reference10Ideal := by
  intro m g m' g' _ hagree
  refine ⟨fun c => _, Cert.Kernel10Ideal.Value.run_blocks m g, ?_⟩
  refine (θ_run _ _ _).mono (fun r h c => ⟨(h c).1.trans ?_, (h c).2⟩) (Cert.Reference10Ideal.Value.run m' g')
  show _ = (dats m 0 c).arrAt 2 cfg0.N
  rw [final, (hagree c).1, (hagree c).2]
  funext j
  pointwise
  rfl

/-- The reference runs, leaves its arguments as launched, and declares no semaphore. -/
theorem frame : Cert.quiescent_Reference10Ideal := fun m ρ _ =>
  (θ_run _ _ _).mono (fun r h => ⟨fun c => (h c).2, sem_eq_zero_of_no_sems (by decide) r.2⟩) (Cert.Reference10Ideal.Value.run m ρ)

end Cert.Call10

end
-- ==== Proof.Call11.lean ====
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal.Run
public import proofs.«01_k».proof.Proof.Products
public import Idealize.ShloMosaic.Lib.Pipeline.ValueKit
public import Idealize.ShloMosaic.Lib.Pointwise

/-! The call that computes the mixing projection. -/

@[expose] public section

noncomputable section

namespace Cert.Call11

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 0, win0_1.index t 1] ∧ win0_0.index t 1 = 0 ∧ win0_1.index t 0 = 0 :=
  (by decide +kernel : ∀ t : Fin grid0.N, _)

/-- The result array after the run is the product of the arguments as launched. -/
theorem final (c : Dev nD) : (dats m 0 c).arrAt 2 cfg0.N
    = fun j : S4096x2048.Idx => Products.mulNN 4096 2048 2048 (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  frame_out
  pointwise [k0_pay1]
  unfold Products.mulNN
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel11Ideal_Reference11Ideal := by
  intro m g m' g' _ hagree
  refine ⟨fun c => _, Cert.Kernel11Ideal.Value.run_blocks m g, ?_⟩
  refine (θ_run _ _ _).mono (fun r h c => ⟨(h c).1.trans ?_, (h c).2⟩) (Cert.Reference11Ideal.Value.run m' g')
  show _ = (dats m 0 c).arrAt 2 cfg0.N
  rw [final, (hagree c).1, (hagree c).2]
  funext j
  pointwise
  rfl

/-- The reference runs, leaves its arguments as launched, and declares no semaphore. -/
theorem frame : Cert.quiescent_Reference11Ideal := fun m ρ _ =>
  (θ_run _ _ _).mono (fun r h => ⟨fun c => (h c).2, sem_eq_zero_of_no_sems (by decide) r.2⟩) (Cert.Reference11Ideal.Value.run m ρ)

end Cert.Call11

end
-- ==== Proof.Call12.lean ====
module

public import proofs.«01_k».proof.Defs
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal.Run
public import proofs.«01_k».proof.Proof.Products
public import Idealize.ShloMosaic.Lib.Pipeline.ValueKit
public import Idealize.ShloMosaic.Lib.Pointwise

/-! The call that computes the up projection and its squared ReLU. -/

@[expose] public section

noncomputable section

namespace Cert.Call12

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 0, win0_1.index t 1] ∧ win0_3.index t = ![win0_0.index t 0, win0_1.index t 1]
    ∧ win0_0.index t 1 = 0 ∧ win0_1.index t 0 = 0 :=
  (by decide +kernel : ∀ t : Fin grid0.N, _)

/-- The product of the arguments as launched, negative entries replaced by zero. -/
def reluProd (c : Dev nD) (j : S4096x8192.Idx) : EReal :=
  max (Products.mulNN 4096 2048 8192 (m ((c : Thread nD τ).loc main_arg0)) (m ((c : Thread nD τ).loc main_arg1)) (j 0) (j 1)) 0

/-- The second result is the ReLU of the product. -/
theorem final_rl (c : Dev nD) : (dats m 0 c).arrAt 3 cfg0.N = reluProd m c := by
  refine (dats m 0 c).arrAt_eq_of_covers 3 _ (by decide +kernel) fun t hf y => ?_
  blk_simp
  rw [after0_3]
  frame_out
  pointwise [k0_pay3, k0_pay1]
  unfold reluProd Products.mulNN
  blk_simp [iblk, (idx t).2.1, (idx t).2.2.1, (idx t).2.2.2]
  refine congrArg (max · (0 : EReal)) (Finset.sum_congr (M := EReal) rfl fun k _ => ?_)
  congr 2 <;> blk_ext [(idx t).2.1, (idx t).2.2.1, (idx t).2.2.2]

/-- The first result is the square of the ReLU of the product. -/
theorem final_act (c : Dev nD) : (dats m 0 c).arrAt 2 cfg0.N = fun j : S4096x8192.Idx => reluProd m c j * reluProd m c j := by
  refine (dats m 0 c).arrAt_eq_of_covers 2 _ (by decide +kernel) fun t hf y => ?_
  blk_simp
  rw [after0_2]
  frame_out
  pointwise [k0_pay2, k0_pay1]
  unfold reluProd Products.mulNN
  blk_simp [iblk, (idx t).1, (idx t).2.2.1, (idx t).2.2.2]
  refine congrArg (fun z : EReal => max z 0 * max z 0) (Finset.sum_congr (M := EReal) rfl fun k _ => ?_)
  congr 2 <;> blk_ext [(idx t).1, (idx t).2.2.1, (idx t).2.2.2]

/-- The call's results are the reference's, whatever the arguments. -/
theorem claim : Cert.algebraic_Kernel12Ideal_Reference12Ideal := by
  intro m g m' g' _ hagree
  refine ⟨fun c => _, fun c => _, Cert.Kernel12Ideal.Value.run_blocks m g, ?_⟩
  refine (θ_run _ _ _).mono (fun r h c => ⟨(h c).1.trans ?_, (h c).2.1.trans ?_, (h c).2.2⟩) (Cert.Reference12Ideal.Value.run m' g')
  · show _ = (dats m 0 c).arrAt 2 cfg0.N
    rw [final_act, (hagree c).1, (hagree c).2]
    funext j
    pointwise
    rfl
  · show _ = (dats m 0 c).arrAt 3 cfg0.N
    rw [final_rl, (hagree c).1, (hagree c).2]
    funext j
    pointwise
    rfl

/-- The reference runs, leaves its arguments as launched, and declares no semaphore. -/
theorem frame : Cert.quiescent_Reference12Ideal := fun m ρ _ =>
  (θ_run _ _ _).mono (fun r h => ⟨fun c => (h c).2.2, sem_eq_zero_of_no_sems (by decide) r.2⟩) (Cert.Reference12Ideal.Value.run m ρ)

end Cert.Call12

end
-- ==== Proof.Call13.lean ====
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal.Run
public import proofs.«01_k».proof.Proof.Products
public import Idealize.ShloMosaic.Lib.Pipeline.ValueKit
public import Idealize.ShloMosaic.Lib.Pointwise

/-! The call that computes the down projection. -/

@[expose] public section

noncomputable section

namespace Cert.Call13

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- Each output block takes the whole contraction: the operands' blocks move with its rows and its columns. -/
theorem idx : ∀ t : Fin cfg0.N, win0_2.index t = ![win0_0.index t 0, win0_1.index t 1] ∧ win0_0.index t 1 = 0 ∧ win0_1.index t 0 = 0 :=
  (by decide +kernel : ∀ t : Fin grid0.N, _)

/-- The result array after the run is the product of the arguments as launched. -/
theorem final (c : Dev nD) : (dats m 0 c).arrAt 2 cfg0.N
    = fun j : S4096x2048.Idx => Products.mulNN 4096 8192 2048 (m ((c : Thread nD τ).loc main_arg0)) (m ((c : Thread nD τ).loc main_arg1)) (j 0) (j 1) := by
  refine (dats m 0 c).arrAt_eq_of_covers 2 _ (by decide +kernel) fun t hf y => ?_
  blk_simp
  rw [after0_2]
  frame_out
  pointwise [k0_pay1]
  unfold Products.mulNN
  blk_simp [iblk, (idx t).1, (idx t).2.1, (idx t).2.2]
  refine Finset.sum_congr (M := EReal) rfl fun k _ => ?_
  congr 2 <;> blk_ext [(idx t).1, (idx t).2.1, (idx t).2.2]

/-- The call's result is the reference's, whatever the arguments. -/
theorem claim : Cert.algebraic_Kernel13Ideal_Reference13Ideal := by
  intro m g m' g' _ hagree
  refine ⟨fun c => _, Cert.Kernel13Ideal.Value.run_blocks m g, ?_⟩
  refine (θ_run _ _ _).mono (fun r h c => ⟨(h c).1.trans ?_, (h c).2⟩) (Cert.Reference13Ideal.Value.run m' g')
  show _ = (dats m 0 c).arrAt 2 cfg0.N
  rw [final, (hagree c).1, (hagree c).2]
  funext j
  pointwise
  rfl

/-- The reference runs, leaves its arguments as launched, and declares no semaphore. -/
theorem frame : Cert.quiescent_Reference13Ideal := fun m ρ _ =>
  (θ_run _ _ _).mono (fun r h => ⟨fun c => (h c).2, sem_eq_zero_of_no_sems (by decide) r.2⟩) (Cert.Reference13Ideal.Value.run m ρ)

end Cert.Call13

end
-- ==== Proof.Adam.lean ====
module

public import Idealize.ShloMosaic.Lib.Pointwise

/-! One AdamW step of one element, over the ideal values; the constants are the step's, at the f32 values both programs print. -/

@[expose] public section

noncomputable section

namespace Cert.Adam

open Idealize.ShloMosaic

/-- The gradient at row `r` and column `c`: the sum of the four parts the exchange leaves. -/
def parts (R C : ℕ) (f : ({ rank := 3, size := ![4, R, C] } : Shape).Idx → EReal) (r : Fin R) (c : Fin C) : EReal :=
  ∑ x : Fin 4, f (ix3 x r c)

/-- An index of a later layer, its layer taken as one more than the one before. -/
theorem later_eq (R C : ℕ) (j : ({ rank := 3, size := ![4, R, C] } : Shape).Idx) (h : 1 + ((j 0 : ℕ) - 1) < 4) (hj : ¬ (j 0 : ℕ) < 1) :
    (ix3 ⟨1 + ((j 0 : ℕ) - 1), h⟩ (j 1) (j 2) : ({ rank := 3, size := ![4, R, C] } : Shape).Idx) = j := by
  have e : (⟨1 + ((j 0 : ℕ) - 1), h⟩ : Fin 4) = j 0 := Fin.ext (by show 1 + ((j 0 : ℕ) - 1) = _; omega)
  rw [e]
  exact (eq_ix3 j).symm

/-- The new first moment: `0.9 m + 0.1 g`. -/
def newM (g m : EReal) : EReal :=
  Ideal.ofBits .f32 0x3F666666#32 * m + Ideal.ofBits .f32 0x3DCCCCCD#32 * g

/-- The new second moment: `0.999 v + 0.001 g²`. -/
def newV (g v : EReal) : EReal :=
  Ideal.ofBits .f32 0x3F7FBE77#32 * v + Ideal.ofBits .f32 0x3A83126F#32 * (g * g)

/-- The weight's change from the new moments, each over its bias correction, and the weight's decay. -/
def delta (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- Equal parts give equal gradients; the call adds them from the left. -/
theorem parts_of (R C : ℕ) (f : ({ rank := 3, size := ![4, R, C] } : Shape).Idx → EReal) (r : Fin R) (c : Fin C) {a b p q : EReal}
    (ha : a = f (ix3 0 r c)) (hb : b = f (ix3 1 r c)) (hp : p = f (ix3 2 r c)) (hq : q = f (ix3 3 r c)) :
    a + b + p + q = parts R C f r c := by
  rw [ha, hb, hp, hq]; exact (Fin.sum_univ_four (M := EReal) fun x => f (ix3 x r c)).symm

/-- The first moment as the programs compute it, at equal arguments. -/
theorem newM_of {g g' m m' : EReal} (hg : g = g') (hm : m = m') :
    Ideal.ofBits .f32 0x3F666666#32 * m + Ideal.ofBits .f32 0x3DCCCCCD#32 * g = newM g' m' := by rw [hg, hm]; rfl

/-- The second moment as the programs compute it, at equal arguments. -/
theorem newV_of {g g' v v' : EReal} (hg : g = g') (hv : v = v') :
    Ideal.ofBits .f32 0x3F7FBE77#32 * v + Ideal.ofBits .f32 0x3A83126F#32 * (g * g) = newV g' v' := by rw [hg, hv]; rfl

/-- The weight’s change as the programs compute it, at equal arguments. -/
theorem delta_of {g g' w w' m m' v v' : EReal} (hg : g = g') (hw : w = w') (hm : m = m') (hv : v = v') :
    Ideal.ofBits .f32 0xBA83126F#32 *
      (Ideal.div (Ideal.div (Ideal.ofBits .f32 0x3F666666#32 * m + Ideal.ofBits .f32 0x3DCCCCCD#32 * g) (Ideal.ofBits .f32 0x3F26BD02#32))
          (Ideal.sqrt (Ideal.div (Ideal.ofBits .f32 0x3F7FBE77#32 * v + Ideal.ofBits .f32 0x3A83126F#32 * (g * g)) (Ideal.ofBits .f32 0x3C231ACC#32))
            + Ideal.ofBits .f32 0x322BCC77#32)
        + Ideal.ofBits .f32 0x3C23D70A#32 * w) = delta g' w' m' v' := by rw [hg, hw, hm, hv]; rfl

end Cert.Adam

end
-- ==== Proof.Call14.lean ====
module

public import proofs.«01_k».proof.Defs
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal.Run
public import proofs.«01_k».proof.Proof.Adam
public import Idealize.ShloMosaic.Lib.Pipeline.ValueKit
public import Idealize.ShloMosaic.Lib.Pipeline.ValueKit.Partial
public import Idealize.ShloMosaic.Lib.Pointwise

/-! The optimiser’s call for the input projection’s weight: the gradient summed over its four parts, and the AdamW step, stored into the arrays of all layers. -/

@[expose] public section

noncomputable section

namespace Cert.Call14

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- Every block but the parts’ lies in layer 0, at the rows of the parts’ block. -/
theorem idx : ∀ t : Fin cfg0.N, win0_4.index t = ![0, win0_0.index t 1, 0] ∧ win0_5.index t = ![0, win0_0.index t 1, 0] ∧ win0_6.index t = ![0, win0_0.index t 1, 0]
    ∧ win0_7.index t = ![0, win0_0.index t 1, 0] ∧ win0_1.index t = ![0, win0_0.index t 1, 0] ∧ win0_2.index t = ![0, win0_0.index t 1, 0]
    ∧ win0_3.index t = ![0, win0_0.index t 1, 0] ∧ win0_0.index t 0 = 0 ∧ win0_0.index t 2 = 0 :=
  (by decide +kernel : ∀ t : Fin grid0.N, _)

/-- The row of the array that row `r` of point `t`'s blocks is. -/
def row (t : Fin cfg0.N) (r : Fin 256) : Fin 2048 :=
  ⟨win0_0.index t 1 * 256 + r, by have := (by decide +kernel : ∀ t : Fin grid0.N, win0_0.index t 1 * 256 + 256 ≤ 2048) t; omega⟩

/-- Where the block of the four parts lies. -/
theorem emb0 (t : Fin cfg0.N) (y : S4x256x640.Idx) : (win0_0.blk t).view.emb y = (ix3 (y 0) (row t (y 1)) (y 2) : S4x2048x640.Idx) := by
  unfold row; blk_ext [(idx t).2.2.2.2.2.2.2.1, (idx t).2.2.2.2.2.2.2.2]

/-- Where the block of window 1 lies. -/
theorem emb1 (t : Fin cfg0.N) (y : S1x256x640.Idx) : (win0_1.blk t).view.emb y = (ix3 0 (row t (y 1)) (y 2) : S4x2048x640.Idx) := by
  unfold row; blk_ext [(idx t).2.2.2.2.1]

/-- Where the block of window 2 lies. -/
theorem emb2 (t : Fin cfg0.N) (y : S1x256x640.Idx) : (win0_2.blk t).view.emb y = (ix3 0 (row t (y 1)) (y 2) : S4x2048x640.Idx) := by
  unfold row; blk_ext [(idx t).2.2.2.2.2.1]

/-- Where the block of window 3 lies. -/
theorem emb3 (t : Fin cfg0.N) (y : S1x256x640.Idx) : (win0_3.blk t).view.emb y = (ix3 0 (row t (y 1)) (y 2) : S4x2048x640.Idx) := by
  unfold row; blk_ext [(idx t).2.2.2.2.2.2.1]

/-- Where the block of window 4 lies. -/
theorem emb4 (t : Fin cfg0.N) (y : S1x256x640.Idx) : (win0_4.blk t).view.emb y = (ix3 0 (row t (y 1)) (y 2) : S4x2048x640.Idx) := by
  unfold row; blk_ext [(idx t).1]

/-- Where the block of window 5 lies. -/
theorem emb5 (t : Fin cfg0.N) (y : S1x256x640.Idx) : (win0_5.blk t).view.emb y = (ix3 0 (row t (y 1)) (y 2) : S4x2048x640.Idx) := by
  unfold row; blk_ext [(idx t).2.1]

/-- Where the block of window 6 lies. -/
theorem emb6 (t : Fin cfg0.N) (y : S1x256x640.Idx) : (win0_6.blk t).view.emb y = (ix3 0 (row t (y 1)) (y 2) : S4x2048x640.Idx) := by
  unfold row; blk_ext [(idx t).2.2.1]

/-- Where the block of window 7 lies. -/
theorem emb7 (t : Fin cfg0.N) (y : S1x256x640.Idx) : (win0_7.blk t).view.emb y = (ix3 0 (row t (y 1)) (y 2) : S4x2048x640.Idx) := by
  unfold row; blk_ext [(idx t).2.2.2.1]

/-- Window 0's block, of the argument as launched. -/
theorem in0 (c : Dev nD) (t : Fin cfg0.N) (y : S4x256x640.Idx) :
    iblk m c 0 t y = m ((c : Thread nD τ).loc main_arg0) (ix3 (y 0) (row t (y 1)) (y 2)) := by
  blk_simp [iblk]
  exact (congrFun (V_main_arg0 m c) _).trans (congrArg (m ((c : Thread nD τ).loc main_arg0)) (emb0 t y))

/-- Window 1's block, of the argument as launched. -/
theorem in1 (c : Dev nD) (t : Fin cfg0.N) (y : S1x256x640.Idx) :
    iblk m c 1 t y = m ((c : Thread nD τ).loc main_arg1) (ix3 0 (row t (y 1)) (y 2)) := by
  blk_simp [iblk]
  exact (congrFun (V_main_arg1 m c) _).trans (congrArg (m ((c : Thread nD τ).loc main_arg1)) (emb1 t y))

/-- Window 2's block, of the argument as launched. -/
theorem in2 (c : Dev nD) (t : Fin cfg0.N) (y : S1x256x640.Idx) :
    iblk m c 2 t y = m ((c : Thread nD τ).loc main_arg2) (ix3 0 (row t (y 1)) (y 2)) := by
  blk_simp [iblk]
  exact (congrFun (V_main_arg2 m c) _).trans (congrArg (m ((c : Thread nD τ).loc main_arg2)) (emb2 t y))

/-- Window 3's block, of the argument as launched. -/
theorem in3 (c : Dev nD) (t : Fin cfg0.N) (y : S1x256x640.Idx) :
    iblk m c 3 t y = m ((c : Thread nD τ).loc main_arg3) (ix3 0 (row t (y 1)) (y 2)) := by
  blk_simp [iblk]
  exact (congrFun (V_main_arg3 m c) _).trans (congrArg (m ((c : Thread nD τ).loc main_arg3)) (emb3 t y))

/-- The gradient after the run: layer 0 is new, the other layers are as they were. -/
theorem final4 (c : Dev nD) : (dats m 0 c).arrAt 4 cfg0.N = fun j : S4x2048x640.Idx => if (j 0 : ℕ) < 1
    then (Adam.parts 2048 640 (m ((c : Thread nD τ).loc main_arg0)) (j 1) (j 2))
    else (m ((c : Thread nD τ).loc main_arg4)) j := by
  refine (dats m 0 c).arrAt_eq_of_coversWhere 4 (fun j : S4x2048x640.Idx => (Adam.parts 2048 640 (m ((c : Thread nD τ).loc main_arg0)) (j 1) (j 2)))
    (fun β => β (0 : Fin _) = 0) (by decide +kernel) (fun t hf y => ?_) (fun j => by blk_simp [Pipeline.Window.cell_apply]; omega)
  blk_simp
  rw [after0_4]
  unfold outsAt0
  frame_out
  rw [emb4]
  pointwise [k0_pay1, k0_pay2, k0_pay3, k0_pay4, k0_pay5, k0_pay6, k0_pay7, k0_pay8, k0_pay9]
  exact Adam.parts_of _ _ _ _ _ (in0 m c t _) (in0 m c t _) (in0 m c t _) (in0 m c t _)

/-- The weight’s change after the run: layer 0 is new, the other layers are as they were. -/
theorem final5 (c : Dev nD) : (dats m 0 c).arrAt 5 cfg0.N = fun j : S4x2048x640.Idx => if (j 0 : ℕ) < 1
    then Adam.delta (Adam.parts 2048 640 (m ((c : Thread nD τ).loc main_arg0)) (j 1) (j 2)) ((m ((c : Thread nD τ).loc main_arg1)) (ix3 0 (j 1) (j 2))) ((m ((c : Thread nD τ).loc main_arg2)) (ix3 0 (j 1) (j 2))) ((m ((c : Thread nD τ).loc main_arg3)) (ix3 0 (j 1) (j 2)))
    else (m ((c : Thread nD τ).loc main_arg5)) j := by
  refine (dats m 0 c).arrAt_eq_of_coversWhere 5 (fun j : S4x2048x640.Idx => Adam.delta (Adam.parts 2048 640 (m ((c : Thread nD τ).loc main_arg0)) (j 1) (j 2)) ((m ((c : Thread nD τ).loc main_arg1)) (ix3 0 (j 1) (j 2))) ((m ((c : Thread nD τ).loc main_arg2)) (ix3 0 (j 1) (j 2))) ((m ((c : Thread nD τ).loc main_arg3)) (ix3 0 (j 1) (j 2))))
    (fun β => β (0 : Fin _) = 0) (by decide +kernel) (fun t hf y => ?_) (fun j => by blk_simp [Pipeline.Window.cell_apply]; omega)
  blk_simp
  rw [after0_5]
  unfold outsAt0
  frame_out
  rw [emb5]
  pointwise [k0_pay1, k0_pay2, k0_pay3, k0_pay4, k0_pay5, k0_pay6, k0_pay7, k0_pay8, k0_pay9]
  exact Adam.delta_of (Adam.parts_of _ _ _ _ _ (in0 m c t _) (in0 m c t _) (in0 m c t _) (in0 m c t _)) (in1 m c t y) (in2 m c t y) (in3 m c t y)

/-- The first moment after the run: layer 0 is new, the other layers are as they were. -/
theorem final6 (c : Dev nD) : (dats m 0 c).arrAt 6 cfg0.N = fun j : S4x2048x640.Idx => if (j 0 : ℕ) < 1
    then Adam.newM (Adam.parts 2048 640 (m ((c : Thread nD τ).loc main_arg0)) (j 1) (j 2)) ((m ((c : Thread nD τ).loc main_arg2)) (ix3 0 (j 1) (j 2)))
    else (m ((c : Thread nD τ).loc main_arg6)) j := by
  refine (dats m 0 c).arrAt_eq_of_coversWhere 6 (fun j : S4x2048x640.Idx => Adam.newM (Adam.parts 2048 640 (m ((c : Thread nD τ).loc main_arg0)) (j 1) (j 2)) ((m ((c : Thread nD τ).loc main_arg2)) (ix3 0 (j 1) (j 2))))
    (fun β => β (0 : Fin _) = 0) (by decide +kernel) (fun t hf y => ?_) (fun j => by blk_simp [Pipeline.Window.cell_apply]; omega)
  blk_simp
  rw [after0_6]
  unfold outsAt0
  frame_out
  rw [emb6]
  pointwise [k0_pay1, k0_pay2, k0_pay3, k0_pay4, k0_pay5, k0_pay6, k0_pay7, k0_pay8, k0_pay9]
  exact Adam.newM_of (Adam.parts_of _ _ _ _ _ (in0 m c t _) (in0 m c t _) (in0 m c t _) (in0 m c t _)) (in2 m c t y)

/-- The second moment after the run: layer 0 is new, the other layers are as they were. -/
theorem final7 (c : Dev nD) : (dats m 0 c).arrAt 7 cfg0.N = fun j : S4x2048x640.Idx => if (j 0 : ℕ) < 1
    then Adam.newV (Adam.parts 2048 640 (m ((c : Thread nD τ).loc main_arg0)) (j 1) (j 2)) ((m ((c : Thread nD τ).loc main_arg3)) (ix3 0 (j 1) (j 2)))
    else (m ((c : Thread nD τ).loc main_arg7)) j := by
  refine (dats m 0 c).arrAt_eq_of_coversWhere 7 (fun j : S4x2048x640.Idx => Adam.newV (Adam.parts 2048 640 (m ((c : Thread nD τ).loc main_arg0)) (j 1) (j 2)) ((m ((c : Thread nD τ).loc main_arg3)) (ix3 0 (j 1) (j 2))))
    (fun β => β (0 : Fin _) = 0) (by decide +kernel) (fun t hf y => ?_) (fun j => by blk_simp [Pipeline.Window.cell_apply]; omega)
  blk_simp
  rw [after0_7]
  unfold outsAt0
  frame_out
  rw [emb7]
  pointwise [k0_pay1, k0_pay2, k0_pay3, k0_pay4, k0_pay5, k0_pay6, k0_pay7, k0_pay8, k0_pay9]
  exact Adam.newV_of (Adam.parts_of _ _ _ _ _ (in0 m c t _) (in0 m c t _) (in0 m c t _) (in0 m c t _)) (in3 m c t y)

/-- The call’s results are the reference’s, whatever the arguments. -/
theorem claim : Cert.algebraic_Kernel14Ideal_Reference14Ideal := by
  intro m g m' g' _ hagree
  refine ⟨fun c => _, fun c => _, fun c => _, fun c => _, Cert.Kernel14Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference14Ideal.Value.run m' g')
  · obtain ⟨h0, h1, h2, h3, h4, h5, h6, h7⟩ := hagree c
    show _ = (dats m 0 c).arrAt 4 cfg0.N
    rw [final4, h0, h4]
    funext j
    pointwise
    split
    · rfl
    · rename_i hj
      exact congrArg _ (Adam.later_eq 2048 640 j _ hj)
  · obtain ⟨h0, h1, h2, h3, h4, h5, h6, h7⟩ := hagree c
    show _ = (dats m 0 c).arrAt 5 cfg0.N
    rw [final5, h0, h1, h2, h3, h5]
    funext j
    pointwise
    split
    · exact Adam.delta_of rfl rfl rfl rfl
    · rename_i hj
      exact congrArg _ (Adam.later_eq 2048 640 j _ hj)
  · obtain ⟨h0, h1, h2, h3, h4, h5, h6, h7⟩ := hagree c
    show _ = (dats m 0 c).arrAt 6 cfg0.N
    rw [final6, h0, h2, h6]
    funext j
    pointwise
    split
    · exact Adam.newM_of rfl rfl
    · rename_i hj
      exact congrArg _ (Adam.later_eq 2048 640 j _ hj)
  · obtain ⟨h0, h1, h2, h3, h4, h5, h6, h7⟩ := hagree c
    show _ = (dats m 0 c).arrAt 7 cfg0.N
    rw [final7, h0, h3, h7]
    funext j
    pointwise
    split
    · exact Adam.newV_of rfl rfl
    · rename_i hj
      exact congrArg _ (Adam.later_eq 2048 640 j _ hj)

/-- The reference runs, leaves its arguments as launched, and declares no semaphore. -/
theorem frame : Cert.quiescent_Reference14Ideal := fun m ρ _ =>
  (θ_run _ _ _).mono (fun r h => ⟨fun c => (h c).2.2.2.2, sem_eq_zero_of_no_sems (by decide) r.2⟩) (Cert.Reference14Ideal.Value.run m ρ)

end Cert.Call14

end
-- ==== Proof.Call15.lean ====
module

public import proofs.«01_k».proof.Defs
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal.Run
public import proofs.«01_k».proof.Proof.Adam
public import Idealize.ShloMosaic.Lib.Pipeline.ValueKit
public import Idealize.ShloMosaic.Lib.Pipeline.ValueKit.Partial
public import Idealize.ShloMosaic.Lib.Pointwise

/-! The optimiser’s call for the output projection’s weight: the gradient summed over its four parts, and the AdamW step, stored into the arrays of all layers. -/

@[expose] public section

noncomputable section

namespace Cert.Call15

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- Every block but the parts’ lies in layer 0, at the rows of the parts’ block. -/
theorem idx : ∀ t : Fin cfg0.N, win0_4.index t = ![0, win0_0.index t 1, 0] ∧ win0_5.index t = ![0, win0_0.index t 1, 0] ∧ win0_6.index t = ![0, win0_0.index t 1, 0]
    ∧ win0_7.index t = ![0, win0_0.index t 1, 0] ∧ win0_1.index t = ![0, win0_0.index t 1, 0] ∧ win0_2.index t = ![0, win0_0.index t 1, 0]
    ∧ win0_3.index t = ![0, win0_0.index t 1, 0] ∧ win0_0.index t 0 = 0 ∧ win0_0.index t 2 = 0 :=
  (by decide +kernel : ∀ t : Fin grid0.N, _)

/-- The row of the array that row `r` of point `t`'s blocks is. -/
def row (t : Fin cfg0.N) (r : Fin 128) : Fin 256 :=
  ⟨win0_0.index t 1 * 128 + r, by have := (by decide +kernel : ∀ t : Fin grid0.N, win0_0.index t 1 * 128 + 128 ≤ 256) t; omega⟩

/-- Where the block of the four parts lies. -/
theorem emb0 (t : Fin cfg0.N) (y : S4x128x2048.Idx) : (win0_0.blk t).view.emb y = (ix3 (y 0) (row t (y 1)) (y 2) : S4x256x2048.Idx) := by
  unfold row; blk_ext [(idx t).2.2.2.2.2.2.2.1, (idx t).2.2.2.2.2.2.2.2]

/-- Where the block of window 1 lies. -/
theorem emb1 (t : Fin cfg0.N) (y : S1x128x2048.Idx) : (win0_1.blk t).view.emb y = (ix3 0 (row t (y 1)) (y 2) : S4x256x2048.Idx) := by
  unfold row; blk_ext [(idx t).2.2.2.2.1]

/-- Where the block of window 2 lies. -/
theorem emb2 (t : Fin cfg0.N) (y : S1x128x2048.Idx) : (win0_2.blk t).view.emb y = (ix3 0 (row t (y 1)) (y 2) : S4x256x2048.Idx) := by
  unfold row; blk_ext [(idx t).2.2.2.2.2.1]

/-- Where the block of window 3 lies. -/
theorem emb3 (t : Fin cfg0.N) (y : S1x128x2048.Idx) : (win0_3.blk t).view.emb y = (ix3 0 (row t (y 1)) (y 2) : S4x256x2048.Idx) := by
  unfold row; blk_ext [(idx t).2.2.2.2.2.2.1]

/-- Where the block of window 4 lies. -/
theorem emb4 (t : Fin cfg0.N) (y : S1x128x2048.Idx) : (win0_4.blk t).view.emb y = (ix3 0 (row t (y 1)) (y 2) : S4x256x2048.Idx) := by
  unfold row; blk_ext [(idx t).1]

/-- Where the block of window 5 lies. -/
theorem emb5 (t : Fin cfg0.N) (y : S1x128x2048.Idx) : (win0_5.blk t).view.emb y = (ix3 0 (row t (y 1)) (y 2) : S4x256x2048.Idx) := by
  unfold row; blk_ext [(idx t).2.1]

/-- Where the block of window 6 lies. -/
theorem emb6 (t : Fin cfg0.N) (y : S1x128x2048.Idx) : (win0_6.blk t).view.emb y = (ix3 0 (row t (y 1)) (y 2) : S4x256x2048.Idx) := by
  unfold row; blk_ext [(idx t).2.2.1]

/-- Where the block of window 7 lies. -/
theorem emb7 (t : Fin cfg0.N) (y : S1x128x2048.Idx) : (win0_7.blk t).view.emb y = (ix3 0 (row t (y 1)) (y 2) : S4x256x2048.Idx) := by
  unfold row; blk_ext [(idx t).2.2.2.1]

/-- Window 0's block, of the argument as launched. -/
theorem in0 (c : Dev nD) (t : Fin cfg0.N) (y : S4x128x2048.Idx) :
    iblk m c 0 t y = m ((c : Thread nD τ).loc main_arg0) (ix3 (y 0) (row t (y 1)) (y 2)) := by
  blk_simp [iblk]
  exact (congrFun (V_main_arg0 m c) _).trans (congrArg (m ((c : Thread nD τ).loc main_arg0)) (emb0 t y))

/-- Window 1's block, of the argument as launched. -/
theorem in1 (c : Dev nD) (t : Fin cfg0.N) (y : S1x128x2048.Idx) :
    iblk m c 1 t y = m ((c : Thread nD τ).loc main_arg1) (ix3 0 (row t (y 1)) (y 2)) := by
  blk_simp [iblk]
  exact (congrFun (V_main_arg1 m c) _).trans (congrArg (m ((c : Thread nD τ).loc main_arg1)) (emb1 t y))

/-- Window 2's block, of the argument as launched. -/
theorem in2 (c : Dev nD) (t : Fin cfg0.N) (y : S1x128x2048.Idx) :
    iblk m c 2 t y = m ((c : Thread nD τ).loc main_arg2) (ix3 0 (row t (y 1)) (y 2)) := by
  blk_simp [iblk]
  exact (congrFun (V_main_arg2 m c) _).trans (congrArg (m ((c : Thread nD τ).loc main_arg2)) (emb2 t y))

/-- Window 3's block, of the argument as launched. -/
theorem in3 (c : Dev nD) (t : Fin cfg0.N) (y : S1x128x2048.Idx) :
    iblk m c 3 t y = m ((c : Thread nD τ).loc main_arg3) (ix3 0 (row t (y 1)) (y 2)) := by
  blk_simp [iblk]
  exact (congrFun (V_main_arg3 m c) _).trans (congrArg (m ((c : Thread nD τ).loc main_arg3)) (emb3 t y))

/-- The gradient after the run: layer 0 is new, the other layers are as they were. -/
theorem final4 (c : Dev nD) : (dats m 0 c).arrAt 4 cfg0.N = fun j : S4x256x2048.Idx => if (j 0 : ℕ) < 1
    then (Adam.parts 256 2048 (m ((c : Thread nD τ).loc main_arg0)) (j 1) (j 2))
    else (m ((c : Thread nD τ).loc main_arg4)) j := by
  refine (dats m 0 c).arrAt_eq_of_coversWhere 4 (fun j : S4x256x2048.Idx => (Adam.parts 256 2048 (m ((c : Thread nD τ).loc main_arg0)) (j 1) (j 2)))
    (fun β => β (0 : Fin _) = 0) (by decide +kernel) (fun t hf y => ?_) (fun j => by blk_simp [Pipeline.Window.cell_apply]; omega)
  blk_simp
  rw [after0_4]
  unfold outsAt0
  frame_out
  rw [emb4]
  pointwise [k0_pay1, k0_pay2, k0_pay3, k0_pay4, k0_pay5, k0_pay6, k0_pay7, k0_pay8, k0_pay9]
  exact Adam.parts_of _ _ _ _ _ (in0 m c t _) (in0 m c t _) (in0 m c t _) (in0 m c t _)

/-- The weight’s change after the run: layer 0 is new, the other layers are as they were. -/
theorem final5 (c : Dev nD) : (dats m 0 c).arrAt 5 cfg0.N = fun j : S4x256x2048.Idx => if (j 0 : ℕ) < 1
    then Adam.delta (Adam.parts 256 2048 (m ((c : Thread nD τ).loc main_arg0)) (j 1) (j 2)) ((m ((c : Thread nD τ).loc main_arg1)) (ix3 0 (j 1) (j 2))) ((m ((c : Thread nD τ).loc main_arg2)) (ix3 0 (j 1) (j 2))) ((m ((c : Thread nD τ).loc main_arg3)) (ix3 0 (j 1) (j 2)))
    else (m ((c : Thread nD τ).loc main_arg5)) j := by
  refine (dats m 0 c).arrAt_eq_of_coversWhere 5 (fun j : S4x256x2048.Idx => Adam.delta (Adam.parts 256 2048 (m ((c : Thread nD τ).loc main_arg0)) (j 1) (j 2)) ((m ((c : Thread nD τ).loc main_arg1)) (ix3 0 (j 1) (j 2))) ((m ((c : Thread nD τ).loc main_arg2)) (ix3 0 (j 1) (j 2))) ((m ((c : Thread nD τ).loc main_arg3)) (ix3 0 (j 1) (j 2))))
    (fun β => β (0 : Fin _) = 0) (by decide +kernel) (fun t hf y => ?_) (fun j => by blk_simp [Pipeline.Window.cell_apply]; omega)
  blk_simp
  rw [after0_5]
  unfold outsAt0
  frame_out
  rw [emb5]
  pointwise [k0_pay1, k0_pay2, k0_pay3, k0_pay4, k0_pay5, k0_pay6, k0_pay7, k0_pay8, k0_pay9]
  exact Adam.delta_of (Adam.parts_of _ _ _ _ _ (in0 m c t _) (in0 m c t _) (in0 m c t _) (in0 m c t _)) (in1 m c t y) (in2 m c t y) (in3 m c t y)

/-- The first moment after the run: layer 0 is new, the other layers are as they were. -/
theorem final6 (c : Dev nD) : (dats m 0 c).arrAt 6 cfg0.N = fun j : S4x256x2048.Idx => if (j 0 : ℕ) < 1
    then Adam.newM (Adam.parts 256 2048 (m ((c : Thread nD τ).loc main_arg0)) (j 1) (j 2)) ((m ((c : Thread nD τ).loc main_arg2)) (ix3 0 (j 1) (j 2)))
    else (m ((c : Thread nD τ).loc main_arg6)) j := by
  refine (dats m 0 c).arrAt_eq_of_coversWhere 6 (fun j : S4x256x2048.Idx => Adam.newM (Adam.parts 256 2048 (m ((c : Thread nD τ).loc main_arg0)) (j 1) (j 2)) ((m ((c : Thread nD τ).loc main_arg2)) (ix3 0 (j 1) (j 2))))
    (fun β => β (0 : Fin _) = 0) (by decide +kernel) (fun t hf y => ?_) (fun j => by blk_simp [Pipeline.Window.cell_apply]; omega)
  blk_simp
  rw [after0_6]
  unfold outsAt0
  frame_out
  rw [emb6]
  pointwise [k0_pay1, k0_pay2, k0_pay3, k0_pay4, k0_pay5, k0_pay6, k0_pay7, k0_pay8, k0_pay9]
  exact Adam.newM_of (Adam.parts_of _ _ _ _ _ (in0 m c t _) (in0 m c t _) (in0 m c t _) (in0 m c t _)) (in2 m c t y)

/-- The second moment after the run: layer 0 is new, the other layers are as they were. -/
theorem final7 (c : Dev nD) : (dats m 0 c).arrAt 7 cfg0.N = fun j : S4x256x2048.Idx => if (j 0 : ℕ) < 1
    then Adam.newV (Adam.parts 256 2048 (m ((c : Thread nD τ).loc main_arg0)) (j 1) (j 2)) ((m ((c : Thread nD τ).loc main_arg3)) (ix3 0 (j 1) (j 2)))
    else (m ((c : Thread nD τ).loc main_arg7)) j := by
  refine (dats m 0 c).arrAt_eq_of_coversWhere 7 (fun j : S4x256x2048.Idx => Adam.newV (Adam.parts 256 2048 (m ((c : Thread nD τ).loc main_arg0)) (j 1) (j 2)) ((m ((c : Thread nD τ).loc main_arg3)) (ix3 0 (j 1) (j 2))))
    (fun β => β (0 : Fin _) = 0) (by decide +kernel) (fun t hf y => ?_) (fun j => by blk_simp [Pipeline.Window.cell_apply]; omega)
  blk_simp
  rw [after0_7]
  unfold outsAt0
  frame_out
  rw [emb7]
  pointwise [k0_pay1, k0_pay2, k0_pay3, k0_pay4, k0_pay5, k0_pay6, k0_pay7, k0_pay8, k0_pay9]
  exact Adam.newV_of (Adam.parts_of _ _ _ _ _ (in0 m c t _) (in0 m c t _) (in0 m c t _) (in0 m c t _)) (in3 m c t y)

/-- The call’s results are the reference’s, whatever the arguments. -/
theorem claim : Cert.algebraic_Kernel15Ideal_Reference15Ideal := by
  intro m g m' g' _ hagree
  refine ⟨fun c => _, fun c => _, fun c => _, fun c => _, Cert.Kernel15Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference15Ideal.Value.run m' g')
  · obtain ⟨h0, h1, h2, h3, h4, h5, h6, h7⟩ := hagree c
    show _ = (dats m 0 c).arrAt 4 cfg0.N
    rw [final4, h0, h4]
    funext j
    pointwise
    split
    · rfl
    · rename_i hj
      exact congrArg _ (Adam.later_eq 256 2048 j _ hj)
  · obtain ⟨h0, h1, h2, h3, h4, h5, h6, h7⟩ := hagree c
    show _ = (dats m 0 c).arrAt 5 cfg0.N
    rw [final5, h0, h1, h2, h3, h5]
    funext j
    pointwise
    split
    · exact Adam.delta_of rfl rfl rfl rfl
    · rename_i hj
      exact congrArg _ (Adam.later_eq 256 2048 j _ hj)
  · obtain ⟨h0, h1, h2, h3, h4, h5, h6, h7⟩ := hagree c
    show _ = (dats m 0 c).arrAt 6 cfg0.N
    rw [final6, h0, h2, h6]
    funext j
    pointwise
    split
    · exact Adam.newM_of rfl rfl
    · rename_i hj
      exact congrArg _ (Adam.later_eq 256 2048 j _ hj)
  · obtain ⟨h0, h1, h2, h3, h4, h5, h6, h7⟩ := hagree c
    show _ = (dats m 0 c).arrAt 7 cfg0.N
    rw [final7, h0, h3, h7]
    funext j
    pointwise
    split
    · exact Adam.newV_of rfl rfl
    · rename_i hj
      exact congrArg _ (Adam.later_eq 256 2048 j _ hj)

/-- The reference runs, leaves its arguments as launched, and declares no semaphore. -/
theorem frame : Cert.quiescent_Reference15Ideal := fun m ρ _ =>
  (θ_run _ _ _).mono (fun r h => ⟨fun c => (h c).2.2.2.2, sem_eq_zero_of_no_sems (by decide) r.2⟩) (Cert.Reference15Ideal.Value.run m ρ)

end Cert.Call15

end
-- ==== Proof.Call16.lean ====
module

public import proofs.«01_k».proof.Defs
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal.Run
public import proofs.«01_k».proof.Proof.Adam
public import Idealize.ShloMosaic.Lib.Pipeline.ValueKit
public import Idealize.ShloMosaic.Lib.Pipeline.ValueKit.Partial
public import Idealize.ShloMosaic.Lib.Pointwise

/-! The optimiser’s call for the up projection’s weight: the gradient summed over its four parts, and the AdamW step, stored into the arrays of all layers. -/

@[expose] public section

noncomputable section

namespace Cert.Call16

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

/-- Every block but the parts’ lies in layer 0, at the rows of the parts’ block. -/
theorem idx : ∀ t : Fin cfg0.N, win0_4.index t = ![0, win0_0.index t 1, 0] ∧ win0_5.index t = ![0, win0_0.index t 1, 0] ∧ win0_6.index t = ![0, win0_0.index t 1, 0]
    ∧ win0_7.index t = ![0, win0_0.index t 1, 0] ∧ win0_1.index t = ![0, win0_0.index t 1, 0] ∧ win0_2.index t = ![0, win0_0.index t 1, 0]
    ∧ win0_3.index t = ![0, win0_0.index t 1, 0] ∧ win0_0.index t 0 = 0 ∧ win0_0.index t 2 = 0 :=
  (by decide +kernel : ∀ t : Fin grid0.N, _)

/-- The row of the array that row `r` of point `t`'s blocks is. -/
def row (t : Fin cfg0.N) (r : Fin 256) : Fin 2048 :=
  ⟨win0_0.index t 1 * 256 + r, by have := (by decide +kernel : ∀ t : Fin grid0.N, win0_0.index t 1 * 256 + 256 ≤ 2048) t; omega⟩

/-- Where the block of the four parts lies. -/
theorem emb0 (t : Fin cfg0.N) (y : S4x256x1024.Idx) : (win0_0.blk t).view.emb y = (ix3 (y 0) (row t (y 1)) (y 2) : S4x2048x1024.Idx) := by
  unfold row; blk_ext [(idx t).2.2.2.2.2.2.2.1, (idx t).2.2.2.2.2.2.2.2]

/-- Where the block of window 1 lies. -/
theorem emb1 (t : Fin cfg0.N) (y : S1x256x1024.Idx) : (win0_1.blk t).view.emb y = (ix3 0 (row t (y 1)) (y 2) : S4x2048x1024.Idx) := by
  unfold row; blk_ext [(idx t).2.2.2.2.1]

/-- Where the block of window 2 lies. -/
theorem emb2 (t : Fin cfg0.N) (y : S1x256x1024.Idx) : (win0_2.blk t).view.emb y = (ix3 0 (row t (y 1)) (y 2) : S4x2048x1024.Idx) := by
  unfold row; blk_ext [(idx t).2.2.2.2.2.1]

/-- Where the block of window 3 lies. -/
theorem emb3 (t : Fin cfg0.N) (y : S1x256x1024.Idx) : (win0_3.blk t).view.emb y = (ix3 0 (row t (y 1)) (y 2) : S4x2048x1024.Idx) := by
  unfold row; blk_ext [(idx t).2.2.2.2.2.2.1]

/-- Where the block of window 4 lies. -/
theorem emb4 (t : Fin cfg0.N) (y : S1x256x1024.Idx) : (win0_4.blk t).view.emb y = (ix3 0 (row t (y 1)) (y 2) : S4x2048x1024.Idx) := by
  unfold row; blk_ext [(idx t).1]

/-- Where the block of window 5 lies. -/
theorem emb5 (t : Fin cfg0.N) (y : S1x256x1024.Idx) : (win0_5.blk t).view.emb y = (ix3 0 (row t (y 1)) (y 2) : S4x2048x1024.Idx) := by
  unfold row; blk_ext [(idx t).2.1]

/-- Where the block of window 6 lies. -/
theorem emb6 (t : Fin cfg0.N) (y : S1x256x1024.Idx) : (win0_6.blk t).view.emb y = (ix3 0 (row t (y 1)) (y 2) : S4x2048x1024.Idx) := by
  unfold row; blk_ext [(idx t).2.2.1]

/-- Where the block of window 7 lies. -/
theorem emb7 (t : Fin cfg0.N) (y : S1x256x1024.Idx) : (win0_7.blk t).view.emb y = (ix3 0 (row t (y 1)) (y 2) : S4x2048x1024.Idx) := by
  unfold row; blk_ext [(idx t).2.2.2.1]

/-- Window 0's block, of the argument as launched. -/
theorem in0 (c : Dev nD) (t : Fin cfg0.N) (y : S4x256x1024.Idx) :
    iblk m c 0 t y = m ((c : Thread nD τ).loc main_arg0) (ix3 (y 0) (row t (y 1)) (y 2)) := by
  blk_simp [iblk]
  exact (congrFun (V_main_arg0 m c) _).trans (congrArg (m ((c : Thread nD τ).loc main_arg0)) (emb0 t y))

/-- Window 1's block, of the argument as launched. -/
theorem in1 (c : Dev nD) (t : Fin cfg0.N) (y : S1x256x1024.Idx) :
    iblk m c 1 t y = m ((c : Thread nD τ).loc main_arg1) (ix3 0 (row t (y 1)) (y 2)) := by
  blk_simp [iblk]
  exact (congrFun (V_main_arg1 m c) _).trans (congrArg (m ((c : Thread nD τ).loc main_arg1)) (emb1 t y))

/-- Window 2's block, of the argument as launched. -/
theorem in2 (c : Dev nD) (t : Fin cfg0.N) (y : S1x256x1024.Idx) :
    iblk m c 2 t y = m ((c : Thread nD τ).loc main_arg2) (ix3 0 (row t (y 1)) (y 2)) := by
  blk_simp [iblk]
  exact (congrFun (V_main_arg2 m c) _).trans (congrArg (m ((c : Thread nD τ).loc main_arg2)) (emb2 t y))

/-- Window 3's block, of the argument as launched. -/
theorem in3 (c : Dev nD) (t : Fin cfg0.N) (y : S1x256x1024.Idx) :
    iblk m c 3 t y = m ((c : Thread nD τ).loc main_arg3) (ix3 0 (row t (y 1)) (y 2)) := by
  blk_simp [iblk]
  exact (congrFun (V_main_arg3 m c) _).trans (congrArg (m ((c : Thread nD τ).loc main_arg3)) (emb3 t y))

/-- The gradient after the run: layer 0 is new, the other layers are as they were. -/
theorem final4 (c : Dev nD) : (dats m 0 c).arrAt 4 cfg0.N = fun j : S4x2048x1024.Idx => if (j 0 : ℕ) < 1
    then (Adam.parts 2048 1024 (m ((c : Thread nD τ).loc main_arg0)) (j 1) (j 2))
    else (m ((c : Thread nD τ).loc main_arg4)) j := by
  refine (dats m 0 c).arrAt_eq_of_coversWhere 4 (fun j : S4x2048x1024.Idx => (Adam.parts 2048 1024 (m ((c : Thread nD τ).loc main_arg0)) (j 1) (j 2)))
    (fun β => β (0 : Fin _) = 0) (by decide +kernel) (fun t hf y => ?_) (fun j => by blk_simp [Pipeline.Window.cell_apply]; omega)
  blk_simp
  rw [after0_4]
  unfold outsAt0
  frame_out
  rw [emb4]
  pointwise [k0_pay1, k0_pay2, k0_pay3, k0_pay4, k0_pay5, k0_pay6, k0_pay7, k0_pay8, k0_pay9]
  exact Adam.parts_of _ _ _ _ _ (in0 m c t _) (in0 m c t _) (in0 m c t _) (in0 m c t _)

/-- The weight’s change after the run: layer 0 is new, the other layers are as they were. -/
theorem final5 (c : Dev nD) : (dats m 0 c).arrAt 5 cfg0.N = fun j : S4x2048x1024.Idx => if (j 0 : ℕ) < 1
    then Adam.delta (Adam.parts 2048 1024 (m ((c : Thread nD τ).loc main_arg0)) (j 1) (j 2)) ((m ((c : Thread nD τ).loc main_arg1)) (ix3 0 (j 1) (j 2))) ((m ((c : Thread nD τ).loc main_arg2)) (ix3 0 (j 1) (j 2))) ((m ((c : Thread nD τ).loc main_arg3)) (ix3 0 (j 1) (j 2)))
    else (m ((c : Thread nD τ).loc main_arg5)) j := by
  refine (dats m 0 c).arrAt_eq_of_coversWhere 5 (fun j : S4x2048x1024.Idx => Adam.delta (Adam.parts 2048 1024 (m ((c : Thread nD τ).loc main_arg0)) (j 1) (j 2)) ((m ((c : Thread nD τ).loc main_arg1)) (ix3 0 (j 1) (j 2))) ((m ((c : Thread nD τ).loc main_arg2)) (ix3 0 (j 1) (j 2))) ((m ((c : Thread nD τ).loc main_arg3)) (ix3 0 (j 1) (j 2))))
    (fun β => β (0 : Fin _) = 0) (by decide +kernel) (fun t hf y => ?_) (fun j => by blk_simp [Pipeline.Window.cell_apply]; omega)
  blk_simp
  rw [after0_5]
  unfold outsAt0
  frame_out
  rw [emb5]
  pointwise [k0_pay1, k0_pay2, k0_pay3, k0_pay4, k0_pay5, k0_pay6, k0_pay7, k0_pay8, k0_pay9]
  exact Adam.delta_of (Adam.parts_of _ _ _ _ _ (in0 m c t _) (in0 m c t _) (in0 m c t _) (in0 m c t _)) (in1 m c t y) (in2 m c t y) (in3 m c t y)

/-- The first moment after the run: layer 0 is new, the other layers are as they were. -/
theorem final6 (c : Dev nD) : (dats m 0 c).arrAt 6 cfg0.N = fun j : S4x2048x1024.Idx => if (j 0 : ℕ) < 1
    then Adam.newM (Adam.parts 2048 1024 (m ((c : Thread nD τ).loc main_arg0)) (j 1) (j 2)) ((m ((c : Thread nD τ).loc main_arg2)) (ix3 0 (j 1) (j 2)))
    else (m ((c : Thread nD τ).loc main_arg6)) j := by
  refine (dats m 0 c).arrAt_eq_of_coversWhere 6 (fun j : S4x2048x1024.Idx => Adam.newM (Adam.parts 2048 1024 (m ((c : Thread nD τ).loc main_arg0)) (j 1) (j 2)) ((m ((c : Thread nD τ).loc main_arg2)) (ix3 0 (j 1) (j 2))))
    (fun β => β (0 : Fin _) = 0) (by decide +kernel) (fun t hf y => ?_) (fun j => by blk_simp [Pipeline.Window.cell_apply]; omega)
  blk_simp
  rw [after0_6]
  unfold outsAt0
  frame_out
  rw [emb6]
  pointwise [k0_pay1, k0_pay2, k0_pay3, k0_pay4, k0_pay5, k0_pay6, k0_pay7, k0_pay8, k0_pay9]
  exact Adam.newM_of (Adam.parts_of _ _ _ _ _ (in0 m c t _) (in0 m c t _) (in0 m c t _) (in0 m c t _)) (in2 m c t y)

/-- The second moment after the run: layer 0 is new, the other layers are as they were. -/
theorem final7 (c : Dev nD) : (dats m 0 c).arrAt 7 cfg0.N = fun j : S4x2048x1024.Idx => if (j 0 : ℕ) < 1
    then Adam.newV (Adam.parts 2048 1024 (m ((c : Thread nD τ).loc main_arg0)) (j 1) (j 2)) ((m ((c : Thread nD τ).loc main_arg3)) (ix3 0 (j 1) (j 2)))
    else (m ((c : Thread nD τ).loc main_arg7)) j := by
  refine (dats m 0 c).arrAt_eq_of_coversWhere 7 (fun j : S4x2048x1024.Idx => Adam.newV (Adam.parts 2048 1024 (m ((c : Thread nD τ).loc main_arg0)) (j 1) (j 2)) ((m ((c : Thread nD τ).loc main_arg3)) (ix3 0 (j 1) (j 2))))
    (fun β => β (0 : Fin _) = 0) (by decide +kernel) (fun t hf y => ?_) (fun j => by blk_simp [Pipeline.Window.cell_apply]; omega)
  blk_simp
  rw [after0_7]
  unfold outsAt0
  frame_out
  rw [emb7]
  pointwise [k0_pay1, k0_pay2, k0_pay3, k0_pay4, k0_pay5, k0_pay6, k0_pay7, k0_pay8, k0_pay9]
  exact Adam.newV_of (Adam.parts_of _ _ _ _ _ (in0 m c t _) (in0 m c t _) (in0 m c t _) (in0 m c t _)) (in3 m c t y)

/-- The call’s results are the reference’s, whatever the arguments. -/
theorem claim : Cert.algebraic_Kernel16Ideal_Reference16Ideal := by
  intro m g m' g' _ hagree
  refine ⟨fun c => _, fun c => _, fun c => _, fun c => _, Cert.Kernel16Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference16Ideal.Value.run m' g')
  · obtain ⟨h0, h1, h2, h3, h4, h5, h6, h7⟩ := hagree c
    show _ = (dats m 0 c).arrAt 4 cfg0.N
    rw [final4, h0, h4]
    funext j
    pointwise
    split
    · rfl
    · rename_i hj
      exact congrArg _ (Adam.later_eq 2048 1024 j _ hj)
  · obtain ⟨h0, h1, h2, h3, h4, h5, h6, h7⟩ := hagree c
    show _ = (dats m 0 c).arrAt 5 cfg0.N
    rw [final5, h0, h1, h2, h3, h5]
    funext j
    pointwise
    split
    · exact Adam.delta_of rfl rfl rfl rfl
    · rename_i hj
      exact congrArg _ (Adam.later_eq 2048 1024 j _ hj)
  · obtain ⟨h0, h1, h2, h3, h4, h5, h6, h7⟩ := hagree c
    show _ = (dats m 0 c).arrAt 6 cfg0.N
    rw [final6, h0, h2, h6]
    funext j
    pointwise
    split
    · exact Adam.newM_of rfl rfl
    · rename_i hj
      exact congrArg _ (Adam.later_eq 2048 1024 j _ hj)
  · obtain ⟨h0, h1, h2, h3, h4, h5, h6, h7⟩ := hagree c
    show _ = (dats m 0 c).arrAt 7 cfg0.N
    rw [final7, h0, h3, h7]
    funext j
    pointwise
    split
    · exact Adam.newV_of rfl rfl
    · rename_i hj
      exact congrArg _ (Adam.later_eq 2048 1024 j _ hj)

/-- The reference runs, leaves its arguments as launched, and declares no semaphore. -/
theorem frame : Cert.quiescent_Reference16Ideal := fun m ρ _ =>
  (θ_run _ _ _).mono (fun r h => ⟨fun c => (h c).2.2.2.2, sem_eq_zero_of_no_sems (by decide) r.2⟩) (Cert.Reference16Ideal.Value.run m ρ)

end Cert.Call16

end
-- ==== Proof.Call17.lean ====
module

public import proofs.«01_k».proof.Defs
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal.Run
public import proofs.«01_k».proof.Proof.Adam
public import Idealize.ShloMosaic.Lib.Pipeline.ValueKit
public import Idealize.ShloMosaic.Lib.Pipeline.ValueKit.Partial
public import Idealize.ShloMosaic.Lib.Pointwise

/-! The optimiser’s call for the down projection’s weight: the gradient summed over its four parts, and the AdamW step, stored into the arrays of all layers. -/

@[expose] public section

noncomputable section

namespace Cert.Call17

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

/-- Every block but the parts’ lies in layer 0, at the rows of the parts’ block. -/
theorem idx : ∀ t : Fin cfg0.N, win0_4.index t = ![0, win0_0.index t 1, 0] ∧ win0_5.index t = ![0, win0_0.index t 1, 0] ∧ win0_6.index t = ![0, win0_0.index t 1, 0]
    ∧ win0_7.index t = ![0, win0_0.index t 1, 0] ∧ win0_1.index t = ![0, win0_0.index t 1, 0] ∧ win0_2.index t = ![0, win0_0.index t 1, 0]
    ∧ win0_3.index t = ![0, win0_0.index t 1, 0] ∧ win0_0.index t 0 = 0 ∧ win0_0.index t 2 = 0 :=
  (by decide +kernel : ∀ t : Fin grid0.N, _)

/-- The row of the array that row `r` of point `t`'s blocks is. -/
def row (t : Fin cfg0.N) (r : Fin 128) : Fin 1024 :=
  ⟨win0_0.index t 1 * 128 + r, by have := (by decide +kernel : ∀ t : Fin grid0.N, win0_0.index t 1 * 128 + 128 ≤ 1024) t; omega⟩

/-- Where the block of the four parts lies. -/
theorem emb0 (t : Fin cfg0.N) (y : S4x128x2048.Idx) : (win0_0.blk t).view.emb y = (ix3 (y 0) (row t (y 1)) (y 2) : S4x1024x2048.Idx) := by
  unfold row; blk_ext [(idx t).2.2.2.2.2.2.2.1, (idx t).2.2.2.2.2.2.2.2]

/-- Where the block of window 1 lies. -/
theorem emb1 (t : Fin cfg0.N) (y : S1x128x2048.Idx) : (win0_1.blk t).view.emb y = (ix3 0 (row t (y 1)) (y 2) : S4x1024x2048.Idx) := by
  unfold row; blk_ext [(idx t).2.2.2.2.1]

/-- Where the block of window 2 lies. -/
theorem emb2 (t : Fin cfg0.N) (y : S1x128x2048.Idx) : (win0_2.blk t).view.emb y = (ix3 0 (row t (y 1)) (y 2) : S4x1024x2048.Idx) := by
  unfold row; blk_ext [(idx t).2.2.2.2.2.1]

/-- Where the block of window 3 lies. -/
theorem emb3 (t : Fin cfg0.N) (y : S1x128x2048.Idx) : (win0_3.blk t).view.emb y = (ix3 0 (row t (y 1)) (y 2) : S4x1024x2048.Idx) := by
  unfold row; blk_ext [(idx t).2.2.2.2.2.2.1]

/-- Where the block of window 4 lies. -/
theorem emb4 (t : Fin cfg0.N) (y : S1x128x2048.Idx) : (win0_4.blk t).view.emb y = (ix3 0 (row t (y 1)) (y 2) : S4x1024x2048.Idx) := by
  unfold row; blk_ext [(idx t).1]

/-- Where the block of window 5 lies. -/
theorem emb5 (t : Fin cfg0.N) (y : S1x128x2048.Idx) : (win0_5.blk t).view.emb y = (ix3 0 (row t (y 1)) (y 2) : S4x1024x2048.Idx) := by
  unfold row; blk_ext [(idx t).2.1]

/-- Where the block of window 6 lies. -/
theorem emb6 (t : Fin cfg0.N) (y : S1x128x2048.Idx) : (win0_6.blk t).view.emb y = (ix3 0 (row t (y 1)) (y 2) : S4x1024x2048.Idx) := by
  unfold row; blk_ext [(idx t).2.2.1]

/-- Where the block of window 7 lies. -/
theorem emb7 (t : Fin cfg0.N) (y : S1x128x2048.Idx) : (win0_7.blk t).view.emb y = (ix3 0 (row t (y 1)) (y 2) : S4x1024x2048.Idx) := by
  unfold row; blk_ext [(idx t).2.2.2.1]

/-- Window 0's block, of the argument as launched. -/
theorem in0 (c : Dev nD) (t : Fin cfg0.N) (y : S4x128x2048.Idx) :
    iblk m c 0 t y = m ((c : Thread nD τ).loc main_arg0) (ix3 (y 0) (row t (y 1)) (y 2)) := by
  blk_simp [iblk]
  exact (congrFun (V_main_arg0 m c) _).trans (congrArg (m ((c : Thread nD τ).loc main_arg0)) (emb0 t y))

/-- Window 1's block, of the argument as launched. -/
theorem in1 (c : Dev nD) (t : Fin cfg0.N) (y : S1x128x2048.Idx) :
    iblk m c 1 t y = m ((c : Thread nD τ).loc main_arg1) (ix3 0 (row t (y 1)) (y 2)) := by
  blk_simp [iblk]
  exact (congrFun (V_main_arg1 m c) _).trans (congrArg (m ((c : Thread nD τ).loc main_arg1)) (emb1 t y))

/-- Window 2's block, of the argument as launched. -/
theorem in2 (c : Dev nD) (t : Fin cfg0.N) (y : S1x128x2048.Idx) :
    iblk m c 2 t y = m ((c : Thread nD τ).loc main_arg2) (ix3 0 (row t (y 1)) (y 2)) := by
  blk_simp [iblk]
  exact (congrFun (V_main_arg2 m c) _).trans (congrArg (m ((c : Thread nD τ).loc main_arg2)) (emb2 t y))

/-- Window 3's block, of the argument as launched. -/
theorem in3 (c : Dev nD) (t : Fin cfg0.N) (y : S1x128x2048.Idx) :
    iblk m c 3 t y = m ((c : Thread nD τ).loc main_arg3) (ix3 0 (row t (y 1)) (y 2)) := by
  blk_simp [iblk]
  exact (congrFun (V_main_arg3 m c) _).trans (congrArg (m ((c : Thread nD τ).loc main_arg3)) (emb3 t y))

/-- The gradient after the run: layer 0 is new, the other layers are as they were. -/
theorem final4 (c : Dev nD) : (dats m 0 c).arrAt 4 cfg0.N = fun j : S4x1024x2048.Idx => if (j 0 : ℕ) < 1
    then (Adam.parts 1024 2048 (m ((c : Thread nD τ).loc main_arg0)) (j 1) (j 2))
    else (m ((c : Thread nD τ).loc main_arg4)) j := by
  refine (dats m 0 c).arrAt_eq_of_coversWhere 4 (fun j : S4x1024x2048.Idx => (Adam.parts 1024 2048 (m ((c : Thread nD τ).loc main_arg0)) (j 1) (j 2)))
    (fun β => β (0 : Fin _) = 0) (by decide +kernel) (fun t hf y => ?_) (fun j => by blk_simp [Pipeline.Window.cell_apply]; omega)
  blk_simp
  rw [after0_4]
  unfold outsAt0
  frame_out
  rw [emb4]
  pointwise [k0_pay1, k0_pay2, k0_pay3, k0_pay4, k0_pay5, k0_pay6, k0_pay7, k0_pay8, k0_pay9]
  exact Adam.parts_of _ _ _ _ _ (in0 m c t _) (in0 m c t _) (in0 m c t _) (in0 m c t _)

/-- The weight’s change after the run: layer 0 is new, the other layers are as they were. -/
theorem final5 (c : Dev nD) : (dats m 0 c).arrAt 5 cfg0.N = fun j : S4x1024x2048.Idx => if (j 0 : ℕ) < 1
    then Adam.delta (Adam.parts 1024 2048 (m ((c : Thread nD τ).loc main_arg0)) (j 1) (j 2)) ((m ((c : Thread nD τ).loc main_arg1)) (ix3 0 (j 1) (j 2))) ((m ((c : Thread nD τ).loc main_arg2)) (ix3 0 (j 1) (j 2))) ((m ((c : Thread nD τ).loc main_arg3)) (ix3 0 (j 1) (j 2)))
    else (m ((c : Thread nD τ).loc main_arg5)) j := by
  refine (dats m 0 c).arrAt_eq_of_coversWhere 5 (fun j : S4x1024x2048.Idx => Adam.delta (Adam.parts 1024 2048 (m ((c : Thread nD τ).loc main_arg0)) (j 1) (j 2)) ((m ((c : Thread nD τ).loc main_arg1)) (ix3 0 (j 1) (j 2))) ((m ((c : Thread nD τ).loc main_arg2)) (ix3 0 (j 1) (j 2))) ((m ((c : Thread nD τ).loc main_arg3)) (ix3 0 (j 1) (j 2))))
    (fun β => β (0 : Fin _) = 0) (by decide +kernel) (fun t hf y => ?_) (fun j => by blk_simp [Pipeline.Window.cell_apply]; omega)
  blk_simp
  rw [after0_5]
  unfold outsAt0
  frame_out
  rw [emb5]
  pointwise [k0_pay1, k0_pay2, k0_pay3, k0_pay4, k0_pay5, k0_pay6, k0_pay7, k0_pay8, k0_pay9]
  exact Adam.delta_of (Adam.parts_of _ _ _ _ _ (in0 m c t _) (in0 m c t _) (in0 m c t _) (in0 m c t _)) (in1 m c t y) (in2 m c t y) (in3 m c t y)

/-- The first moment after the run: layer 0 is new, the other layers are as they were. -/
theorem final6 (c : Dev nD) : (dats m 0 c).arrAt 6 cfg0.N = fun j : S4x1024x2048.Idx => if (j 0 : ℕ) < 1
    then Adam.newM (Adam.parts 1024 2048 (m ((c : Thread nD τ).loc main_arg0)) (j 1) (j 2)) ((m ((c : Thread nD τ).loc main_arg2)) (ix3 0 (j 1) (j 2)))
    else (m ((c : Thread nD τ).loc main_arg6)) j := by
  refine (dats m 0 c).arrAt_eq_of_coversWhere 6 (fun j : S4x1024x2048.Idx => Adam.newM (Adam.parts 1024 2048 (m ((c : Thread nD τ).loc main_arg0)) (j 1) (j 2)) ((m ((c : Thread nD τ).loc main_arg2)) (ix3 0 (j 1) (j 2))))
    (fun β => β (0 : Fin _) = 0) (by decide +kernel) (fun t hf y => ?_) (fun j => by blk_simp [Pipeline.Window.cell_apply]; omega)
  blk_simp
  rw [after0_6]
  unfold outsAt0
  frame_out
  rw [emb6]
  pointwise [k0_pay1, k0_pay2, k0_pay3, k0_pay4, k0_pay5, k0_pay6, k0_pay7, k0_pay8, k0_pay9]
  exact Adam.newM_of (Adam.parts_of _ _ _ _ _ (in0 m c t _) (in0 m c t _) (in0 m c t _) (in0 m c t _)) (in2 m c t y)

/-- The second moment after the run: layer 0 is new, the other layers are as they were. -/
theorem final7 (c : Dev nD) : (dats m 0 c).arrAt 7 cfg0.N = fun j : S4x1024x2048.Idx => if (j 0 : ℕ) < 1
    then Adam.newV (Adam.parts 1024 2048 (m ((c : Thread nD τ).loc main_arg0)) (j 1) (j 2)) ((m ((c : Thread nD τ).loc main_arg3)) (ix3 0 (j 1) (j 2)))
    else (m ((c : Thread nD τ).loc main_arg7)) j := by
  refine (dats m 0 c).arrAt_eq_of_coversWhere 7 (fun j : S4x1024x2048.Idx => Adam.newV (Adam.parts 1024 2048 (m ((c : Thread nD τ).loc main_arg0)) (j 1) (j 2)) ((m ((c : Thread nD τ).loc main_arg3)) (ix3 0 (j 1) (j 2))))
    (fun β => β (0 : Fin _) = 0) (by decide +kernel) (fun t hf y => ?_) (fun j => by blk_simp [Pipeline.Window.cell_apply]; omega)
  blk_simp
  rw [after0_7]
  unfold outsAt0
  frame_out
  rw [emb7]
  pointwise [k0_pay1, k0_pay2, k0_pay3, k0_pay4, k0_pay5, k0_pay6, k0_pay7, k0_pay8, k0_pay9]
  exact Adam.newV_of (Adam.parts_of _ _ _ _ _ (in0 m c t _) (in0 m c t _) (in0 m c t _) (in0 m c t _)) (in3 m c t y)

/-- The call’s results are the reference’s, whatever the arguments. -/
theorem claim : Cert.algebraic_Kernel17Ideal_Reference17Ideal := by
  intro m g m' g' _ hagree
  refine ⟨fun c => _, fun c => _, fun c => _, fun c => _, Cert.Kernel17Ideal.Value.run_blocks m g, ?_⟩
  refine (θ_run _ _ _).mono (fun r h c => ⟨(h c).1.trans ?_, (h c).2.1.trans ?_, (h c).2.2.1.trans ?_, (h c).2.2.2.1.trans ?_, (h c).2.2.2.2⟩)
    (Cert.Reference17Ideal.Value.run m' g')
  · obtain ⟨h0, h1, h2, h3, h4, h5, h6, h7⟩ := hagree c
    show _ = (dats m 0 c).arrAt 4 cfg0.N
    rw [final4, h0, h4]
    funext j
    pointwise
    split
    · rfl
    · rename_i hj
      exact congrArg _ (Adam.later_eq 1024 2048 j _ hj)
  · obtain ⟨h0, h1, h2, h3, h4, h5, h6, h7⟩ := hagree c
    show _ = (dats m 0 c).arrAt 5 cfg0.N
    rw [final5, h0, h1, h2, h3, h5]
    funext j
    pointwise
    split
    · exact Adam.delta_of rfl rfl rfl rfl
    · rename_i hj
      exact congrArg _ (Adam.later_eq 1024 2048 j _ hj)
  · obtain ⟨h0, h1, h2, h3, h4, h5, h6, h7⟩ := hagree c
    show _ = (dats m 0 c).arrAt 6 cfg0.N
    rw [final6, h0, h2, h6]
    funext j
    pointwise
    split
    · exact Adam.newM_of rfl rfl
    · rename_i hj
      exact congrArg _ (Adam.later_eq 1024 2048 j _ hj)
  · obtain ⟨h0, h1, h2, h3, h4, h5, h6, h7⟩ := hagree c
    show _ = (dats m 0 c).arrAt 7 cfg0.N
    rw [final7, h0, h3, h7]
    funext j
    pointwise
    split
    · exact Adam.newV_of rfl rfl
    · rename_i hj
      exact congrArg _ (Adam.later_eq 1024 2048 j _ hj)

/-- The reference runs, leaves its arguments as launched, and declares no semaphore. -/
theorem frame : Cert.quiescent_Reference17Ideal := fun m ρ _ =>
  (θ_run _ _ _).mono (fun r h => ⟨fun c => (h c).2.2.2.2, sem_eq_zero_of_no_sems (by decide) r.2⟩) (Cert.Reference17Ideal.Value.run m ρ)

end Cert.Call17

end
-- ==== Proof.Pack.lean ====
module

public import proofs.«01_k».proof.Proof.Adam
public import Idealize.ShloMosaic.Lib.Pipeline.ValueKit
public import Idealize.ShloMosaic.Lib.Pointwise
public import Idealize.ShloMosaic.Lib.IdealHost
public import Idealize.ShloMosaic.Lib.KernelVsHost

/-! Arrays packed one after the other and padded with zeros: an elementwise step of the packed arrays is the packed steps. -/

@[expose] public section

noncomputable section

namespace Cert.Pack

open Idealize.ShloMosaic

/-- A vector of `n` elements followed by `z`s, at a position. -/
def ext {α : Type} (n N : ℕ) (x : ({ rank := 1, size := ![n] } : Shape).Idx → α) (z : α)
    (k : ({ rank := 1, size := ![N] } : Shape).Idx) : α :=
  if h : (k 0 : ℕ) < n then x (ix1 ⟨(k 0 : ℕ), h⟩) else z

/-- Padding at the end. -/
theorem pad_eq {α : Type} (n h N : ℕ) (x : ({ rank := 1, size := ![n] } : Shape).Idx → α) (v : ({ rank := 0, size := ![] } : Shape).Idx → α) (z : α)
    (hz : ∀ i, v i = z) (hp : ({ rank := 1, size := ![n] } : Shape).Pads ![0] ![h] ![0] { rank := 1, size := ![N] })
    (hu : 0 < ({ rank := 0, size := ![] } : Shape).numel) :
    pad { rank := 1, size := ![N] } ![0] ![h] ![0] x v hp hu = ext n N x z := by
  funext k
  unfold ext
  by_cases hk : (k 0 : ℕ) < n
  · rw [dif_pos hk]
    refine pad_apply_of_inside _ _ _ x v hp hu k _ fun a => ?_
    obtain rfl : a = 0 := Subsingleton.elim _ _
    show (k 0 : ℕ) = 0 + (k 0 : ℕ) * (0 + 1)
    omega
  · rw [dif_neg hk]
    refine (pad_apply_of_not_inside _ _ _ x v hp hu k 0 fun hc => hk ?_).trans (hz _)
    have h2 : ((k 0 : ℕ) - 0) / (0 + 1) < n := hc.2.2
    simpa using h2

/-- Appending a constant vector. -/
theorem append_eq {α : Type} (n h N : ℕ) (x : ({ rank := 1, size := ![n] } : Shape).Idx → α) (v : ({ rank := 1, size := ![h] } : Shape).Idx → α) (z : α)
    (hz : ∀ i, v i = z)
    (hc : Shape.Concatenates [{ rank := 1, size := ![n] }, { rank := 1, size := ![h] }] { rank := 1, size := ![N] } 0) :
    concatenate { rank := 1, size := ![N] } 0 [⟨{ rank := 1, size := ![n] }, x⟩, ⟨{ rank := 1, size := ![h] }, v⟩] hc = ext n N x z := by
  funext k
  unfold ext
  rw [concatenate_pair_apply]
  by_cases hk : (k 0 : ℕ) < n
  · rw [dif_pos hk]
    refine (dif_pos (show (k 0 : ℕ) < _ from hk)).trans (congrArg x (funext fun b => ?_))
    obtain rfl : b = 0 := Subsingleton.elim _ _
    rfl
  · rw [dif_neg hk]
    exact (dif_neg (show ¬ (k 0 : ℕ) < _ from hk)).trans (hz _)

/-- A concatenation read at a position, each element mapped. -/
theorem concatenateAt_map {α β : Type} (f : α → β) (t : Shape) (a : Fin t.rank) (j : t.Idx) :
    ∀ (xs : List ((s : Shape) × (s.Idx → α))) (hs : ∀ s ∈ xs.map (·.1), s.FitsOff t a)
      (hs' : ∀ s ∈ (xs.map fun p => (⟨p.1, fun i => f (p.2 i)⟩ : (s : Shape) × (s.Idx → β))).map (·.1), s.FitsOff t a) (c : ℕ)
      (hc : c < (axisSizes t a xs).sum)
      (hc' : c < (axisSizes t a (xs.map fun p => (⟨p.1, fun i => f (p.2 i)⟩ : (s : Shape) × (s.Idx → β)))).sum),
      concatenateAt t a j (xs.map fun p => (⟨p.1, fun i => f (p.2 i)⟩ : (s : Shape) × (s.Idx → β))) hs' c hc'
        = f (concatenateAt t a j xs hs c hc)
  | [], _, _, _, hc, _ => absurd hc (Nat.not_lt_zero _)
  | [p], hs, hs', c, hc, hc' => by
    rw [concatenateAt_singleton a j p.2 hs c hc]
    exact concatenateAt_singleton a j (fun i => f (p.2 i)) hs' c hc'
  | p :: q :: xs, hs, hs', c, hc, hc' => by
    rw [concatenateAt_cons a j p.2 q xs hs c hc]
    refine (concatenateAt_cons a j (fun i => f (p.2 i)) _ _ hs' c hc').trans ?_
    rw [apply_dite f]
    exact dite_congr rfl (fun _ => rfl) fun _ => concatenateAt_map f t a j (q :: xs) _ _ _ _ _

/-- A concatenation of mapped arrays is the concatenation, mapped. -/
theorem concatenate_map {α β : Type} (f : α → β) (t : Shape) (a : Fin t.rank) (xs : List ((s : Shape) × (s.Idx → α)))
    (h : Shape.Concatenates (xs.map (·.1)) t a)
    (h' : Shape.Concatenates ((xs.map fun p => (⟨p.1, fun i => f (p.2 i)⟩ : (s : Shape) × (s.Idx → β))).map (·.1)) t a) (j : t.Idx) :
    concatenate t a (xs.map fun p => (⟨p.1, fun i => f (p.2 i)⟩ : (s : Shape) × (s.Idx → β))) h' j = f (concatenate t a xs h j) := by
  rw [concatenate_apply, concatenate_apply]
  exact concatenateAt_map f t a j xs _ _ _ _ _

/-- A map of a padded vector. -/
theorem ext_map {α β : Type} (f : α → β) (n N : ℕ) (x : ({ rank := 1, size := ![n] } : Shape).Idx → α) (z : α)
    (k : ({ rank := 1, size := ![N] } : Shape).Idx) : ext n N (fun i => f (x i)) (f z) k = f (ext n N x z k) := by
  unfold ext; split <;> rfl

/-- The first moment of a whole array, as the host computes it. -/
theorem newM_array {s : Shape} (hb : ({ rank := 0, size := ![] } : Shape).BroadcastsInDim s ![]) (g m : FVec Ideal s .f32) :
    addf (mulf (broadcastInDim s ![] hb (constant { rank := 0, size := ![] } .f32 0x3F666666#32)) m)
      (mulf (broadcastInDim s ![] hb (constant { rank := 0, size := ![] } .f32 0x3DCCCCCD#32)) g) = fun i => Adam.newM (g i) (m i) := rfl

/-- The second moment of a whole array, as the host computes it. -/
theorem newV_array {s : Shape} (hb : ({ rank := 0, size := ![] } : Shape).BroadcastsInDim s ![]) (g v : FVec Ideal s .f32) :
    addf (mulf (broadcastInDim s ![] hb (constant { rank := 0, size := ![] } .f32 0x3F7FBE77#32)) v)
      (mulf (broadcastInDim s ![] hb (constant { rank := 0, size := ![] } .f32 0x3A83126F#32)) (mulf g g)) = fun i => Adam.newV (g i) (v i) := rfl

/-- The weight's change of a whole array, as the host computes it. -/
theorem delta_array {s : Shape} (hb : ({ rank := 0, size := ![] } : Shape).BroadcastsInDim s ![]) (g w m v : FVec Ideal s .f32) :
    mulf (broadcastInDim s ![] hb (constant { rank := 0, size := ![] } .f32 0xBA83126F#32))
      (addf (Host.divf (Host.divf (fun i => Adam.newM (g i) (m i)) (broadcastInDim s ![] hb (constant { rank := 0, size := ![] } .f32 0x3F26BD02#32)))
          (addf (Host.sqrt (Host.divf (fun i => Adam.newV (g i) (v i)) (broadcastInDim s ![] hb (constant { rank := 0, size := ![] } .f32 0x3C231ACC#32))))
            (broadcastInDim s ![] hb (constant { rank := 0, size := ![] } .f32 0x322BCC77#32))))
        (mulf (broadcastInDim s ![] hb (constant { rank := 0, size := ![] } .f32 0x3C23D70A#32)) w)) = fun i => Adam.delta (g i) (w i) (m i) (v i) := rfl

/-- No gradient and no moment: the first moment stays zero. -/
theorem newM_zero : Adam.newM 0 0 = 0 := by unfold Adam.newM; rw [mul_zero, mul_zero, add_zero]

/-- No gradient and no moment: the second moment stays zero. -/
theorem newV_zero : Adam.newV 0 0 = 0 := by unfold Adam.newV; rw [mul_zero, mul_zero, mul_zero, add_zero]

/-- The step of a zero weight without gradient and moments is zero. -/
theorem delta_zero : Adam.delta 0 0 0 0 = 0 := by
  have h1 : Ideal.ofBits .f32 0x3F26BD02#32 ≠ 0 := by simp [Ideal.ofBits, Ideal.ieee]
  have h2 : Ideal.ofBits .f32 0x3C231ACC#32 ≠ 0 := by simp [Ideal.ofBits, Ideal.ieee]
  have h3 : Ideal.ofBits .f32 0x322BCC77#32 ≠ 0 := by simp [Ideal.ofBits, Ideal.ieee]
  have hs : Ideal.sqrt 0 = 0 := by
    show (if (0 : ℝ) < 0 then ⊥ else (Real.sqrt 0 : EReal)) = 0
    rw [if_neg (lt_irrefl _), Real.sqrt_zero, EReal.coe_zero]
  unfold Adam.delta
  rw [newM_zero, newV_zero, Ideal.zero_div h1, Ideal.zero_div h2, hs, zero_add, Ideal.zero_div h3, mul_zero, add_zero, mul_zero]

end Cert.Pack

end
-- ==== Proof.Call18.lean ====
module

public import proofs.«01_k».proof.Defs
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal.Run
public import proofs.«01_k».proof.Proof.Pack
public import Idealize.ShloMosaic.Lib.Pipeline.ValueKit
public import Idealize.ShloMosaic.Lib.Pointwise

/-! The optimiser’s call for the convolution’s tap weight: the AdamW step of the packed arrays. -/

@[expose] public section

noncomputable section

namespace Cert.Call18

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

/-- Every block lies at the rows of the first array’s block. -/
theorem idx : ∀ t : Fin cfg0.N, win0_1.index t = ![win0_0.index t 0, 0] ∧ win0_2.index t = ![win0_0.index t 0, 0] ∧ win0_3.index t = ![win0_0.index t 0, 0]
    ∧ win0_4.index t = ![win0_0.index t 0, 0] ∧ win0_5.index t = ![win0_0.index t 0, 0] ∧ win0_6.index t = ![win0_0.index t 0, 0]
    ∧ win0_0.index t 1 = 0 :=
  (by decide +kernel : ∀ t : Fin grid0.N, _)

/-- The row of the packed array that row `r` of point `t`'s blocks is. -/
def row (t : Fin cfg0.N) (r : Fin 128) : Fin 128 :=
  ⟨win0_0.index t 0 * 128 + r, by have := (by decide +kernel : ∀ t : Fin grid0.N, win0_0.index t 0 * 128 + 128 ≤ 128) t; omega⟩

/-- Where the block of window 0 lies. -/
theorem emb0 (t : Fin cfg0.N) (y : S128x128.Idx) : (win0_0.blk t).view.emb y = (ix2 (row t (y 0)) (y 1) : S128x128.Idx) := by
  unfold row; blk_ext [(idx t).2.2.2.2.2.2]

/-- Where the block of window 1 lies. -/
theorem emb1 (t : Fin cfg0.N) (y : S128x128.Idx) : (win0_1.blk t).view.emb y = (ix2 (row t (y 0)) (y 1) : S128x128.Idx) := by
  unfold row; blk_ext [(idx t).1]

/-- Where the block of window 2 lies. -/
theorem emb2 (t : Fin cfg0.N) (y : S128x128.Idx) : (win0_2.blk t).view.emb y = (ix2 (row t (y 0)) (y 1) : S128x128.Idx) := by
  unfold row; blk_ext [(idx t).2.1]

/-- Where the block of window 3 lies. -/
theorem emb3 (t : Fin cfg0.N) (y : S128x128.Idx) : (win0_3.blk t).view.emb y = (ix2 (row t (y 0)) (y 1) : S128x128.Idx) := by
  unfold row; blk_ext [(idx t).2.2.1]

/-- Where the block of window 4 lies. -/
theorem emb4 (t : Fin cfg0.N) (y : S128x128.Idx) : (win0_4.blk t).view.emb y = (ix2 (row t (y 0)) (y 1) : S128x128.Idx) := by
  unfold row; blk_ext [(idx t).2.2.2.1]

/-- Where the block of window 5 lies. -/
theorem emb5 (t : Fin cfg0.N) (y : S128x128.Idx) : (win0_5.blk t).view.emb y = (ix2 (row t (y 0)) (y 1) : S128x128.Idx) := by
  unfold row; blk_ext [(idx t).2.2.2.2.1]

/-- Where the block of window 6 lies. -/
theorem emb6 (t : Fin cfg0.N) (y : S128x128.Idx) : (win0_6.blk t).view.emb y = (ix2 (row t (y 0)) (y 1) : S128x128.Idx) := by
  unfold row; blk_ext [(idx t).2.2.2.2.2.1]

/-- The block of window 0 holds its rows of the packed array. -/
theorem in0 (c : Dev nD) (t : Fin cfg0.N) (y : S128x128.Idx) : iblk m c 0 t y = V m c main_v2 (ix2 (row t (y 0)) (y 1)) := by
  blk_simp [iblk]
  exact congrArg (V m c main_v2) (emb0 t y)

/-- The block of window 1 holds its rows of the packed array. -/
theorem in1 (c : Dev nD) (t : Fin cfg0.N) (y : S128x128.Idx) : iblk m c 1 t y = V m c main_v5 (ix2 (row t (y 0)) (y 1)) := by
  blk_simp [iblk]
  exact congrArg (V m c main_v5) (emb1 t y)

/-- The block of window 2 holds its rows of the packed array. -/
theorem in2 (c : Dev nD) (t : Fin cfg0.N) (y : S128x128.Idx) : iblk m c 2 t y = V m c main_v8 (ix2 (row t (y 0)) (y 1)) := by
  blk_simp [iblk]
  exact congrArg (V m c main_v8) (emb2 t y)

/-- The block of window 3 holds its rows of the packed array. -/
theorem in3 (c : Dev nD) (t : Fin cfg0.N) (y : S128x128.Idx) : iblk m c 3 t y = V m c main_v11 (ix2 (row t (y 0)) (y 1)) := by
  blk_simp [iblk]
  exact congrArg (V m c main_v11) (emb3 t y)

/-- The weights’ changes, element by element. -/
theorem final4 (c : Dev nD) : (dats m 0 c).arrAt 4 cfg0.N = fun j : S128x128.Idx =>
    Adam.delta (V m c main_v2 j) (V m c main_v5 j) (V m c main_v8 j) (V m c main_v11 j) := by
  refine (dats m 0 c).arrAt_eq_of_covers 4 _ (by decide +kernel) fun t hf y => ?_
  blk_simp
  rw [after0_4]
  frame_out
  rw [emb4]
  pointwise [k0_pay1, k0_pay2, k0_pay3, k0_pay4]
  exact Adam.delta_of (in0 m c t y) (in1 m c t y) (in2 m c t y) (in3 m c t y)

/-- The new first moments, element by element. -/
theorem final5 (c : Dev nD) : (dats m 0 c).arrAt 5 cfg0.N = fun j : S128x128.Idx =>
    Adam.newM (V m c main_v2 j) (V m c main_v8 j) := by
  refine (dats m 0 c).arrAt_eq_of_covers 5 _ (by decide +kernel) fun t hf y => ?_
  blk_simp
  rw [after0_5]
  frame_out
  rw [emb5]
  pointwise [k0_pay1, k0_pay2, k0_pay3, k0_pay4]
  exact Adam.newM_of (in0 m c t y) (in2 m c t y)

/-- The new second moments, element by element. -/
theorem final6 (c : Dev nD) : (dats m 0 c).arrAt 6 cfg0.N = fun j : S128x128.Idx =>
    Adam.newV (V m c main_v2 j) (V m c main_v11 j) := by
  refine (dats m 0 c).arrAt_eq_of_covers 6 _ (by decide +kernel) fun t hf y => ?_
  blk_simp
  rw [after0_6]
  frame_out
  rw [emb6]
  pointwise [k0_pay1, k0_pay2, k0_pay3, k0_pay4]
  exact Adam.newV_of (in0 m c t y) (in3 m c t y)

/-- A weight’s elements one after the other and zeros, in rows of 128. -/
def packed (x : S4x31x128.Idx → EReal) : S128x128.Idx → EReal :=
  shapeCast S128x128 (Pack.ext 15872 16384 (shapeCast S15872 x shapeCasts_S4x31x128_S15872) 0) shapeCasts_S16384_S128x128

/-- The call’s padding of a weight is the packed weight. -/
theorem packed_of (x : FVec Ideal S4x31x128 .f32) :
    shapeCast S128x128 (pad S16384 ![0] ![512] ![0] (shapeCast S15872 x shapeCasts_S4x31x128_S15872)
      (sitofp .f32 (constantI S_ 32 0#32) : FVec Ideal S_ .f32) pads_S15872_S16384_05120 h_S_) shapeCasts_S16384_S128x128 = packed x :=
  congrArg (fun z => shapeCast S128x128 z shapeCasts_S16384_S128x128)
    (Pack.pad_eq 15872 512 16384 _ _ 0 (fun i => by show (((0#32 : BitVec 32).toInt : ℝ) : EReal) = 0; simp) pads_S15872_S16384_05120 h_S_)

/-- What the call finds in its argument 0. -/
theorem entry0 (c : Dev nD) : V m c main_v2 = packed (m ((c : Thread nD τ).loc main_arg0)) := by
  refine Eq.trans ?_ (packed_of (m ((c : Thread nD τ).loc main_arg0)))
  unfold V hostOps0 hostOps0_1 hostOps0_2 hostOps0_3 hostOps0_4 hostOps0_5 hostOps0_6 hostOps0_7 hostOps0_8
  after_results
  rfl

/-- What the call finds in its argument 1. -/
theorem entry1 (c : Dev nD) : V m c main_v5 = packed (m ((c : Thread nD τ).loc main_arg1)) := by
  refine Eq.trans ?_ (packed_of (m ((c : Thread nD τ).loc main_arg1)))
  unfold V hostOps0 hostOps0_1 hostOps0_2 hostOps0_3 hostOps0_4 hostOps0_5 hostOps0_6 hostOps0_7 hostOps0_8
  after_results
  rfl

/-- What the call finds in its argument 2. -/
theorem entry2 (c : Dev nD) : V m c main_v8 = packed (m ((c : Thread nD τ).loc main_arg2)) := by
  refine Eq.trans ?_ (packed_of (m ((c : Thread nD τ).loc main_arg2)))
  unfold V hostOps0 hostOps0_1 hostOps0_2 hostOps0_3 hostOps0_4 hostOps0_5 hostOps0_6 hostOps0_7 hostOps0_8
  after_results
  rfl

/-- What the call finds in its argument 3. -/
theorem entry3 (c : Dev nD) : V m c main_v11 = packed (m ((c : Thread nD τ).loc main_arg3)) := by
  refine Eq.trans ?_ (packed_of (m ((c : Thread nD τ).loc main_arg3)))
  unfold V hostOps0 hostOps0_1 hostOps0_2 hostOps0_3 hostOps0_4 hostOps0_5 hostOps0_6 hostOps0_7 hostOps0_8
  after_results
  rfl

/-- The results, packed: the host’s array step followed by its zeros is the packed step. -/
theorem result_of (x : FVec Ideal S4x31x128 .f32) (hc : Shape.Concatenates [S15872, { rank := 1, size := ![512] }] S16384 0) (hb : S_.BroadcastsInDim { rank := 1, size := ![512] } ![]) :
    shapeCast S128x128 (concatenate S16384 0 [⟨S15872, shapeCast S15872 x shapeCasts_S4x31x128_S15872⟩,
      ⟨{ rank := 1, size := ![512] }, (broadcastInDim { rank := 1, size := ![512] } ![] hb (constant S_ .f32 0x00000000#32) : FVec Ideal { rank := 1, size := ![512] } .f32)⟩] hc) shapeCasts_S16384_S128x128 = packed x :=
  congrArg (fun z => shapeCast S128x128 z shapeCasts_S16384_S128x128)
    (Pack.append_eq 15872 512 16384 _ _ 0 (fun i => Ideal.ofBits_zero_f32) hc)

/-- A step that leaves zeros alone may be taken before or after packing. -/
theorem packed_map (f : EReal → EReal → EReal → EReal → EReal) (hf : f 0 0 0 0 = 0) (g w u v : S4x31x128.Idx → EReal) (j : S128x128.Idx) :
    packed (fun i => f (g i) (w i) (u i) (v i)) j = f (packed g j) (packed w j) (packed u j) (packed v j) := by
  unfold packed shapeCast Pack.ext
  split
  · rfl
  · exact hf.symm

/-- The call’s results are the reference’s, whatever the arguments. -/
theorem claim : Cert.algebraic_Kernel18Ideal_Reference18Ideal := by
  intro m g m' g' _ hagree
  refine ⟨fun c => _, fun c => _, fun c => _, Cert.Kernel18Ideal.Value.run_blocks m g, ?_⟩
  refine (θ_run _ _ _).mono (fun r h c => ⟨(h c).1.trans ?_, (h c).2.1.trans ?_, (h c).2.2.1.trans ?_, (h c).2.2.2⟩)
    (Cert.Reference18Ideal.Value.run m' g')
  · obtain ⟨h0, h1, h2, h3⟩ := hagree c
    show _ = (dats m 0 c).arrAt 4 cfg0.N
    rw [final4, entry0, entry1, entry2, entry3, h0, h1, h2, h3]
    refine (result_of _ _ _).trans (funext fun j => ?_)
    exact packed_map Adam.delta Pack.delta_zero _ _ _ _ j
  · obtain ⟨h0, h1, h2, h3⟩ := hagree c
    show _ = (dats m 0 c).arrAt 5 cfg0.N
    rw [final5, entry0, entry2, h0, h2]
    refine (result_of _ _ _).trans (funext fun j => ?_)
    exact packed_map (fun g _ u _ => Adam.newM g u) Pack.newM_zero _ (fun _ => 0) _ (fun _ => 0) j
  · obtain ⟨h0, h1, h2, h3⟩ := hagree c
    show _ = (dats m 0 c).arrAt 6 cfg0.N
    rw [final6, entry0, entry3, h0, h3]
    refine (result_of _ _ _).trans (funext fun j => ?_)
    exact packed_map (fun g _ _ v => Adam.newV g v) Pack.newV_zero _ (fun _ => 0) (fun _ => 0) _ j

/-- The reference runs, leaves its arguments as launched, and declares no semaphore. -/
theorem frame : Cert.quiescent_Reference18Ideal := fun m ρ _ =>
  (θ_run _ _ _).mono (fun r h => ⟨fun c => (h c).2.2.2, sem_eq_zero_of_no_sems (by decide) r.2⟩) (Cert.Reference18Ideal.Value.run m ρ)

end Cert.Call18

end
-- ==== Proof.Call19.lean ====
module

public import proofs.«01_k».proof.Defs
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal.Run
public import proofs.«01_k».proof.Proof.Pack
public import Idealize.ShloMosaic.Lib.Pipeline.ValueKit
public import Idealize.ShloMosaic.Lib.Pointwise

/-! The optimiser’s call for the eight small weights: the AdamW step of the packed arrays. -/

@[expose] public section

noncomputable section

namespace Cert.Call19

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

/-- Every block lies at the rows of the first array’s block. -/
theorem idx : ∀ t : Fin cfg0.N, win0_1.index t = ![win0_0.index t 0, 0] ∧ win0_2.index t = ![win0_0.index t 0, 0] ∧ win0_3.index t = ![win0_0.index t 0, 0]
    ∧ win0_4.index t = ![win0_0.index t 0, 0] ∧ win0_5.index t = ![win0_0.index t 0, 0] ∧ win0_6.index t = ![win0_0.index t 0, 0]
    ∧ win0_0.index t 1 = 0 :=
  (by decide +kernel : ∀ t : Fin grid0.N, _)

/-- The row of the packed array that row `r` of point `t`'s blocks is. -/
def row (t : Fin cfg0.N) (r : Fin 296) : Fin 592 :=
  ⟨win0_0.index t 0 * 296 + r, by have := (by decide +kernel : ∀ t : Fin grid0.N, win0_0.index t 0 * 296 + 296 ≤ 592) t; omega⟩

/-- Where the block of window 0 lies. -/
theorem emb0 (t : Fin cfg0.N) (y : S296x128.Idx) : (win0_0.blk t).view.emb y = (ix2 (row t (y 0)) (y 1) : S592x128.Idx) := by
  unfold row; blk_ext [(idx t).2.2.2.2.2.2]

/-- Where the block of window 1 lies. -/
theorem emb1 (t : Fin cfg0.N) (y : S296x128.Idx) : (win0_1.blk t).view.emb y = (ix2 (row t (y 0)) (y 1) : S592x128.Idx) := by
  unfold row; blk_ext [(idx t).1]

/-- Where the block of window 2 lies. -/
theorem emb2 (t : Fin cfg0.N) (y : S296x128.Idx) : (win0_2.blk t).view.emb y = (ix2 (row t (y 0)) (y 1) : S592x128.Idx) := by
  unfold row; blk_ext [(idx t).2.1]

/-- Where the block of window 3 lies. -/
theorem emb3 (t : Fin cfg0.N) (y : S296x128.Idx) : (win0_3.blk t).view.emb y = (ix2 (row t (y 0)) (y 1) : S592x128.Idx) := by
  unfold row; blk_ext [(idx t).2.2.1]

/-- Where the block of window 4 lies. -/
theorem emb4 (t : Fin cfg0.N) (y : S296x128.Idx) : (win0_4.blk t).view.emb y = (ix2 (row t (y 0)) (y 1) : S592x128.Idx) := by
  unfold row; blk_ext [(idx t).2.2.2.1]

/-- Where the block of window 5 lies. -/
theorem emb5 (t : Fin cfg0.N) (y : S296x128.Idx) : (win0_5.blk t).view.emb y = (ix2 (row t (y 0)) (y 1) : S592x128.Idx) := by
  unfold row; blk_ext [(idx t).2.2.2.2.1]

/-- Where the block of window 6 lies. -/
theorem emb6 (t : Fin cfg0.N) (y : S296x128.Idx) : (win0_6.blk t).view.emb y = (ix2 (row t (y 0)) (y 1) : S592x128.Idx) := by
  unfold row; blk_ext [(idx t).2.2.2.2.2.1]

/-- The block of window 0 holds its rows of the packed array. -/
theorem in0 (c : Dev nD) (t : Fin cfg0.N) (y : S296x128.Idx) : iblk m c 0 t y = V m c main_v10 (ix2 (row t (y 0)) (y 1)) := by
  blk_simp [iblk]
  exact congrArg (V m c main_v10) (emb0 t y)

/-- The block of window 1 holds its rows of the packed array. -/
theorem in1 (c : Dev nD) (t : Fin cfg0.N) (y : S296x128.Idx) : iblk m c 1 t y = V m c main_v21 (ix2 (row t (y 0)) (y 1)) := by
  blk_simp [iblk]
  exact congrArg (V m c main_v21) (emb1 t y)

/-- The block of window 2 holds its rows of the packed array. -/
theorem in2 (c : Dev nD) (t : Fin cfg0.N) (y : S296x128.Idx) : iblk m c 2 t y = V m c main_v32 (ix2 (row t (y 0)) (y 1)) := by
  blk_simp [iblk]
  exact congrArg (V m c main_v32) (emb2 t y)

/-- The block of window 3 holds its rows of the packed array. -/
theorem in3 (c : Dev nD) (t : Fin cfg0.N) (y : S296x128.Idx) : iblk m c 3 t y = V m c main_v43 (ix2 (row t (y 0)) (y 1)) := by
  blk_simp [iblk]
  exact congrArg (V m c main_v43) (emb3 t y)

/-- The weights’ changes, element by element. -/
theorem final4 (c : Dev nD) : (dats m 0 c).arrAt 4 cfg0.N = fun j : S592x128.Idx =>
    Adam.delta (V m c main_v10 j) (V m c main_v21 j) (V m c main_v32 j) (V m c main_v43 j) := by
  refine (dats m 0 c).arrAt_eq_of_covers 4 _ (by decide +kernel) fun t hf y => ?_
  blk_simp
  rw [after0_4]
  frame_out
  rw [emb4]
  pointwise [k0_pay1, k0_pay2, k0_pay3, k0_pay4]
  exact Adam.delta_of (in0 m c t y) (in1 m c t y) (in2 m c t y) (in3 m c t y)

/-- The new first moments, element by element. -/
theorem final5 (c : Dev nD) : (dats m 0 c).arrAt 5 cfg0.N = fun j : S592x128.Idx =>
    Adam.newM (V m c main_v10 j) (V m c main_v32 j) := by
  refine (dats m 0 c).arrAt_eq_of_covers 5 _ (by decide +kernel) fun t hf y => ?_
  blk_simp
  rw [after0_5]
  frame_out
  rw [emb5]
  pointwise [k0_pay1, k0_pay2, k0_pay3, k0_pay4]
  exact Adam.newM_of (in0 m c t y) (in2 m c t y)

/-- The new second moments, element by element. -/
theorem final6 (c : Dev nD) : (dats m 0 c).arrAt 6 cfg0.N = fun j : S592x128.Idx =>
    Adam.newV (V m c main_v10 j) (V m c main_v43 j) := by
  refine (dats m 0 c).arrAt_eq_of_covers 6 _ (by decide +kernel) fun t hf y => ?_
  blk_simp
  rw [after0_6]
  frame_out
  rw [emb6]
  pointwise [k0_pay1, k0_pay2, k0_pay3, k0_pay4]
  exact Adam.newV_of (in0 m c t y) (in3 m c t y)

/-- Eight arrays at the shapes of the replicated weights. -/
structure Small (α : Type) where
  a : S4x1024.Idx → α
  b : S4x1024.Idx → α
  c : S4x1024.Idx → α
  d : S4x16x15x31.Idx → α
  e : S4x2048.Idx → α
  f : S4x2048.Idx → α
  g : S4x2048.Idx → α
  h : S4x2048.Idx → α

/-- The eight arrays' elements, array after array. -/
def flat {α : Type} (x : Small α) : S74816.Idx → α :=
  concatenate S74816 0 [⟨S4096, shapeCast S4096 x.a shapeCasts_S4x1024_S4096⟩,
    ⟨S4096, shapeCast S4096 x.b shapeCasts_S4x1024_S4096⟩,
    ⟨S4096, shapeCast S4096 x.c shapeCasts_S4x1024_S4096⟩,
    ⟨S29760, shapeCast S29760 x.d shapeCasts_S4x16x15x31_S29760⟩,
    ⟨S8192, shapeCast S8192 x.e shapeCasts_S4x2048_S8192⟩,
    ⟨S8192, shapeCast S8192 x.f shapeCasts_S4x2048_S8192⟩,
    ⟨S8192, shapeCast S8192 x.g shapeCasts_S4x2048_S8192⟩,
    ⟨S8192, shapeCast S8192 x.h shapeCasts_S4x2048_S8192⟩] concatenates_S4096_S4096_S4096_S29760_S8192_S8192_S8192_S8192_S74816_d0

/-- Each array mapped. -/
def Small.map {α β : Type} (f : α → β) (x : Small α) : Small β :=
  ⟨fun i => f (x.a i), fun i => f (x.b i), fun i => f (x.c i), fun i => f (x.d i), fun i => f (x.e i), fun i => f (x.f i), fun i => f (x.g i), fun i => f (x.h i)⟩

/-- The mapped arrays' elements are the elements, mapped. -/
theorem flat_map {α β : Type} (f : α → β) (x : Small α) (k : S74816.Idx) : flat (x.map f) k = f (flat x k) :=
  Pack.concatenate_map f S74816 0 [⟨S4096, shapeCast S4096 x.a shapeCasts_S4x1024_S4096⟩,
    ⟨S4096, shapeCast S4096 x.b shapeCasts_S4x1024_S4096⟩,
    ⟨S4096, shapeCast S4096 x.c shapeCasts_S4x1024_S4096⟩,
    ⟨S29760, shapeCast S29760 x.d shapeCasts_S4x16x15x31_S29760⟩,
    ⟨S8192, shapeCast S8192 x.e shapeCasts_S4x2048_S8192⟩,
    ⟨S8192, shapeCast S8192 x.f shapeCasts_S4x2048_S8192⟩,
    ⟨S8192, shapeCast S8192 x.g shapeCasts_S4x2048_S8192⟩,
    ⟨S8192, shapeCast S8192 x.h shapeCasts_S4x2048_S8192⟩]
    concatenates_S4096_S4096_S4096_S29760_S8192_S8192_S8192_S8192_S74816_d0 concatenates_S4096_S4096_S4096_S29760_S8192_S8192_S8192_S8192_S74816_d0 k

/-- A function of four groups of arrays, element by element. -/
def step (f : EReal → EReal → EReal → EReal → EReal) (g w u v : Small EReal) : Small EReal :=
  ⟨fun i => f (g.a i) (w.a i) (u.a i) (v.a i), fun i => f (g.b i) (w.b i) (u.b i) (v.b i), fun i => f (g.c i) (w.c i) (u.c i) (v.c i), fun i => f (g.d i) (w.d i) (u.d i) (v.d i), fun i => f (g.e i) (w.e i) (u.e i) (v.e i), fun i => f (g.f i) (w.f i) (u.f i) (v.f i), fun i => f (g.g i) (w.g i) (u.g i) (v.g i), fun i => f (g.h i) (w.h i) (u.h i) (v.h i)⟩

/-- The eight arrays' elements and zeros, in rows of 128. -/
def packed (x : Small EReal) : S592x128.Idx → EReal :=
  shapeCast S592x128 (Pack.ext 74816 75776 (flat x) 0) shapeCasts_S75776_S592x128

/-- The call’s padding of the eight arrays is the packed arrays. -/
theorem packed_of (x : Small EReal) :
    shapeCast S592x128 (pad S75776 ![0] ![960] ![0] (flat x : FVec Ideal S74816 .f32)
      (sitofp .f32 (constantI S_ 32 0#32) : FVec Ideal S_ .f32) pads_S74816_S75776_09600 h_S_) shapeCasts_S75776_S592x128 = packed x :=
  congrArg (fun z => shapeCast S592x128 z shapeCasts_S75776_S592x128)
    (Pack.pad_eq 74816 960 75776 _ _ 0 (fun i => by show (((0#32 : BitVec 32).toInt : ℝ) : EReal) = 0; simp) pads_S74816_S75776_09600 h_S_)

/-- The gradients the call is given. -/
def grads (c : Dev nD) : Small EReal :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7)⟩

/-- The weights the call is given. -/
def weights (c : Dev nD) : Small EReal :=
  ⟨m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15)⟩

/-- The first moments the call is given. -/
def moments (c : Dev nD) : Small EReal :=
  ⟨m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23)⟩

/-- The second moments the call is given. -/
def squares (c : Dev nD) : Small EReal :=
  ⟨m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31)⟩

/-- What the call finds in its argument 0. -/
theorem entry0 (c : Dev nD) : V m c main_v10 = packed (grads m c) := by
  refine Eq.trans ?_ (packed_of (grads m c))
  unfold V hostOps0 hostOps0_1 hostOps0_2 hostOps0_3 hostOps0_4 hostOps0_5 hostOps0_6 hostOps0_7 hostOps0_8
  after_results
  rfl

/-- What the call finds in its argument 1. -/
theorem entry1 (c : Dev nD) : V m c main_v21 = packed (weights m c) := by
  refine Eq.trans ?_ (packed_of (weights m c))
  unfold V hostOps0 hostOps0_1 hostOps0_2 hostOps0_3 hostOps0_4 hostOps0_5 hostOps0_6 hostOps0_7 hostOps0_8
  after_results
  rfl

/-- What the call finds in its argument 2. -/
theorem entry2 (c : Dev nD) : V m c main_v32 = packed (moments m c) := by
  refine Eq.trans ?_ (packed_of (moments m c))
  unfold V hostOps0 hostOps0_1 hostOps0_2 hostOps0_3 hostOps0_4 hostOps0_5 hostOps0_6 hostOps0_7 hostOps0_8
  after_results
  rfl

/-- What the call finds in its argument 3. -/
theorem entry3 (c : Dev nD) : V m c main_v43 = packed (squares m c) := by
  refine Eq.trans ?_ (packed_of (squares m c))
  unfold V hostOps0 hostOps0_1 hostOps0_2 hostOps0_3 hostOps0_4 hostOps0_5 hostOps0_6 hostOps0_7 hostOps0_8
  after_results
  rfl

/-- The results, packed: the reference’s array steps followed by its zeros are the packed steps. -/
theorem result_of (x : Small EReal) (z : FVec Ideal S74816 .f32) (hz : z = flat x)
    (hc : Shape.Concatenates [S74816, { rank := 1, size := ![960] }] S75776 0) (hb : S_.BroadcastsInDim { rank := 1, size := ![960] } ![]) :
    shapeCast S592x128 (concatenate S75776 0 [⟨S74816, z⟩,
      ⟨{ rank := 1, size := ![960] }, (broadcastInDim { rank := 1, size := ![960] } ![] hb (constant S_ .f32 0x00000000#32) : FVec Ideal { rank := 1, size := ![960] } .f32)⟩] hc) shapeCasts_S75776_S592x128 = packed x :=
  hz ▸ congrArg (fun z => shapeCast S592x128 z shapeCasts_S75776_S592x128)
    (Pack.append_eq 74816 960 75776 _ _ 0 (fun i => Ideal.ofBits_zero_f32) hc)

/-- A step that leaves zeros alone may be taken before or after packing. -/
theorem packed_step (f : EReal → EReal → EReal → EReal → EReal) (hf : f 0 0 0 0 = 0) (g w u v : Small EReal) (j : S592x128.Idx) :
    packed (step f g w u v) j = f (packed g j) (packed w j) (packed u j) (packed v j) := by
  let q : Small (EReal × EReal × EReal × EReal) :=
    ⟨fun i => (g.a i, w.a i, u.a i, v.a i), fun i => (g.b i, w.b i, u.b i, v.b i), fun i => (g.c i, w.c i, u.c i, v.c i), fun i => (g.d i, w.d i, u.d i, v.d i), fun i => (g.e i, w.e i, u.e i, v.e i), fun i => (g.f i, w.f i, u.f i, v.f i), fun i => (g.g i, w.g i, u.g i, v.g i), fun i => (g.h i, w.h i, u.h i, v.h i)⟩
  unfold packed shapeCast Pack.ext
  split
  · refine (flat_map (fun p => f p.1 p.2.1 p.2.2.1 p.2.2.2) q _).trans ?_
    have hg (k : S74816.Idx) : flat g k = (flat q k).1 := flat_map (fun p : EReal × EReal × EReal × EReal => p.1) q k
    have hw (k : S74816.Idx) : flat w k = (flat q k).2.1 := flat_map (fun p : EReal × EReal × EReal × EReal => p.2.1) q k
    have hu (k : S74816.Idx) : flat u k = (flat q k).2.2.1 := flat_map (fun p : EReal × EReal × EReal × EReal => p.2.2.1) q k
    have hv (k : S74816.Idx) : flat v k = (flat q k).2.2.2 := flat_map (fun p : EReal × EReal × EReal × EReal => p.2.2.2) q k
    rw [hg, hw, hu, hv]
  · exact hf.symm

/-- The gradients the reference is given. -/
def refGrads (m : (ℓ : Loc Cert.Reference19Ideal.nD Cert.Reference19Ideal.τ Cert.Reference19Ideal.sig) → Buf (Elt Ideal) ℓ) (c : Dev nD) : Small EReal :=
  ⟨m ((c.tc : Thread Cert.Reference19Ideal.nD Cert.Reference19Ideal.τ).loc Cert.Reference19Ideal.main_arg0), m ((c.tc : Thread Cert.Reference19Ideal.nD Cert.Reference19Ideal.τ).loc Cert.Reference19Ideal.main_arg1), m ((c.tc : Thread Cert.Reference19Ideal.nD Cert.Reference19Ideal.τ).loc Cert.Reference19Ideal.main_arg2), m ((c.tc : Thread Cert.Reference19Ideal.nD Cert.Reference19Ideal.τ).loc Cert.Reference19Ideal.main_arg3), m ((c.tc : Thread Cert.Reference19Ideal.nD Cert.Reference19Ideal.τ).loc Cert.Reference19Ideal.main_arg4), m ((c.tc : Thread Cert.Reference19Ideal.nD Cert.Reference19Ideal.τ).loc Cert.Reference19Ideal.main_arg5), m ((c.tc : Thread Cert.Reference19Ideal.nD Cert.Reference19Ideal.τ).loc Cert.Reference19Ideal.main_arg6), m ((c.tc : Thread Cert.Reference19Ideal.nD Cert.Reference19Ideal.τ).loc Cert.Reference19Ideal.main_arg7)⟩

/-- The weights the reference is given. -/
def refWeights (m : (ℓ : Loc Cert.Reference19Ideal.nD Cert.Reference19Ideal.τ Cert.Reference19Ideal.sig) → Buf (Elt Ideal) ℓ) (c : Dev nD) : Small EReal :=
  ⟨m ((c.tc : Thread Cert.Reference19Ideal.nD Cert.Reference19Ideal.τ).loc Cert.Reference19Ideal.main_arg8), m ((c.tc : Thread Cert.Reference19Ideal.nD Cert.Reference19Ideal.τ).loc Cert.Reference19Ideal.main_arg9), m ((c.tc : Thread Cert.Reference19Ideal.nD Cert.Reference19Ideal.τ).loc Cert.Reference19Ideal.main_arg10), m ((c.tc : Thread Cert.Reference19Ideal.nD Cert.Reference19Ideal.τ).loc Cert.Reference19Ideal.main_arg11), m ((c.tc : Thread Cert.Reference19Ideal.nD Cert.Reference19Ideal.τ).loc Cert.Reference19Ideal.main_arg12), m ((c.tc : Thread Cert.Reference19Ideal.nD Cert.Reference19Ideal.τ).loc Cert.Reference19Ideal.main_arg13), m ((c.tc : Thread Cert.Reference19Ideal.nD Cert.Reference19Ideal.τ).loc Cert.Reference19Ideal.main_arg14), m ((c.tc : Thread Cert.Reference19Ideal.nD Cert.Reference19Ideal.τ).loc Cert.Reference19Ideal.main_arg15)⟩

/-- The first moments the reference is given. -/
def refMoments (m : (ℓ : Loc Cert.Reference19Ideal.nD Cert.Reference19Ideal.τ Cert.Reference19Ideal.sig) → Buf (Elt Ideal) ℓ) (c : Dev nD) : Small EReal :=
  ⟨m ((c.tc : Thread Cert.Reference19Ideal.nD Cert.Reference19Ideal.τ).loc Cert.Reference19Ideal.main_arg16), m ((c.tc : Thread Cert.Reference19Ideal.nD Cert.Reference19Ideal.τ).loc Cert.Reference19Ideal.main_arg17), m ((c.tc : Thread Cert.Reference19Ideal.nD Cert.Reference19Ideal.τ).loc Cert.Reference19Ideal.main_arg18), m ((c.tc : Thread Cert.Reference19Ideal.nD Cert.Reference19Ideal.τ).loc Cert.Reference19Ideal.main_arg19), m ((c.tc : Thread Cert.Reference19Ideal.nD Cert.Reference19Ideal.τ).loc Cert.Reference19Ideal.main_arg20), m ((c.tc : Thread Cert.Reference19Ideal.nD Cert.Reference19Ideal.τ).loc Cert.Reference19Ideal.main_arg21), m ((c.tc : Thread Cert.Reference19Ideal.nD Cert.Reference19Ideal.τ).loc Cert.Reference19Ideal.main_arg22), m ((c.tc : Thread Cert.Reference19Ideal.nD Cert.Reference19Ideal.τ).loc Cert.Reference19Ideal.main_arg23)⟩

/-- The second moments the reference is given. -/
def refSquares (m : (ℓ : Loc Cert.Reference19Ideal.nD Cert.Reference19Ideal.τ Cert.Reference19Ideal.sig) → Buf (Elt Ideal) ℓ) (c : Dev nD) : Small EReal :=
  ⟨m ((c.tc : Thread Cert.Reference19Ideal.nD Cert.Reference19Ideal.τ).loc Cert.Reference19Ideal.main_arg24), m ((c.tc : Thread Cert.Reference19Ideal.nD Cert.Reference19Ideal.τ).loc Cert.Reference19Ideal.main_arg25), m ((c.tc : Thread Cert.Reference19Ideal.nD Cert.Reference19Ideal.τ).loc Cert.Reference19Ideal.main_arg26), m ((c.tc : Thread Cert.Reference19Ideal.nD Cert.Reference19Ideal.τ).loc Cert.Reference19Ideal.main_arg27), m ((c.tc : Thread Cert.Reference19Ideal.nD Cert.Reference19Ideal.τ).loc Cert.Reference19Ideal.main_arg28), m ((c.tc : Thread Cert.Reference19Ideal.nD Cert.Reference19Ideal.τ).loc Cert.Reference19Ideal.main_arg29), m ((c.tc : Thread Cert.Reference19Ideal.nD Cert.Reference19Ideal.τ).loc Cert.Reference19Ideal.main_arg30), m ((c.tc : Thread Cert.Reference19Ideal.nD Cert.Reference19Ideal.τ).loc Cert.Reference19Ideal.main_arg31)⟩

/-- The reference’s new first moments. -/
theorem refM (m : (ℓ : Loc Cert.Reference19Ideal.nD Cert.Reference19Ideal.τ Cert.Reference19Ideal.sig) → Buf (Elt Ideal) ℓ) (c : Dev nD) :
    (⟨Cert.Reference19Ideal.Value.res_main_v4 (StableHlo.launchContents m c), Cert.Reference19Ideal.Value.res_main_v28 (StableHlo.launchContents m c), Cert.Reference19Ideal.Value.res_main_v52 (StableHlo.launchContents m c), Cert.Reference19Ideal.Value.res_main_v76 (StableHlo.launchContents m c), Cert.Reference19Ideal.Value.res_main_v100 (StableHlo.launchContents m c), Cert.Reference19Ideal.Value.res_main_v124 (StableHlo.launchContents m c), Cert.Reference19Ideal.Value.res_main_v148 (StableHlo.launchContents m c), Cert.Reference19Ideal.Value.res_main_v172 (StableHlo.launchContents m c)⟩ : Small EReal) = step (fun g _ u _ => Adam.newM g u) (refGrads m c) (refWeights m c) (refMoments m c) (refSquares m c) := rfl

/-- The reference’s new second moments. -/
theorem refV (m : (ℓ : Loc Cert.Reference19Ideal.nD Cert.Reference19Ideal.τ Cert.Reference19Ideal.sig) → Buf (Elt Ideal) ℓ) (c : Dev nD) :
    (⟨Cert.Reference19Ideal.Value.res_main_v10 (StableHlo.launchContents m c), Cert.Reference19Ideal.Value.res_main_v34 (StableHlo.launchContents m c), Cert.Reference19Ideal.Value.res_main_v58 (StableHlo.launchContents m c), Cert.Reference19Ideal.Value.res_main_v82 (StableHlo.launchContents m c), Cert.Reference19Ideal.Value.res_main_v106 (StableHlo.launchContents m c), Cert.Reference19Ideal.Value.res_main_v130 (StableHlo.launchContents m c), Cert.Reference19Ideal.Value.res_main_v154 (StableHlo.launchContents m c), Cert.Reference19Ideal.Value.res_main_v178 (StableHlo.launchContents m c)⟩ : Small EReal) = step (fun g _ _ v => Adam.newV g v) (refGrads m c) (refWeights m c) (refMoments m c) (refSquares m c) := rfl

/-- The reference’s changes of the weights, array after array. -/
theorem refDelta (m : (ℓ : Loc Cert.Reference19Ideal.nD Cert.Reference19Ideal.τ Cert.Reference19Ideal.sig) → Buf (Elt Ideal) ℓ) (c : Dev nD) :
    Cert.Reference19Ideal.Value.res_main_v200 (StableHlo.launchContents m c) = flat (step Adam.delta (refGrads m c) (refWeights m c) (refMoments m c) (refSquares m c)) := rfl

/-- Equal arguments of the two programs, group by group. -/
theorem same {m : (ℓ : Loc nD τ sig) → Buf (Elt Ideal) ℓ} {m' : (ℓ : Loc Cert.Reference19Ideal.nD Cert.Reference19Ideal.τ Cert.Reference19Ideal.sig) → Buf (Elt Ideal) ℓ} (c : Dev nD)
    (h : m' ((c.tc : Thread Cert.Reference19Ideal.nD Cert.Reference19Ideal.τ).loc Cert.Reference19Ideal.main_arg0) = m ((c.tc : Thread nD τ).loc main_arg0) ∧ m' ((c.tc : Thread Cert.Reference19Ideal.nD Cert.Reference19Ideal.τ).loc Cert.Reference19Ideal.main_arg1) = m ((c.tc : Thread nD τ).loc main_arg1) ∧ m' ((c.tc : Thread Cert.Reference19Ideal.nD Cert.Reference19Ideal.τ).loc Cert.Reference19Ideal.main_arg2) = m ((c.tc : Thread nD τ).loc main_arg2) ∧ m' ((c.tc : Thread Cert.Reference19Ideal.nD Cert.Reference19Ideal.τ).loc Cert.Reference19Ideal.main_arg3) = m ((c.tc : Thread nD τ).loc main_arg3) ∧ m' ((c.tc : Thread Cert.Reference19Ideal.nD Cert.Reference19Ideal.τ).loc Cert.Reference19Ideal.main_arg4) = m ((c.tc : Thread nD τ).loc main_arg4) ∧ m' ((c.tc : Thread Cert.Reference19Ideal.nD Cert.Reference19Ideal.τ).loc Cert.Reference19Ideal.main_arg5) = m ((c.tc : Thread nD τ).loc main_arg5) ∧ m' ((c.tc : Thread Cert.Reference19Ideal.nD Cert.Reference19Ideal.τ).loc Cert.Reference19Ideal.main_arg6) = m ((c.tc : Thread nD τ).loc main_arg6) ∧ m' ((c.tc : Thread Cert.Reference19Ideal.nD Cert.Reference19Ideal.τ).loc Cert.Reference19Ideal.main_arg7) = m ((c.tc : Thread nD τ).loc main_arg7) ∧ m' ((c.tc : Thread Cert.Reference19Ideal.nD Cert.Reference19Ideal.τ).loc Cert.Reference19Ideal.main_arg8) = m ((c.tc : Thread nD τ).loc main_arg8) ∧ m' ((c.tc : Thread Cert.Reference19Ideal.nD Cert.Reference19Ideal.τ).loc Cert.Reference19Ideal.main_arg9) = m ((c.tc : Thread nD τ).loc main_arg9) ∧ m' ((c.tc : Thread Cert.Reference19Ideal.nD Cert.Reference19Ideal.τ).loc Cert.Reference19Ideal.main_arg10) = m ((c.tc : Thread nD τ).loc main_arg10) ∧ m' ((c.tc : Thread Cert.Reference19Ideal.nD Cert.Reference19Ideal.τ).loc Cert.Reference19Ideal.main_arg11) = m ((c.tc : Thread nD τ).loc main_arg11) ∧ m' ((c.tc : Thread Cert.Reference19Ideal.nD Cert.Reference19Ideal.τ).loc Cert.Reference19Ideal.main_arg12) = m ((c.tc : Thread nD τ).loc main_arg12) ∧ m' ((c.tc : Thread Cert.Reference19Ideal.nD Cert.Reference19Ideal.τ).loc Cert.Reference19Ideal.main_arg13) = m ((c.tc : Thread nD τ).loc main_arg13) ∧ m' ((c.tc : Thread Cert.Reference19Ideal.nD Cert.Reference19Ideal.τ).loc Cert.Reference19Ideal.main_arg14) = m ((c.tc : Thread nD τ).loc main_arg14) ∧ m' ((c.tc : Thread Cert.Reference19Ideal.nD Cert.Reference19Ideal.τ).loc Cert.Reference19Ideal.main_arg15) = m ((c.tc : Thread nD τ).loc main_arg15) ∧ m' ((c.tc : Thread Cert.Reference19Ideal.nD Cert.Reference19Ideal.τ).loc Cert.Reference19Ideal.main_arg16) = m ((c.tc : Thread nD τ).loc main_arg16) ∧ m' ((c.tc : Thread Cert.Reference19Ideal.nD Cert.Reference19Ideal.τ).loc Cert.Reference19Ideal.main_arg17) = m ((c.tc : Thread nD τ).loc main_arg17) ∧ m' ((c.tc : Thread Cert.Reference19Ideal.nD Cert.Reference19Ideal.τ).loc Cert.Reference19Ideal.main_arg18) = m ((c.tc : Thread nD τ).loc main_arg18) ∧ m' ((c.tc : Thread Cert.Reference19Ideal.nD Cert.Reference19Ideal.τ).loc Cert.Reference19Ideal.main_arg19) = m ((c.tc : Thread nD τ).loc main_arg19) ∧ m' ((c.tc : Thread Cert.Reference19Ideal.nD Cert.Reference19Ideal.τ).loc Cert.Reference19Ideal.main_arg20) = m ((c.tc : Thread nD τ).loc main_arg20) ∧ m' ((c.tc : Thread Cert.Reference19Ideal.nD Cert.Reference19Ideal.τ).loc Cert.Reference19Ideal.main_arg21) = m ((c.tc : Thread nD τ).loc main_arg21) ∧ m' ((c.tc : Thread Cert.Reference19Ideal.nD Cert.Reference19Ideal.τ).loc Cert.Reference19Ideal.main_arg22) = m ((c.tc : Thread nD τ).loc main_arg22) ∧ m' ((c.tc : Thread Cert.Reference19Ideal.nD Cert.Reference19Ideal.τ).loc Cert.Reference19Ideal.main_arg23) = m ((c.tc : Thread nD τ).loc main_arg23) ∧ m' ((c.tc : Thread Cert.Reference19Ideal.nD Cert.Reference19Ideal.τ).loc Cert.Reference19Ideal.main_arg24) = m ((c.tc : Thread nD τ).loc main_arg24) ∧ m' ((c.tc : Thread Cert.Reference19Ideal.nD Cert.Reference19Ideal.τ).loc Cert.Reference19Ideal.main_arg25) = m ((c.tc : Thread nD τ).loc main_arg25) ∧ m' ((c.tc : Thread Cert.Reference19Ideal.nD Cert.Reference19Ideal.τ).loc Cert.Reference19Ideal.main_arg26) = m ((c.tc : Thread nD τ).loc main_arg26) ∧ m' ((c.tc : Thread Cert.Reference19Ideal.nD Cert.Reference19Ideal.τ).loc Cert.Reference19Ideal.main_arg27) = m ((c.tc : Thread nD τ).loc main_arg27) ∧ m' ((c.tc : Thread Cert.Reference19Ideal.nD Cert.Reference19Ideal.τ).loc Cert.Reference19Ideal.main_arg28) = m ((c.tc : Thread nD τ).loc main_arg28) ∧ m' ((c.tc : Thread Cert.Reference19Ideal.nD Cert.Reference19Ideal.τ).loc Cert.Reference19Ideal.main_arg29) = m ((c.tc : Thread nD τ).loc main_arg29) ∧ m' ((c.tc : Thread Cert.Reference19Ideal.nD Cert.Reference19Ideal.τ).loc Cert.Reference19Ideal.main_arg30) = m ((c.tc : Thread nD τ).loc main_arg30) ∧ m' ((c.tc : Thread Cert.Reference19Ideal.nD Cert.Reference19Ideal.τ).loc Cert.Reference19Ideal.main_arg31) = m ((c.tc : Thread nD τ).loc main_arg31)) :
    grads m c = refGrads m' c ∧ weights m c = refWeights m' c ∧ moments m c = refMoments m' c ∧ squares m c = refSquares m' c := by
  obtain ⟨h0, h1, h2, h3, h4, h5, h6, h7, h8, h9, h10, h11, h12, h13, h14, h15, h16, h17, h18, h19, h20, h21, h22, h23, h24, h25, h26, h27, h28, h29, h30, h31⟩ := h
  refine ⟨?_, ?_, ?_, ?_⟩
  · unfold grads refGrads; rw [h0, h1, h2, h3, h4, h5, h6, h7]
  · unfold weights refWeights; rw [h8, h9, h10, h11, h12, h13, h14, h15]
  · unfold moments refMoments; rw [h16, h17, h18, h19, h20, h21, h22, h23]
  · unfold squares refSquares; rw [h24, h25, h26, h27, h28, h29, h30, h31]

set_option maxHeartbeats 1000000 in
/-- The call’s results are the reference’s, whatever the arguments. -/
theorem claim : Cert.algebraic_Kernel19Ideal_Reference19Ideal := by
  intro m g m' g' _ hagree
  refine ⟨fun c => _, fun c => _, fun c => _, Cert.Kernel19Ideal.Value.run_blocks m g, ?_⟩
  refine (θ_run _ _ _).mono (fun r h c => ⟨(h c).1.trans ?_, (h c).2.1.trans ?_, (h c).2.2.1.trans ?_, (h c).2.2.2⟩)
    (Cert.Reference19Ideal.Value.run m' g')
  · obtain ⟨hg, hw, hu, hv⟩ := same c (hagree c)
    show _ = (dats m 0 c).arrAt 4 cfg0.N
    rw [final4, entry0, entry1, entry2, entry3, hg, hw, hu, hv]
    exact (result_of _ _ (refDelta m' c) _ _).trans (funext fun j => packed_step Adam.delta Pack.delta_zero _ _ _ _ j)
  · obtain ⟨hg, hw, hu, hv⟩ := same c (hagree c)
    show _ = (dats m 0 c).arrAt 5 cfg0.N
    rw [final5, entry0, entry2, hg, hu]
    exact (result_of _ _ (congrArg flat (refM m' c)) _ _).trans (funext fun j => packed_step (fun g _ u _ => Adam.newM g u) Pack.newM_zero _ _ _ _ j)
  · obtain ⟨hg, hw, hu, hv⟩ := same c (hagree c)
    show _ = (dats m 0 c).arrAt 6 cfg0.N
    rw [final6, entry0, entry3, hg, hv]
    exact (result_of _ _ (congrArg flat (refV m' c)) _ _).trans (funext fun j => packed_step (fun g _ _ v => Adam.newV g v) Pack.newV_zero _ _ _ _ j)

/-- The reference runs, leaves its arguments as launched, and declares no semaphore. -/
theorem frame : Cert.quiescent_Reference19Ideal := fun m ρ _ =>
  (θ_run _ _ _).mono (fun r h => ⟨fun c => (h c).2.2.2, sem_eq_zero_of_no_sems (by decide) r.2⟩) (Cert.Reference19Ideal.Value.run m ρ)

end Cert.Call19

end
-- ==== Proof.Call20.lean ====
module

public import proofs.«01_k».proof.Defs
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise

/-! The devices’ gradients of the small weights, added up: eight parts of the packed array. -/

@[expose] public section

noncomputable section

namespace Cert.Call20

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

/-- Both blocks lie at the same rows. -/
theorem idx : ∀ t : Fin cfg0.N, win0_1.index t = ![win0_0.index t 1, 0] ∧ win0_0.index t 0 = 0 ∧ win0_0.index t 2 = 0 :=
  (by decide +kernel : ∀ t : Fin grid0.N, _)

/-- The row of the array that row `r` of point `t`'s blocks is. -/
def row (t : Fin cfg0.N) (r : Fin 264) : Fin 1584 :=
  ⟨win0_0.index t 1 * 264 + r, by have := (by decide +kernel : ∀ t : Fin grid0.N, win0_0.index t 1 * 264 + 264 ≤ 1584) t; omega⟩

/-- Where the block of the eight parts lies. -/
theorem emb0 (t : Fin cfg0.N) (y : S8x264x128.Idx) : (win0_0.blk t).view.emb y = (ix3 (y 0) (row t (y 1)) (y 2) : S8x1584x128.Idx) := by
  unfold row; blk_ext [(idx t).2.1, (idx t).2.2]

/-- Where the block of the sum lies. -/
theorem emb1 (t : Fin cfg0.N) (y : S264x128.Idx) : (win0_1.blk t).view.emb y = (ix2 (row t (y 0)) (y 1) : S1584x128.Idx) := by
  unfold row; blk_ext [(idx t).1]

/-- The block of the parts, of the argument as launched. -/
theorem in0 (c : Dev nD) (t : Fin cfg0.N) (y : S8x264x128.Idx) :
    iblk m c 0 t y = m ((c : Thread nD τ).loc main_arg0) (ix3 (y 0) (row t (y 1)) (y 2)) := by
  blk_simp [iblk]
  exact (congrFun (V_main_arg0 m c) _).trans (congrArg (m ((c : Thread nD τ).loc main_arg0)) (emb0 t y))

/-- The sum of the eight parts at row `r` and column `c`. -/
def total (f : S8x1584x128.Idx → EReal) (r : Fin 1584) (c : Fin 128) : EReal := ∑ x : Fin 8, f (ix3 x r c)

/-- The call adds the parts from the left. -/
theorem total_of (f : S8x1584x128.Idx → EReal) (r : Fin 1584) (c : Fin 128) (a : Fin 8 → EReal) (h : ∀ x, a x = f (ix3 x r c)) :
    a 0 + a 1 + a 2 + a 3 + a 4 + a 5 + a 6 + a 7 = total f r c := by
  unfold total
  rw [Fin.sum_univ_eight]
  simp only [h]

/-- The array after the run, element by element. -/
theorem final1 (c : Dev nD) : (dats m 0 c).arrAt 1 cfg0.N = fun j : S1584x128.Idx =>
    total (m ((c : Thread nD τ).loc main_arg0)) (j 0) (j 1) := by
  refine (dats m 0 c).arrAt_eq_of_covers 1 _ (by decide +kernel) fun t hf y => ?_
  blk_simp
  rw [after0_1]
  frame_out
  rw [emb1]
  pointwise [k0_pay1]
  exact total_of _ _ _ (fun x => iblk m c 0 t (ix3 x (y 0) (y 1))) (fun x => in0 m c t _)

/-- The call’s result is the reference’s, whatever the argument. -/
theorem claim : Cert.algebraic_Kernel20Ideal_Reference20Ideal := by
  intro m g m' g' _ hagree
  refine ⟨fun c => _, Cert.Kernel20Ideal.Value.run_blocks m g, ?_⟩
  refine (θ_run _ _ _).mono (fun r h c => ⟨(h c).1.trans ?_, (h c).2⟩) (Cert.Reference20Ideal.Value.run m' g')
  have h0 := hagree c
  show _ = (dats m 0 c).arrAt 1 cfg0.N
  rw [final1, h0]
  funext j
  pointwise
  rfl

/-- The reference runs, leaves its arguments as launched, and declares no semaphore. -/
theorem frame : Cert.quiescent_Reference20Ideal := fun m ρ _ =>
  (θ_run _ _ _).mono (fun r h => ⟨fun c => (h c).2, sem_eq_zero_of_no_sems (by decide) r.2⟩) (Cert.Reference20Ideal.Value.run m ρ)

end Cert.Call20

end
-- ==== Proof.Norm.lean ====
module

public import Idealize.ShloMosaic.Lib.Pipeline.ValueKit
public import Idealize.ShloMosaic.Lib.Pointwise
public import Idealize.ShloMosaic.Lib.IdealHost

/-! The normalization of a row and its gradient: the kernel's form of the gradient against the chain rule's, for every input. -/

@[expose] public section

noncomputable section

namespace Cert.Norm

open Idealize.ShloMosaic

/-- The length of a row, as the programs write it. -/
abbrev len : EReal := Ideal.ofBits .f32 0x45000000#32

/-- The mean square of a row and the small constant. -/
def ms (y : Fin 2048 → EReal) : EReal := Ideal.div (∑ k, y k * y k) len + Ideal.ofBits .f32 0x358637BD#32

/-- The normalization of a row with a gain, at one position. -/
def rms (y g : Fin 2048 → EReal) (i : Fin 2048) : EReal := y i * Ideal.rsqrt (ms y) * g i

/-- The row length is the number 2048. -/
theorem len_eq : len = ((2048 : ℝ) : EReal) := by
  simp [len, Ideal.ofBits, Ideal.ieee]
  rw [← EReal.coe_mul]
  norm_num

/-- The small constant is a positive number. -/
theorem eps_eq : ∃ e : ℝ, 0 < e ∧ Ideal.ofBits .f32 0x358637BD#32 = (e : EReal) := by
  refine ⟨_, ?_, by simp [Ideal.ofBits, Ideal.ieee]; rfl⟩
  norm_num

/-- The factor minus one half. -/
theorem half_eq : Ideal.ofBits .f32 0xBF000000#32 = ((-(1 / 2) : ℝ) : EReal) := by
  simp [Ideal.ofBits, Ideal.ieee]
  rw [← EReal.coe_mul]
  norm_num

/-- Dividing by the row length is multiplying by its inverse. -/
theorem div_len (x : EReal) : Ideal.div x len = x * ((1 / 2048 : ℝ) : EReal) := by
  rw [len_eq, Ideal.div_coe (by norm_num)]

/-- Twice a multiple of anything is the multiple by twice the number. -/
theorem twice (S : EReal) {a b : ℝ} (h : b = -(a + a)) : S * (a : EReal) + S * a = -(S * b) := by
  subst h
  induction S using EReal.rec with
  | coe s => norm_cast; ring
  | bot =>
    rcases lt_trichotomy a 0 with ha | ha | ha
    · rw [EReal.bot_mul_coe_of_neg ha, EReal.bot_mul_coe_of_pos (by linarith)]; rfl
    · subst ha; simp
    · rw [EReal.bot_mul_coe_of_pos ha, EReal.bot_mul_coe_of_neg (by linarith)]; rfl
  | top =>
    rcases lt_trichotomy a 0 with ha | ha | ha
    · rw [EReal.top_mul_coe_of_neg ha, EReal.top_mul_coe_of_pos (by linarith)]; rfl
    · subst ha; simp
    · rw [EReal.top_mul_coe_of_pos ha, EReal.top_mul_coe_of_neg (by linarith)]; rfl

/-- A square is not negative. -/
theorem sq_nonneg (x : EReal) : 0 ≤ x * x := by
  induction x using EReal.rec with
  | coe s => exact_mod_cast mul_self_nonneg s
  | bot => simp
  | top => simp

/-- A sum of squares is infinite, or every term of the row is a number. -/
theorem sumsq_cases (y : Fin 2048 → EReal) : (∑ k, y k * y k) = ⊤ ∨ ∃ z : Fin 2048 → ℝ, (∀ k, y k = z k) ∧ (∑ k, y k * y k) = ((∑ k, z k * z k : ℝ) : EReal) := by
  by_cases h : ∀ k, y k * y k ≠ ⊤
  · right
    have hk : ∀ k, y k = ((y k).toReal : EReal) := fun k => by
      have := h k
      induction hy : y k using EReal.rec with
      | coe s => rfl
      | bot => simp [hy] at this
      | top => simp [hy] at this
    refine ⟨fun k => (y k).toReal, hk, ?_⟩
    have hs : ∀ s : Finset (Fin 2048), (∑ k ∈ s, y k * y k) = ((∑ k ∈ s, (y k).toReal * (y k).toReal : ℝ) : EReal) := fun s => by
      induction s using Finset.induction_on with
      | empty => simp
      | insert a s ha ih => rw [Finset.sum_insert ha, Finset.sum_insert ha, ih, EReal.coe_add, EReal.coe_mul, ← hk a]
    exact hs _
  · left
    push Not at h
    obtain ⟨k, hk⟩ := h
    rw [← Finset.add_sum_erase _ _ (Finset.mem_univ k), hk]
    refine EReal.top_add_of_ne_bot (ne_of_gt (lt_of_lt_of_le EReal.bot_lt_zero ?_))
    exact Finset.sum_nonneg fun i _ => sq_nonneg _

/-- The mean square with the small constant is infinite, or a positive number for a row of numbers. -/
theorem ms_cases (y : Fin 2048 → EReal) : ms y = ⊤ ∨ ∃ (x : ℝ) (z : Fin 2048 → ℝ), 0 < x ∧ ms y = x ∧ ∀ k, y k = z k := by
  obtain ⟨e, he, hE⟩ := eps_eq
  unfold ms
  rw [hE, div_len]
  rcases sumsq_cases y with h | ⟨z, hz, h⟩
  · left
    rw [h, EReal.top_mul_coe_of_pos (by norm_num)]
    exact EReal.top_add_coe _
  · right
    refine ⟨(∑ k, z k * z k) * (1 / 2048) + e, z, ?_, ?_, hz⟩
    · have : 0 ≤ ∑ k, z k * z k := Finset.sum_nonneg fun k _ => mul_self_nonneg _
      positivity
    · rw [h]; norm_cast

/-- The gradient of the normalization in the kernel's form: the gradient of the scaled row, less the row times the projection on it. -/
def bwd (y d : Fin 2048 → EReal) (i : Fin 2048) : EReal :=
  Ideal.rsqrt (ms y) * d i - y i * (Ideal.rsqrt (ms y) * Ideal.rsqrt (ms y) * Ideal.rsqrt (ms y) * Ideal.div (∑ k, y k * d k) len)

/-- The share of the mean square's gradient in the chain rule's form. -/
def ct (y d : Fin 2048 → EReal) : EReal :=
  Ideal.div ((∑ k, y k * d k) * (Ideal.ofBits .f32 0xBF000000#32 * Ideal.div (Ideal.rsqrt (ms y)) (ms y))) len

/-- The two forms of the gradient agree on every row. -/
theorem bwd_eq (y d : Fin 2048 → EReal) (i : Fin 2048) : bwd y d i = d i * Ideal.rsqrt (ms y) + y i * ct y d + ct y d * y i := by
  unfold bwd ct
  rw [div_len, div_len, half_eq]
  generalize (∑ k, y k * d k) = S
  rcases ms_cases y with h | ⟨x, z, hx, h, hz⟩
  · have h0 : Ideal.div 0 ⊤ = 0 := by rw [Ideal.div, if_neg (by simp), zero_mul]
    simp [h, h0]
  · rw [h, hz i]
    have hr : Ideal.rsqrt (x : EReal) = (((Real.sqrt x)⁻¹ : ℝ) : EReal) := by
      rw [Ideal.rsqrt_coe, if_neg hx.not_gt, if_neg hx.ne']
    have hd : Ideal.div (((Real.sqrt x)⁻¹ : ℝ) : EReal) (x : EReal) = (((Real.sqrt x)⁻¹ / x : ℝ) : EReal) := by
      rw [Ideal.div_coe hx.ne', ← EReal.coe_mul, mul_one_div]
    rw [hr, hd, sub_eq_add_neg, mul_comm (d i), add_assoc]
    congr 1
    have h1 : (z i : EReal) * (S * (((-(1 / 2) : ℝ) : EReal) * (((Real.sqrt x)⁻¹ / x : ℝ) : EReal)) * ((1 / 2048 : ℝ) : EReal))
        = S * ((z i * (-(1 / 2) * ((Real.sqrt x)⁻¹ / x) * (1 / 2048)) : ℝ) : EReal) := by
      push_cast; ac_rfl
    have h2 : (z i : EReal) * ((((Real.sqrt x)⁻¹ : ℝ) : EReal) * (((Real.sqrt x)⁻¹ : ℝ) : EReal) * (((Real.sqrt x)⁻¹ : ℝ) : EReal) * (S * ((1 / 2048 : ℝ) : EReal)))
        = S * ((z i * ((Real.sqrt x)⁻¹ * (Real.sqrt x)⁻¹ * (Real.sqrt x)⁻¹ * (1 / 2048)) : ℝ) : EReal) := by
      push_cast; ac_rfl
    rw [mul_comm _ (z i : EReal), h1, h2, twice]
    have hs : Real.sqrt x * Real.sqrt x = x := Real.mul_self_sqrt hx.le
    have hx3 : (Real.sqrt x)⁻¹ / x = (Real.sqrt x)⁻¹ * (Real.sqrt x)⁻¹ * (Real.sqrt x)⁻¹ := by
      rw [div_eq_mul_inv, mul_assoc]
      congr 1
      rw [← mul_inv, hs]
    rw [hx3]
    ring

/-- The gradient of a normalization's input, of the rows of an array with one layer's gain. -/
def dx (Y D : ({ rank := 2, size := ![4096, 2048] } : Shape).Idx → EReal) (G : ({ rank := 2, size := ![4, 2048] } : Shape).Idx → EReal) (L : Fin 4)
    (a : Fin 4096) (b : Fin 2048) : EReal :=
  bwd (fun k => Y (ix2 a k)) (fun k => D (ix2 a k) * G (ix2 L k)) b

/-- The gradient of the rows in the chain rule's form. -/
theorem dx_eq (Y D : ({ rank := 2, size := ![4096, 2048] } : Shape).Idx → EReal) (G : ({ rank := 2, size := ![4, 2048] } : Shape).Idx → EReal) (L : Fin 4)
    (a : Fin 4096) (b : Fin 2048) :
    dx Y D G L a b = D (ix2 a b) * G (ix2 L b) * Ideal.rsqrt (ms fun k => Y (ix2 a k))
      + Y (ix2 a b) * ct (fun k => Y (ix2 a k)) (fun k => D (ix2 a k) * G (ix2 L k))
      + ct (fun k => Y (ix2 a k)) (fun k => D (ix2 a k) * G (ix2 L k)) * Y (ix2 a b) :=
  bwd_eq _ _ b

/-- The rows of an array normalized, with one layer's gain. -/
def rows (Y : ({ rank := 2, size := ![4096, 2048] } : Shape).Idx → EReal) (G : ({ rank := 2, size := ![4, 2048] } : Shape).Idx → EReal) (L : Fin 4)
    (a : Fin 4096) (b : Fin 2048) : EReal :=
  rms (fun k => Y (ix2 a k)) (fun k => G (ix2 L k)) b

/-- An array and the rows of another, normalized with one layer's gain. -/
def resid (X Y : ({ rank := 2, size := ![4096, 2048] } : Shape).Idx → EReal) (G : ({ rank := 2, size := ![4, 2048] } : Shape).Idx → EReal) (L : Fin 4)
    (a : Fin 4096) (b : Fin 2048) : EReal :=
  X (ix2 a b) + rows Y G L a b

/-- The chain rule's factor of the mean squared error: one half, over the row length, twice. -/
theorem rate : Ideal.div (Ideal.ofBits .f32 0x3F000000#32) len * Ideal.ofBits .f32 0x40000000#32
    = Ideal.ofBits .f32 0x3A000000#32 := by
  rw [div_len]
  simp [Ideal.ofBits, Ideal.ieee]
  norm_cast
  norm_num

/-- The gradient of the gain: over the rows, the incoming gradient times the normalized row. -/
def dgain (Y D : ({ rank := 2, size := ![4096, 2048] } : Shape).Idx → EReal) (b : Fin 2048) : EReal :=
  ∑ l : Fin 4096, D (ix2 l b) * Y (ix2 l b) * Ideal.rsqrt (ms fun k => Y (ix2 l k))

/-- The gains with a unit axis between layer and column. -/
theorem gain_cast {α : Type} (G : (⟨2, ![4, 2048]⟩ : Shape).Idx → α) (h : (⟨2, ![4, 2048]⟩ : Shape).ShapeCasts ⟨3, ![4, 1, 2048]⟩)
    (L : Fin 4) (u : Fin 1) (k : Fin 2048) : shapeCast ⟨3, ![4, 1, 2048]⟩ G h (ix3 L u k) = G (ix2 L k) :=
  shapeCast_apply G h _ _ (by
    rw [Shape.rowMajor_val_three, Shape.rowMajor_val_two]
    show L.val * 2048 + k.val = (L.val * 1 + u.val) * 2048 + k.val
    omega)

/-- A sum over 4096 rows taken in sixteen blocks of 256, each by its eight sublanes over 32 groups. -/
theorem rows_sum (f : Fin 4096 → EReal) (F : Fin 8 → Fin 16 → Fin 32 → EReal)
    (h : ∀ (s : Fin 8) (p : Fin 16) (g : Fin 32) (hl : p.val * 256 + (g.val * 8 + s.val) < 4096), F s p g = f ⟨p.val * 256 + (g.val * 8 + s.val), hl⟩) :
    ∑ s, ∑ p, ∑ g, F s p g = ∑ l, f l := by
  rw [Finset.sum_comm]
  refine (Finset.sum_congr (M := EReal) rfl fun p _ => Finset.sum_comm).trans ?_
  refine (Finset.sum_congr (M := EReal) rfl fun p _ => Finset.sum_congr rfl fun g _ => Finset.sum_congr rfl fun s _ =>
    h s p g (by have := p.isLt; have := g.isLt; have := s.isLt; omega)).trans ?_
  rw [Fin.sum_univ_tiles 16 256 rfl f]
  exact Finset.sum_congr (M := EReal) rfl fun p _ => (Fin.sum_univ_tiles 32 8 rfl fun k : Fin 256 => f ⟨p.val * 256 + k.val, by have := p.isLt; have := k.isLt; omega⟩).symm

end Cert.Norm

end
-- ==== Proof.Call21.lean ====
module

public import proofs.«01_k».proof.Defs
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal.Run
public import proofs.«01_k».proof.Proof.Norm
public import Idealize.ShloMosaic.Lib.Pipeline.ValueKit
public import Idealize.ShloMosaic.Lib.Pointwise
public import Idealize.ShloMosaic.Lib.Pipeline.ReadBack

/-! The gradient through the mixer's first normalization: of the input, with the residual's, and of the gain. -/

@[expose] public section

noncomputable section

namespace Cert.Call21

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

/-- The blocks of the rows move with the grid; the gain's and the gain's gradient's stay. -/
theorem idx : ∀ t : Fin cfg0.N, win0_0.index t = ![t.val, 0] ∧ win0_1.index t = ![0, 0, 0] ∧ win0_2.index t = ![t.val, 0] ∧ win0_3.index t = ![t.val, 0] ∧ win0_4.index t = ![t.val, 0] ∧ win0_5.index t = ![0, 0] :=
  (by decide +kernel : ∀ t : Fin grid0.N, _)

/-- The row of the arrays that row `r` of point `t`'s blocks is. -/
def row (t : Fin cfg0.N) (r : Fin 256) : Fin 4096 :=
  ⟨t.val * 256 + r.val, by have := t.isLt; have : cfg0.N = 16 := N_0; omega⟩

/-- Where a block of the first operand lies. -/
theorem emb0 (t : Fin cfg0.N) (y : S256x2048.Idx) : (win0_0.blk t).view.emb y = (ix2 (row t (y 0)) (y 1) : S4096x2048.Idx) := by
  unfold row; blk_ext [(idx t).1]

/-- Where the gain's block lies: its first layer. -/
theorem emb1 (t : Fin cfg0.N) (y : S1x1x2048.Idx) : (win0_1.blk t).view.emb y = (ix3 0 0 (y 2) : S4x1x2048.Idx) := by
  blk_ext [(idx t).2.1]

/-- Where a block of window 2 lies. -/
theorem emb2 (t : Fin cfg0.N) (y : S256x2048.Idx) : (win0_2.blk t).view.emb y = (ix2 (row t (y 0)) (y 1) : S4096x2048.Idx) := by
  unfold row; blk_ext [(idx t).2.2.1]

/-- Where a block of window 3 lies. -/
theorem emb3 (t : Fin cfg0.N) (y : S256x2048.Idx) : (win0_3.blk t).view.emb y = (ix2 (row t (y 0)) (y 1) : S4096x2048.Idx) := by
  unfold row; blk_ext [(idx t).2.2.2.1]

/-- Where a block of window 4 lies. -/
theorem emb4 (t : Fin cfg0.N) (y : S256x2048.Idx) : (win0_4.blk t).view.emb y = (ix2 (row t (y 0)) (y 1) : S4096x2048.Idx) := by
  unfold row; blk_ext [(idx t).2.2.2.2.1]

/-- The block of operand 0, of the argument as launched. -/
theorem in0 (c : Dev nD) (t : Fin cfg0.N) (y : S256x2048.Idx) :
    iblk m c 0 t y = m ((c : Thread nD τ).loc main_arg0) (ix2 (row t (y 0)) (y 1)) := by
  blk_simp [iblk]
  exact (congrFun (V_main_arg0 m c) _).trans (congrArg (m ((c : Thread nD τ).loc main_arg0)) (emb0 t y))

/-- The gain the region starts with: the argument with a unit axis. -/
theorem V_gain (c : Dev nD) : V m c main_v0 = shapeCast S4x1x2048 (m ((c : Thread nD τ).loc main_arg1)) shapeCasts_S4x2048_S4x1x2048 := by
  unfold V hostOps0
  after_results
  rfl

/-- The gain's block: the first layer's gain. -/
theorem in1 (c : Dev nD) (t : Fin cfg0.N) (y : S1x1x2048.Idx) :
    iblk m c 1 t y = m ((c : Thread nD τ).loc main_arg1) (ix2 0 (y 2)) := by
  blk_simp [iblk]
  refine (congrFun (V_gain m c) _).trans ((congrArg (shapeCast S4x1x2048 (m ((c : Thread nD τ).loc main_arg1)) shapeCasts_S4x2048_S4x1x2048) (emb1 t y)).trans ?_)
  exact Norm.gain_cast _ _ _ _ _

/-- The block of operand 2, of the argument as launched. -/
theorem in2 (c : Dev nD) (t : Fin cfg0.N) (y : S256x2048.Idx) :
    iblk m c 2 t y = m ((c : Thread nD τ).loc main_arg2) (ix2 (row t (y 0)) (y 1)) := by
  blk_simp [iblk]
  exact (congrFun (V_main_arg2 m c) _).trans (congrArg (m ((c : Thread nD τ).loc main_arg2)) (emb2 t y))

/-- The block of operand 3, of the argument as launched. -/
theorem in3 (c : Dev nD) (t : Fin cfg0.N) (y : S256x2048.Idx) :
    iblk m c 3 t y = m ((c : Thread nD τ).loc main_arg3) (ix2 (row t (y 0)) (y 1)) := by
  blk_simp [iblk]
  exact (congrFun (V_main_arg3 m c) _).trans (congrArg (m ((c : Thread nD τ).loc main_arg3)) (emb3 t y))

/-- The normalization's factor of a row of a block. -/
theorem pay3 (x : Vec Ideal S256x2048 .f32) (a : Fin 256) : k0_pay3 x (ix2 a 0) = Ideal.rsqrt (Norm.ms fun k => x (ix2 a k)) := by
  pointwise [k0_pay3]
  rfl

/-- The stored gradient of the input, in the kernel's form. -/
theorem pay4 (x d : Vec Ideal S256x2048 .f32) (g : Vec Ideal S1x1x2048 .f32) (e : Vec Ideal S256x2048 .f32) (a : Fin 256) (b : Fin 2048) :
    k0_pay4 x d g e (ix2 a b) = Norm.bwd (fun k => x (ix2 a k)) (fun k => d (ix2 a k) * g (ix3 0 0 k)) b + e (ix2 a b) := by
  pointwise [k0_pay4, pay3]
  rfl

/-- One point's share of the gain's gradient: every eighth row of its block. -/
def part (x d : Vec Ideal S256x2048 .f32) (y : S8x2048.Idx) : EReal :=
  ∑ g : Fin 32, d (ix2 ⟨g.val * 8 + (y 0).val, by idx_bounds y; omega⟩ (y 1)) * x (ix2 ⟨g.val * 8 + (y 0).val, by idx_bounds y; omega⟩ (y 1))
    * Ideal.rsqrt (Norm.ms fun k => x (ix2 ⟨g.val * 8 + (y 0).val, by idx_bounds y; omega⟩ k))

/-- What a point leaves in the scratch: its share on top of what was there. -/
theorem pay1 (acc : Vec Ideal S8x2048 .f32) (x d : Vec Ideal S256x2048 .f32) (y : S8x2048.Idx) :
    k0_pay1 acc (k0_pay6 x d) y = acc y + part x d y := by
  unfold part
  pointwise [k0_pay1, k0_pay6, pay3]

/-- What every point leaves in the block of the input's gradient. -/
theorem outs_dy (c : Dev nD) (t : Fin cfg0.N) :
    (outsAt0 m c t.val t.isLt).1 = k0_pay4 (iblk m c 0 t) (iblk m c 2 t) (iblk m c 1 t) (iblk m c 3 t) := by
  by_cases h0 : t.val % 16 = 0
  · have h1 : ¬ t.val % 16 = 15 := by omega
    rw [outsAt0_A m c t h0 h1]; frame_out
  · by_cases h1 : t.val % 16 = 15
    · rw [outsAt0_C m c t h0 h1]; frame_out
    · rw [outsAt0_B m c t h0 h1]; frame_out

/-- The input's gradient after the run. -/
theorem final4 (c : Dev nD) : (dats m 0 c).arrAt 4 cfg0.N = fun j : S4096x2048.Idx =>
    Norm.dx (m ((c : Thread nD τ).loc main_arg0)) (m ((c : Thread nD τ).loc main_arg2)) (m ((c : Thread nD τ).loc main_arg1)) 0 (j 0) (j 1)
      + (m ((c : Thread nD τ).loc main_arg3) : S4096x2048.Idx → EReal) (ix2 (j 0) (j 1)) := by
  refine (dats m 0 c).arrAt_eq_of_covers 4 _ (by decide +kernel) fun t hf y => ?_
  blk_simp
  rw [after0_4, outs_dy, emb4]
  refine ((congrArg (k0_pay4 _ _ _ _) (eq_ix2 y)).trans (pay4 _ _ _ _ (y 0) (y 1))).trans ?_
  simp only [in0, in1, in2, in3]
  rfl

/-- What the scratch holds after the last point: every point's share. -/
theorem scratch (c : Dev nD) (y : S8x2048.Idx) : (outsAt0 m c t0_15.val t0_15.isLt).2.2 y
    = ∑ p : Fin cfg0.N, part (iblk m c 0 p) (iblk m c 2 p) y := by
  rw [Pipeline.eq_sum_fin_of_reset_step_apply_last (fun n h => (outsAt0 m c n h).2.2) 16 (fun _ => (0 : EReal)) (fun p => part (iblk m c 0 p) (iblk m c 2 p))
    (fun t h0 j => by
      have h1 : ¬ t.val % 16 = 15 := by omega
      rw [outsAt0_A m c t h0 h1]; frame_out; rw [pay1]; pointwise [k0_pay5])
    (fun t h0 j => by
      by_cases h1 : t.val % 16 = 15
      · rw [outsAt0_C m c t h0 h1]; frame_out; rw [pay1]; simp only [read_unread_whole]
      · rw [outsAt0_B m c t h0 h1]; frame_out; rw [pay1]; simp only [read_unread_whole])
    (le_of_eq N_0) t0_15 rfl y, zero_add]

/-- What the last point leaves in the block of the gain's gradient: the scratch's eight rows, added. -/
theorem outs_dg (c : Dev nD) : (outsAt0 m c t0_15.val t0_15.isLt).2.1 = k0_pay2 (outsAt0 m c t0_15.val t0_15.isLt).2.2 := by
  rw [outsAt0_C m c t0_15 (by decide) (by decide)]
  frame_out

/-- The gain's gradient after the run. -/
theorem final5 (c : Dev nD) : (dats m 0 c).arrAt 5 cfg0.N = fun j : S1x2048.Idx =>
    Norm.dgain (m ((c : Thread nD τ).loc main_arg0)) (m ((c : Thread nD τ).loc main_arg2)) (j 1) := by
  refine (dats m 0 c).arrAt_eq_of_after_last 5 t0_15 (by decide +kernel) _ fun j => ?_
  blk_simp
  rw [after0_5, outs_dg]
  pointwise [k0_pay2]
  simp only [scratch]
  refine Norm.rows_sum _ _ fun s p g hl => ?_
  exact congrArg₂ (fun a b : EReal => a * b) (congrArg₂ (fun a b : EReal => a * b) (in2 m c p _) (in0 m c p _))
    (congrArg (fun f => Ideal.rsqrt (Norm.ms f)) (funext fun k => in0 m c p _))

/-- The call's results are the reference's, whatever the arguments. -/
theorem claim : Cert.algebraic_Kernel21Ideal_Reference21Ideal := by
  intro m g m' g' _ hagree
  refine ⟨fun c => _, fun c => _, Cert.Kernel21Ideal.Value.run_blocks m g, ?_⟩
  refine (θ_run _ _ _).mono (fun r h c => ⟨(h c).1.trans ?_, (h c).2.1.trans ?_, (h c).2.2⟩) (Cert.Reference21Ideal.Value.run m' g')
  · show _ = (dats m 0 c).arrAt 4 cfg0.N
    rw [final4, ← (hagree c).1, ← (hagree c).2.1, ← (hagree c).2.2.1, ← (hagree c).2.2.2]
    refine funext fun (j : S4096x2048.Idx) => ?_
    obtain ⟨a, b, rfl⟩ : ∃ (a : Fin 4096) (b : Fin 2048), j = ix2 a b := ⟨j 0, j 1, eq_ix2 j⟩
    pointwise [Cert.Reference21Ideal.Value.res_main_v38]
    simp only [Finset.univ_unique, Finset.sum_singleton]
    exact congrArg (fun x : EReal => x + (m' ((c : Thread nD τ).loc Cert.Reference21Ideal.main_arg3) : S4096x2048.Idx → EReal) (ix2 a b)) (Norm.dx_eq (m' ((c : Thread nD τ).loc Cert.Reference21Ideal.main_arg0)) (m' ((c : Thread nD τ).loc Cert.Reference21Ideal.main_arg2)) (m' ((c : Thread nD τ).loc Cert.Reference21Ideal.main_arg1)) 0 a b).symm
  · show _ = (dats m 0 c).arrAt 5 cfg0.N
    rw [final5, ← (hagree c).1, ← (hagree c).2.2.1]
    refine funext fun (j : S1x2048.Idx) => ?_
    pointwise
    simp only [Finset.univ_unique, Finset.sum_singleton]
    exact Finset.sum_congr rfl fun l _ => by ac_rfl

/-- The reference runs, leaves its arguments as launched, and declares no semaphore. -/
theorem frame : Cert.quiescent_Reference21Ideal := fun m ρ _ =>
  (θ_run _ _ _).mono (fun r h => ⟨fun c => (h c).2.2, sem_eq_zero_of_no_sems (by decide) r.2⟩) (Cert.Reference21Ideal.Value.run m ρ)

end Cert.Call21

end
-- ==== Proof.Call22.lean ====
module

public import proofs.«01_k».proof.Defs
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal.Run
public import proofs.«01_k».proof.Proof.Norm
public import Idealize.ShloMosaic.Lib.Pipeline.ReadBack
public import Idealize.ShloMosaic.Lib.Pipeline.ValueKit
public import Idealize.ShloMosaic.Lib.Pointwise

/-! The gradient through the MLP's first normalization: of its input and of its gain. -/

@[expose] public section

noncomputable section

namespace Cert.Call22

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ)

/-- The blocks of the rows move with the grid; the others stay. -/
theorem idx : ∀ t : Fin cfg0.N, win0_0.index t = ![t.val, 0] ∧ win0_1.index t = ![0, 0, 0] ∧ win0_2.index t = ![t.val, 0] ∧ win0_3.index t = ![t.val, 0] ∧ win0_4.index t = ![0, 0] :=
  (by decide +kernel : ∀ t : Fin grid0.N, _)

/-- The row of the arrays that row `r` of point `t`'s blocks is. -/
def row (t : Fin cfg0.N) (r : Fin 256) : Fin 4096 :=
  ⟨t.val * 256 + r.val, by have := t.isLt; have : cfg0.N = 16 := N_0; omega⟩

/-- Where a block of window 0 lies. -/
theorem emb0 (t : Fin cfg0.N) (y : S256x2048.Idx) : (win0_0.blk t).view.emb y = (ix2 (row t (y 0)) (y 1) : S4096x2048.Idx) := by
  unfold row; blk_ext [(idx t).1]

/-- Where the gain's block of window 1 lies: one layer of it. -/
theorem emb1 (t : Fin cfg0.N) (y : S1x1x2048.Idx) : (win0_1.blk t).view.emb y = (ix3 0 0 (y 2) : S4x1x2048.Idx) := by
  blk_ext [(idx t).2.1]

/-- Where a block of window 2 lies. -/
theorem emb2 (t : Fin cfg0.N) (y : S256x2048.Idx) : (win0_2.blk t).view.emb y = (ix2 (row t (y 0)) (y 1) : S4096x2048.Idx) := by
  unfold row; blk_ext [(idx t).2.2.1]

/-- Where a block of window 3 lies. -/
theorem emb3 (t : Fin cfg0.N) (y : S256x2048.Idx) : (win0_3.blk t).view.emb y = (ix2 (row t (y 0)) (y 1) : S4096x2048.Idx) := by
  unfold row; blk_ext [(idx t).2.2.2.1]

/-- A block of operand 0, of the argument as launched. -/
theorem in0 (c : Dev nD) (t : Fin cfg0.N) (y : S256x2048.Idx) :
    iblk m c 0 t y = m ((c : Thread nD τ).loc main_arg0) (ix2 (row t (y 0)) (y 1)) := by
  blk_simp [iblk]
  exact (congrFun (V_main_arg0 m c) _).trans (congrArg (m ((c : Thread nD τ).loc main_arg0)) (emb0 t y))

/-- The gain the region starts with at operand 1: the argument with a unit axis. -/
theorem V_gain1 (c : Dev nD) : V m c main_v0 = shapeCast S4x1x2048 (m ((c : Thread nD τ).loc main_arg1)) shapeCasts_S4x2048_S4x1x2048 := by
  unfold V hostOps0
  after_results
  rfl

/-- The gain's block at operand 1: one layer's gain. -/
theorem in1 (c : Dev nD) (t : Fin cfg0.N) (y : S1x1x2048.Idx) :
    iblk m c 1 t y = m ((c : Thread nD τ).loc main_arg1) (ix2 0 (y 2)) := by
  blk_simp [iblk]
  refine (congrFun (V_gain1 m c) _).trans ((congrArg (shapeCast S4x1x2048 (m ((c : Thread nD τ).loc main_arg1)) shapeCasts_S4x2048_S4x1x2048) (emb1 t y)).trans ?_)
  exact Norm.gain_cast _ _ _ _ _

/-- A block of operand 2, of the argument as launched. -/
theorem in2 (c : Dev nD) (t : Fin cfg0.N) (y : S256x2048.Idx) :
    iblk m c 2 t y = m ((c : Thread nD τ).loc main_arg2) (ix2 (row t (y 0)) (y 1)) := by
  blk_simp [iblk]
  exact (congrFun (V_main_arg2 m c) _).trans (congrArg (m ((c : Thread nD τ).loc main_arg2)) (emb2 t y))

/-- The normalization's factor of a row of a block. -/
theorem pay3 (x : Vec Ideal S256x2048 .f32) (a : Fin 256) : k0_pay3 x (ix2 a 0) = Ideal.rsqrt (Norm.ms fun k => x (ix2 a k)) := by
  pointwise [k0_pay3]
  rfl

/-- The stored gradient of the input, in the kernel's form. -/
theorem pay4 (x d : Vec Ideal S256x2048 .f32) (g : Vec Ideal S1x1x2048 .f32) (a : Fin 256) (b : Fin 2048) :
    k0_pay4 x d g (ix2 a b) = Norm.bwd (fun k => x (ix2 a k)) (fun k => d (ix2 a k) * g (ix3 0 0 k)) b := by
  pointwise [k0_pay4, pay3]
  rfl

/-- One point's share of the gain's gradient: every eighth row of its block. -/
def part (x d : Vec Ideal S256x2048 .f32) (y : S8x2048.Idx) : EReal :=
  ∑ g : Fin 32, d (ix2 ⟨g.val * 8 + (y 0).val, by idx_bounds y; omega⟩ (y 1)) * x (ix2 ⟨g.val * 8 + (y 0).val, by idx_bounds y; omega⟩ (y 1))
    * Ideal.rsqrt (Norm.ms fun k => x (ix2 ⟨g.val * 8 + (y 0).val, by idx_bounds y; omega⟩ k))

/-- What a point leaves in the scratch: its share on top of what was there. -/
theorem pay1 (acc : Vec Ideal S8x2048 .f32) (x d : Vec Ideal S256x2048 .f32) (y : S8x2048.Idx) :
    k0_pay1 acc (k0_pay6 x d) y = acc y + part x d y := by
  unfold part
  pointwise [k0_pay1, k0_pay6, pay3]

/-- What every point leaves in the block of the input's gradient. -/
theorem outs_dy (c : Dev nD) (t : Fin cfg0.N) :
    (outsAt0 m c t.val t.isLt).1 = k0_pay4 (iblk m c 0 t) (iblk m c 2 t) (iblk m c 1 t) := by
  by_cases h0 : t.val % 16 = 0
  · have h1 : ¬ t.val % 16 = 15 := by omega
    rw [outsAt0_A m c t h0 h1]; frame_out
  · by_cases h1 : t.val % 16 = 15
    · rw [outsAt0_C m c t h0 h1]; frame_out
    · rw [outsAt0_B m c t h0 h1]; frame_out

/-- The input's gradient after the run. -/
theorem final3 (c : Dev nD) : (dats m 0 c).arrAt 3 cfg0.N = fun j : S4096x2048.Idx =>
    Norm.dx (m ((c : Thread nD τ).loc main_arg0)) (m ((c : Thread nD τ).loc main_arg2)) (m ((c : Thread nD τ).loc main_arg1)) 0 (j 0) (j 1) := by
  refine (dats m 0 c).arrAt_eq_of_covers 3 _ (by decide +kernel) fun t hf y => ?_
  blk_simp
  rw [after0_3, outs_dy, emb3]
  refine ((congrArg (k0_pay4 _ _ _) (eq_ix2 y)).trans (pay4 _ _ _ (y 0) (y 1))).trans ?_
  simp only [in0, in1, in2]
  rfl

/-- What the scratch holds after the last point: every point's share. -/
theorem scratch (c : Dev nD) (y : S8x2048.Idx) : (outsAt0 m c t0_15.val t0_15.isLt).2.2 y
    = ∑ p : Fin cfg0.N, part (iblk m c 0 p) (iblk m c 2 p) y := by
  rw [Pipeline.eq_sum_fin_of_reset_step_apply_last (fun n h => (outsAt0 m c n h).2.2) 16 (fun _ => (0 : EReal)) (fun p => part (iblk m c 0 p) (iblk m c 2 p))
    (fun t h0 j => by
      have h1 : ¬ t.val % 16 = 15 := by omega
      rw [outsAt0_A m c t h0 h1]; frame_out; rw [pay1]; pointwise [k0_pay5])
    (fun t h0 j => by
      by_cases h1 : t.val % 16 = 15
      · rw [outsAt0_C m c t h0 h1]; frame_out; rw [pay1]; simp only [read_unread_whole]
      · rw [outsAt0_B m c t h0 h1]; frame_out; rw [pay1]; simp only [read_unread_whole])
    (le_of_eq N_0) t0_15 rfl y, zero_add]

/-- What the last point leaves in the block of the gain's gradient: the scratch's eight rows, added. -/
theorem outs_dg (c : Dev nD) : (outsAt0 m c t0_15.val t0_15.isLt).2.1 = k0_pay2 (outsAt0 m c t0_15.val t0_15.isLt).2.2 := by
  rw [outsAt0_C m c t0_15 (by decide) (by decide)]
  frame_out

/-- The gain's gradient after the run. -/
theorem final4 (c : Dev nD) : (dats m 0 c).arrAt 4 cfg0.N = fun j : S1x2048.Idx =>
    Norm.dgain (m ((c : Thread nD τ).loc main_arg0)) (m ((c : Thread nD τ).loc main_arg2)) (j 1) := by
  refine (dats m 0 c).arrAt_eq_of_after_last 4 t0_15 (by decide +kernel) _ fun j => ?_
  blk_simp
  rw [after0_4, outs_dg]
  pointwise [k0_pay2]
  simp only [scratch]
  refine Norm.rows_sum _ _ fun s p g hl => ?_
  exact congrArg₂ (fun a b : EReal => a * b) (congrArg₂ (fun a b : EReal => a * b) (in2 m c p _) (in0 m c p _))
    (congrArg (fun f => Ideal.rsqrt (Norm.ms f)) (funext fun k => in0 m c p _))

/-- The call's results are the reference's, whatever the arguments. -/
theorem claim : Cert.algebraic_Kernel22Ideal_Reference22Ideal := by
  intro m g m' g' _ hagree
  refine ⟨fun c => _, fun c => _, Cert.Kernel22Ideal.Value.run_blocks m g, ?_⟩
  refine (θ_run _ _ _).mono (fun r h c => ⟨(h c).1.trans ?_, (h c).2.1.trans ?_, (h c).2.2⟩) (Cert.Reference22Ideal.Value.run m' g')
  · show _ = (dats m 0 c).arrAt 3 cfg0.N
    rw [final3, ← (hagree c).1, ← (hagree c).2.1, ← (hagree c).2.2]
    refine funext fun (j : S4096x2048.Idx) => ?_
    obtain ⟨a, b, rfl⟩ : ∃ (a : Fin 4096) (b : Fin 2048), j = ix2 a b := ⟨j 0, j 1, eq_ix2 j⟩
    pointwise [Cert.Reference22Ideal.Value.res_main_v38]
    simp only [Finset.univ_unique, Finset.sum_singleton]
    exact (Norm.dx_eq (m' ((c : Thread nD τ).loc Cert.Reference22Ideal.main_arg0)) (m' ((c : Thread nD τ).loc Cert.Reference22Ideal.main_arg2)) (m' ((c : Thread nD τ).loc Cert.Reference22Ideal.main_arg1)) 0 a b).symm
  · show _ = (dats m 0 c).arrAt 4 cfg0.N
    rw [final4, ← (hagree c).1, ← (hagree c).2.2]
    refine funext fun (j : S1x2048.Idx) => ?_
    pointwise
    simp only [Finset.univ_unique, Finset.sum_singleton]
    exact Finset.sum_congr rfl fun l _ => by ac_rfl

/-- The reference runs, leaves its arguments as launched, and declares no semaphore. -/
theorem frame : Cert.quiescent_Reference22Ideal := fun m ρ _ =>
  (θ_run _ _ _).mono (fun r h => ⟨fun c => (h c).2.2, sem_eq_zero_of_no_sems (by decide) r.2⟩) (Cert.Reference22Ideal.Value.run m ρ)

end Cert.Call22

end
-- ==== Proof.Call23.lean ====
module

public import proofs.«01_k».proof.Defs
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal.Run
public import proofs.«01_k».proof.Proof.Norm
public import Idealize.ShloMosaic.Lib.Pipeline.ValueKit
public import Idealize.ShloMosaic.Lib.Pointwise

/-! The first block's normalization of its input. -/

@[expose] public section

noncomputable section

namespace Cert.Call23

open Cert.Kernel23Ideal Cert.Kernel23Ideal.Gen Idealize.ShloMosaic Idealize.ShloMosaic.TcCoe Idealize.SL.Sem
open Idealize.ShloMosaic.Pipeline (Dat)

variable (m : (ℓ : Loc nD τ sig) → Buf (Elt Ideal) ℓ)

/-- The blocks of the rows move with the grid; the others stay. -/
theorem idx : ∀ t : Fin cfg0.N, win0_0.index t = ![t.val, 0] ∧ win0_1.index t = ![0, 0, 0] ∧ win0_2.index t = ![t.val, 0] :=
  (by decide +kernel : ∀ t : Fin grid0.N, _)

/-- The row of the arrays that row `r` of point `t`'s blocks is. -/
def row (t : Fin cfg0.N) (r : Fin 256) : Fin 4096 :=
  ⟨t.val * 256 + r.val, by have := t.isLt; have : cfg0.N = 16 := N_0; omega⟩

/-- Where a block of window 0 lies. -/
theorem emb0 (t : Fin cfg0.N) (y : S256x2048.Idx) : (win0_0.blk t).view.emb y = (ix2 (row t (y 0)) (y 1) : S4096x2048.Idx) := by
  unfold row; blk_ext [(idx t).1]

/-- Where the gain's block of window 1 lies: one layer of it. -/
theorem emb1 (t : Fin cfg0.N) (y : S1x1x2048.Idx) : (win0_1.blk t).view.emb y = (ix3 0 0 (y 2) : S4x1x2048.Idx) := by
  blk_ext [(idx t).2.1]

/-- Where a block of window 2 lies. -/
theorem emb2 (t : Fin cfg0.N) (y : S256x2048.Idx) : (win0_2.blk t).view.emb y = (ix2 (row t (y 0)) (y 1) : S4096x2048.Idx) := by
  unfold row; blk_ext [(idx t).2.2]

/-- A block of operand 0, of the argument as launched. -/
theorem in0 (c : Dev nD) (t : Fin cfg0.N) (y : S256x2048.Idx) :
    iblk m c 0 t y = m ((c : Thread nD τ).loc main_arg0) (ix2 (row t (y 0)) (y 1)) := by
  blk_simp [iblk]
  exact (congrFun (V_main_arg0 m c) _).trans (congrArg (m ((c : Thread nD τ).loc main_arg0)) (emb0 t y))

/-- The gain the region starts with at operand 1: the argument with a unit axis. -/
theorem V_gain1 (c : Dev nD) : V m c main_v0 = shapeCast S4x1x2048 (m ((c : Thread nD τ).loc main_arg1)) shapeCasts_S4x2048_S4x1x2048 := by
  unfold V hostOps0
  after_results
  rfl

/-- The gain's block at operand 1: one layer's gain. -/
theorem in1 (c : Dev nD) (t : Fin cfg0.N) (y : S1x1x2048.Idx) :
    iblk m c 1 t y = m ((c : Thread nD τ).loc main_arg1) (ix2 0 (y 2)) := by
  blk_simp [iblk]
  refine (congrFun (V_gain1 m c) _).trans ((congrArg (shapeCast S4x1x2048 (m ((c : Thread nD τ).loc main_arg1)) shapeCasts_S4x2048_S4x1x2048) (emb1 t y)).trans ?_)
  exact Norm.gain_cast _ _ _ _ _

/-- The stored block: the rows normalized, times the gain. -/
theorem pay1 (x : Vec Ideal S256x2048 .f32) (g : Vec Ideal S1x1x2048 .f32) (a : Fin 256) (b : Fin 2048) :
    k0_pay1 x g (ix2 a b) = Norm.rms (fun k => x (ix2 a k)) (fun k => g (ix3 0 0 k)) b := by
  pointwise [k0_pay1]
  rfl

/-- The result after the run: the rows normalized. -/
theorem final2 (c : Dev nD) : (dats m 0 c).arrAt 2 cfg0.N = fun j : S4096x2048.Idx =>
    Norm.rows (m ((c : Thread nD τ).loc main_arg0)) (m ((c : Thread nD τ).loc main_arg1)) 0 (j 0) (j 1) := by
  refine (dats m 0 c).arrAt_eq_of_covers 2 _ (by decide +kernel) fun t hf y => ?_
  blk_simp
  rw [after0_2, emb2]
  frame_out
  refine ((congrArg (k0_pay1 _ _) (eq_ix2 y)).trans (pay1 _ _ (y 0) (y 1))).trans ?_
  simp only [in0, in1]
  rfl

/-- The call's result is the reference's, whatever the arguments. -/
theorem claim : Cert.algebraic_Kernel23Ideal_Reference23Ideal := by
  intro m g m' g' _ hagree
  refine ⟨fun c => _, Cert.Kernel23Ideal.Value.run_blocks m g, ?_⟩
  refine (θ_run _ _ _).mono (fun r h c => ⟨(h c).1.trans ?_, (h c).2⟩) (Cert.Reference23Ideal.Value.run m' g')
  show _ = (dats m 0 c).arrAt 2 cfg0.N
  rw [final2, ← (hagree c).1, ← (hagree c).2]
  refine funext fun (j : S4096x2048.Idx) => ?_
  obtain ⟨a, b, rfl⟩ : ∃ (a : Fin 4096) (b : Fin 2048), j = ix2 a b := ⟨j 0, j 1, eq_ix2 j⟩
  pointwise
  rfl

/-- The reference runs, leaves its arguments as launched, and declares no semaphore. -/
theorem frame : Cert.quiescent_Reference23Ideal := fun m ρ _ =>
  (θ_run _ _ _).mono (fun r h => ⟨fun c => (h c).2, sem_eq_zero_of_no_sems (by decide) r.2⟩) (Cert.Reference23Ideal.Value.run m ρ)

end Cert.Call23

end
-- ==== Proof.Call24.lean ====
module

public import proofs.«01_k».proof.Defs
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal.Run
public import proofs.«01_k».proof.Proof.Norm
public import Idealize.ShloMosaic.Lib.Pipeline.ValueKit
public import Idealize.ShloMosaic.Lib.Pointwise

/-! The mixer's residual and the normalization after it. -/

@[expose] public section

noncomputable section

namespace Cert.Call24

open Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

/-- The blocks of the rows move with the grid; the others stay. -/
theorem idx : ∀ t : Fin cfg0.N, win0_0.index t = ![t.val, 0] ∧ win0_1.index t = ![t.val, 0] ∧ win0_2.index t = ![0, 0, 0] ∧ win0_3.index t = ![0, 0, 0] ∧ win0_4.index t = ![t.val, 0] ∧ win0_5.index t = ![t.val, 0] :=
  (by decide +kernel : ∀ t : Fin grid0.N, _)

/-- The row of the arrays that row `r` of point `t`'s blocks is. -/
def row (t : Fin cfg0.N) (r : Fin 256) : Fin 4096 :=
  ⟨t.val * 256 + r.val, by have := t.isLt; have : cfg0.N = 16 := N_0; omega⟩

/-- Where a block of window 0 lies. -/
theorem emb0 (t : Fin cfg0.N) (y : S256x2048.Idx) : (win0_0.blk t).view.emb y = (ix2 (row t (y 0)) (y 1) : S4096x2048.Idx) := by
  unfold row; blk_ext [(idx t).1]

/-- Where a block of window 1 lies. -/
theorem emb1 (t : Fin cfg0.N) (y : S256x2048.Idx) : (win0_1.blk t).view.emb y = (ix2 (row t (y 0)) (y 1) : S4096x2048.Idx) := by
  unfold row; blk_ext [(idx t).2.1]

/-- Where the gain's block of window 2 lies: one layer of it. -/
theorem emb2 (t : Fin cfg0.N) (y : S1x1x2048.Idx) : (win0_2.blk t).view.emb y = (ix3 0 0 (y 2) : S4x1x2048.Idx) := by
  blk_ext [(idx t).2.2.1]

/-- Where the gain's block of window 3 lies: one layer of it. -/
theorem emb3 (t : Fin cfg0.N) (y : S1x1x2048.Idx) : (win0_3.blk t).view.emb y = (ix3 0 0 (y 2) : S4x1x2048.Idx) := by
  blk_ext [(idx t).2.2.2.1]

/-- Where a block of window 4 lies. -/
theorem emb4 (t : Fin cfg0.N) (y : S256x2048.Idx) : (win0_4.blk t).view.emb y = (ix2 (row t (y 0)) (y 1) : S4096x2048.Idx) := by
  unfold row; blk_ext [(idx t).2.2.2.2.1]

/-- Where a block of window 5 lies. -/
theorem emb5 (t : Fin cfg0.N) (y : S256x2048.Idx) : (win0_5.blk t).view.emb y = (ix2 (row t (y 0)) (y 1) : S4096x2048.Idx) := by
  unfold row; blk_ext [(idx t).2.2.2.2.2]

/-- A block of operand 0, of the argument as launched. -/
theorem in0 (c : Dev nD) (t : Fin cfg0.N) (y : S256x2048.Idx) :
    iblk m c 0 t y = m ((c : Thread nD τ).loc main_arg0) (ix2 (row t (y 0)) (y 1)) := by
  blk_simp [iblk]
  exact (congrFun (V_main_arg0 m c) _).trans (congrArg (m ((c : Thread nD τ).loc main_arg0)) (emb0 t y))

/-- A block of operand 1, of the argument as launched. -/
theorem in1 (c : Dev nD) (t : Fin cfg0.N) (y : S256x2048.Idx) :
    iblk m c 1 t y = m ((c : Thread nD τ).loc main_arg1) (ix2 (row t (y 0)) (y 1)) := by
  blk_simp [iblk]
  exact (congrFun (V_main_arg1 m c) _).trans (congrArg (m ((c : Thread nD τ).loc main_arg1)) (emb1 t y))

/-- The gain the region starts with at operand 2: the argument with a unit axis. -/
theorem V_gain2 (c : Dev nD) : V m c main_v0 = shapeCast S4x1x2048 (m ((c : Thread nD τ).loc main_arg2)) shapeCasts_S4x2048_S4x1x2048 := by
  unfold V hostOps0
  after_results
  rfl

/-- The gain's block at operand 2: one layer's gain. -/
theorem in2 (c : Dev nD) (t : Fin cfg0.N) (y : S1x1x2048.Idx) :
    iblk m c 2 t y = m ((c : Thread nD τ).loc main_arg2) (ix2 0 (y 2)) := by
  blk_simp [iblk]
  refine (congrFun (V_gain2 m c) _).trans ((congrArg (shapeCast S4x1x2048 (m ((c : Thread nD τ).loc main_arg2)) shapeCasts_S4x2048_S4x1x2048) (emb2 t y)).trans ?_)
  exact Norm.gain_cast _ _ _ _ _

/-- The gain the region starts with at operand 3: the argument with a unit axis. -/
theorem V_gain3 (c : Dev nD) : V m c main_v1 = shapeCast S4x1x2048 (m ((c : Thread nD τ).loc main_arg3)) shapeCasts_S4x2048_S4x1x2048 := by
  unfold V hostOps0
  after_results
  rfl

/-- The gain's block at operand 3: one layer's gain. -/
theorem in3 (c : Dev nD) (t : Fin cfg0.N) (y : S1x1x2048.Idx) :
    iblk m c 3 t y = m ((c : Thread nD τ).loc main_arg3) (ix2 0 (y 2)) := by
  blk_simp [iblk]
  refine (congrFun (V_gain3 m c) _).trans ((congrArg (shapeCast S4x1x2048 (m ((c : Thread nD τ).loc main_arg3)) shapeCasts_S4x2048_S4x1x2048) (emb3 t y)).trans ?_)
  exact Norm.gain_cast _ _ _ _ _

/-- The stored sum: the residual and the rows normalized. -/
theorem pay1 (y x : Vec Ideal S256x2048 .f32) (g : Vec Ideal S1x1x2048 .f32) (a : Fin 256) (b : Fin 2048) :
    k0_pay1 y x g (ix2 a b) = x (ix2 a b) + Norm.rms (fun k => y (ix2 a k)) (fun k => g (ix3 0 0 k)) b := by
  pointwise [k0_pay1]
  rfl

/-- The stored normalization: of the rows of the sum. -/
theorem pay2 (y x : Vec Ideal S256x2048 .f32) (g h : Vec Ideal S1x1x2048 .f32) (a : Fin 256) (b : Fin 2048) :
    k0_pay2 y x g h (ix2 a b) = Norm.rms (fun k => k0_pay1 y x g (ix2 a k)) (fun k => h (ix3 0 0 k)) b := by
  pointwise [k0_pay2]
  rfl

/-- The sum of a point's block is the sum of the rows the block holds. -/
theorem pay1_resid (c : Dev nD) (t : Fin cfg0.N) (a : Fin 256) (b : Fin 2048) :
    k0_pay1 (iblk m c 1 t) (iblk m c 0 t) (iblk m c 2 t) (ix2 a b)
      = Norm.resid (m ((c : Thread nD τ).loc main_arg0)) (m ((c : Thread nD τ).loc main_arg1)) (m ((c : Thread nD τ).loc main_arg2)) 0 (row t a) b := by
  rw [pay1]
  simp only [in0, in1, in2]
  rfl

/-- The sum after the run. -/
theorem final4 (c : Dev nD) : (dats m 0 c).arrAt 4 cfg0.N = fun j : S4096x2048.Idx =>
    Norm.resid (m ((c : Thread nD τ).loc main_arg0)) (m ((c : Thread nD τ).loc main_arg1)) (m ((c : Thread nD τ).loc main_arg2)) 0 (j 0) (j 1) := by
  refine (dats m 0 c).arrAt_eq_of_covers 4 _ (by decide +kernel) fun t hf y => ?_
  blk_simp
  rw [after0_4, emb4]
  frame_out
  exact (congrArg (k0_pay1 _ _ _) (eq_ix2 y)).trans (pay1_resid m c t (y 0) (y 1))

/-- The normalization of the sum after the run. -/
theorem final5 (c : Dev nD) : (dats m 0 c).arrAt 5 cfg0.N = fun j : S4096x2048.Idx =>
    Norm.rms (Norm.resid (m ((c : Thread nD τ).loc main_arg0)) (m ((c : Thread nD τ).loc main_arg1)) (m ((c : Thread nD τ).loc main_arg2)) 0 (j 0)) (fun k => (m ((c : Thread nD τ).loc main_arg3) : S4x2048.Idx → EReal) (ix2 0 k)) (j 1) := by
  refine (dats m 0 c).arrAt_eq_of_covers 5 _ (by decide +kernel) fun t hf y => ?_
  blk_simp
  rw [after0_5, emb5]
  frame_out
  refine ((congrArg (k0_pay2 _ _ _ _) (eq_ix2 y)).trans (pay2 _ _ _ _ (y 0) (y 1))).trans ?_
  exact congrArg₂ (fun f g => Norm.rms f g (y 1)) (funext fun k => pay1_resid m c t (y 0) k) (funext fun k => in3 m c t _)

/-- The call's results are the reference's, whatever the arguments. -/
theorem claim : Cert.algebraic_Kernel24Ideal_Reference24Ideal := by
  intro m g m' g' _ hagree
  refine ⟨fun c => _, fun c => _, Cert.Kernel24Ideal.Value.run_blocks m g, ?_⟩
  refine (θ_run _ _ _).mono (fun r h c => ⟨(h c).1.trans ?_, (h c).2.1.trans ?_, (h c).2.2⟩) (Cert.Reference24Ideal.Value.run m' g')
  · show _ = (dats m 0 c).arrAt 4 cfg0.N
    rw [final4, ← (hagree c).1, ← (hagree c).2.1, ← (hagree c).2.2.1]
    refine funext fun (j : S4096x2048.Idx) => ?_
    obtain ⟨a, b, rfl⟩ : ∃ (a : Fin 4096) (b : Fin 2048), j = ix2 a b := ⟨j 0, j 1, eq_ix2 j⟩
    pointwise
    rfl
  · show _ = (dats m 0 c).arrAt 5 cfg0.N
    rw [final5, ← (hagree c).1, ← (hagree c).2.1, ← (hagree c).2.2.1, ← (hagree c).2.2.2]
    refine funext fun (j : S4096x2048.Idx) => ?_
    obtain ⟨a, b, rfl⟩ : ∃ (a : Fin 4096) (b : Fin 2048), j = ix2 a b := ⟨j 0, j 1, eq_ix2 j⟩
    pointwise
    rfl

/-- The reference runs, leaves its arguments as launched, and declares no semaphore. -/
theorem frame : Cert.quiescent_Reference24Ideal := fun m ρ _ =>
  (θ_run _ _ _).mono (fun r h => ⟨fun c => (h c).2.2, sem_eq_zero_of_no_sems (by decide) r.2⟩) (Cert.Reference24Ideal.Value.run m ρ)

end Cert.Call24

end
-- ==== Proof.Call25.lean ====
module

public import proofs.«01_k».proof.Defs
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal.Run
public import proofs.«01_k».proof.Proof.Norm
public import Idealize.ShloMosaic.Lib.Pipeline.ReadBack
public import Idealize.ShloMosaic.Lib.Pipeline.ValueKit
public import Idealize.ShloMosaic.Lib.Pointwise

/-! The last residual, the loss, and its gradient. -/

@[expose] public section

noncomputable section

namespace Cert.Call25

open Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

/-- The blocks of the rows move with the grid; the others stay. -/
theorem idx : ∀ t : Fin cfg0.N, win0_0.index t = ![t.val, 0] ∧ win0_1.index t = ![t.val, 0] ∧ win0_2.index t = ![3, 0, 0] ∧ win0_3.index t = ![t.val, 0] ∧ win0_4.index t = ![t.val, 0] ∧ win0_5.index t = ![0, 0] :=
  (by decide +kernel : ∀ t : Fin grid0.N, _)

/-- The row of the arrays that row `r` of point `t`'s blocks is. -/
def row (t : Fin cfg0.N) (r : Fin 256) : Fin 4096 :=
  ⟨t.val * 256 + r.val, by have := t.isLt; have : cfg0.N = 16 := N_0; omega⟩

/-- Where a block of window 0 lies. -/
theorem emb0 (t : Fin cfg0.N) (y : S256x2048.Idx) : (win0_0.blk t).view.emb y = (ix2 (row t (y 0)) (y 1) : S4096x2048.Idx) := by
  unfold row; blk_ext [(idx t).1]

/-- Where a block of window 1 lies. -/
theorem emb1 (t : Fin cfg0.N) (y : S256x2048.Idx) : (win0_1.blk t).view.emb y = (ix2 (row t (y 0)) (y 1) : S4096x2048.Idx) := by
  unfold row; blk_ext [(idx t).2.1]

/-- Where the gain's block of window 2 lies: one layer of it. -/
theorem emb2 (t : Fin cfg0.N) (y : S1x1x2048.Idx) : (win0_2.blk t).view.emb y = (ix3 3 0 (y 2) : S4x1x2048.Idx) := by
  blk_ext [(idx t).2.2.1]

/-- Where a block of window 3 lies. -/
theorem emb3 (t : Fin cfg0.N) (y : S256x2048.Idx) : (win0_3.blk t).view.emb y = (ix2 (row t (y 0)) (y 1) : S4096x2048.Idx) := by
  unfold row; blk_ext [(idx t).2.2.2.1]

/-- Where a block of window 4 lies. -/
theorem emb4 (t : Fin cfg0.N) (y : S256x2048.Idx) : (win0_4.blk t).view.emb y = (ix2 (row t (y 0)) (y 1) : S4096x2048.Idx) := by
  unfold row; blk_ext [(idx t).2.2.2.2.1]

/-- A block of operand 0, of the argument as launched. -/
theorem in0 (c : Dev nD) (t : Fin cfg0.N) (y : S256x2048.Idx) :
    iblk m c 0 t y = m ((c : Thread nD τ).loc main_arg0) (ix2 (row t (y 0)) (y 1)) := by
  blk_simp [iblk]
  exact (congrFun (V_main_arg0 m c) _).trans (congrArg (m ((c : Thread nD τ).loc main_arg0)) (emb0 t y))

/-- A block of operand 1, of the argument as launched. -/
theorem in1 (c : Dev nD) (t : Fin cfg0.N) (y : S256x2048.Idx) :
    iblk m c 1 t y = m ((c : Thread nD τ).loc main_arg1) (ix2 (row t (y 0)) (y 1)) := by
  blk_simp [iblk]
  exact (congrFun (V_main_arg1 m c) _).trans (congrArg (m ((c : Thread nD τ).loc main_arg1)) (emb1 t y))

/-- The gain the region starts with at operand 2: the argument with a unit axis. -/
theorem V_gain2 (c : Dev nD) : V m c main_v0 = shapeCast S4x1x2048 (m ((c : Thread nD τ).loc main_arg2)) shapeCasts_S4x2048_S4x1x2048 := by
  unfold V hostOps0
  after_results
  rfl

/-- The gain's block at operand 2: one layer's gain. -/
theorem in2 (c : Dev nD) (t : Fin cfg0.N) (y : S1x1x2048.Idx) :
    iblk m c 2 t y = m ((c : Thread nD τ).loc main_arg2) (ix2 3 (y 2)) := by
  blk_simp [iblk]
  refine (congrFun (V_gain2 m c) _).trans ((congrArg (shapeCast S4x1x2048 (m ((c : Thread nD τ).loc main_arg2)) shapeCasts_S4x2048_S4x1x2048) (emb2 t y)).trans ?_)
  exact Norm.gain_cast _ _ _ _ _

/-- A block of operand 3, of the argument as launched. -/
theorem in3 (c : Dev nD) (t : Fin cfg0.N) (y : S256x2048.Idx) :
    iblk m c 3 t y = m ((c : Thread nD τ).loc main_arg3) (ix2 (row t (y 0)) (y 1)) := by
  blk_simp [iblk]
  exact (congrFun (V_main_arg3 m c) _).trans (congrArg (m ((c : Thread nD τ).loc main_arg3)) (emb3 t y))

/-- The error of a block: the residual and the rows normalized, less the target. -/
theorem pay1 (y x : Vec Ideal S256x2048 .f32) (g : Vec Ideal S1x1x2048 .f32) (e : Vec Ideal S256x2048 .f32) (a : Fin 256) (b : Fin 2048) :
    k0_pay1 y x g e (ix2 a b) = x (ix2 a b) + Norm.rms (fun k => y (ix2 a k)) (fun k => g (ix3 0 0 k)) b - e (ix2 a b) := by
  pointwise [k0_pay1]
  rfl

/-- The error in the last layer's output. -/
def err (c : Dev nD) (a : Fin 4096) (b : Fin 2048) : EReal :=
  Norm.resid (m ((c : Thread nD τ).loc main_arg0)) (m ((c : Thread nD τ).loc main_arg1)) (m ((c : Thread nD τ).loc main_arg2)) 3 a b - (m ((c : Thread nD τ).loc main_arg3) : S4096x2048.Idx → EReal) (ix2 a b)

/-- The error of a point's block is the error of the rows the block holds. -/
theorem pay1_err (c : Dev nD) (t : Fin cfg0.N) (a : Fin 256) (b : Fin 2048) :
    k0_pay1 (iblk m c 1 t) (iblk m c 0 t) (iblk m c 2 t) (iblk m c 3 t) (ix2 a b) = err m c (row t a) b := by
  rw [pay1]
  simp only [in0, in1, in2, in3]
  rfl

/-- What every point leaves in the block of the gradient. -/
theorem outs_grad (c : Dev nD) (t : Fin cfg0.N) :
    (outsAt0 m c t.val t.isLt).1 = k0_pay2 (iblk m c 1 t) (iblk m c 0 t) (iblk m c 2 t) (iblk m c 3 t) := by
  by_cases h0 : t.val % 16 = 0
  · rw [outsAt0_A m c t h0]; frame_out
  · rw [outsAt0_B m c t h0]; frame_out

/-- The gradient after the run: the error over the row length. -/
theorem final4 (c : Dev nD) : (dats m 0 c).arrAt 4 cfg0.N = fun j : S4096x2048.Idx => err m c (j 0) (j 1) * Ideal.ofBits .f32 0x3A000000#32 := by
  refine (dats m 0 c).arrAt_eq_of_covers 4 _ (by decide +kernel) fun t hf y => ?_
  blk_simp
  rw [after0_4, outs_grad, emb4]
  refine Eq.trans (b := k0_pay1 (iblk m c 1 t) (iblk m c 0 t) (iblk m c 2 t) (iblk m c 3 t) y * Ideal.ofBits .f32 0x3A000000#32) rfl ?_
  exact congrArg (· * Ideal.ofBits .f32 0x3A000000#32) ((congrArg (k0_pay1 _ _ _ _) (eq_ix2 y)).trans (pay1_err m c t (y 0) (y 1)))

/-- What a point adds to the sum of squares: its block's. -/
theorem pay4 (y x : Vec Ideal S256x2048 .f32) (g : Vec Ideal S1x1x2048 .f32) (e : Vec Ideal S256x2048 .f32) (acc : Vec Ideal S1x1 .f32) (j : S1x1.Idx) :
    k0_pay4 y x g e acc j = acc j + ∑ a : Fin 256, ∑ b : Fin 2048, k0_pay1 y x g e (ix2 a b) * k0_pay1 y x g e (ix2 a b) := by
  pointwise [k0_pay4]

/-- What the output of the sum holds after the last point: every point's share. -/
theorem outs_sum (c : Dev nD) (y : S1x1.Idx) : (outsAt0 m c t0_15.val t0_15.isLt).2 y
    = ∑ p : Fin cfg0.N, ∑ a : Fin 256, ∑ b : Fin 2048, err m c (row p a) b * err m c (row p a) b := by
  rw [Pipeline.eq_sum_fin_of_reset_step_apply_last (fun n h => (outsAt0 m c n h).2) 16 (fun _ => (0 : EReal))
    (fun p _ => ∑ a : Fin 256, ∑ b : Fin 2048, err m c (row p a) b * err m c (row p a) b)
    (fun t h0 j => by
      rw [outsAt0_A m c t h0]; frame_out; rw [pay4]; simp only [pay1_err]; pointwise [k0_pay3])
    (fun t h0 j => by
      rw [outsAt0_B m c t h0]; frame_out; rw [pay4]; simp only [pay1_err, read_unread_whole])
    (le_of_eq N_0) t0_15 rfl y, zero_add]

/-- The sum of the squared errors after the run. -/
theorem final5 (c : Dev nD) : (dats m 0 c).arrAt 5 cfg0.N = fun _ : S1x1.Idx => ∑ l : Fin 4096, ∑ b : Fin 2048, err m c l b * err m c l b := by
  refine (dats m 0 c).arrAt_eq_of_after_last 5 t0_15 (by decide +kernel) _ fun j => ?_
  blk_simp
  rw [after0_5, outs_sum]
  exact (Fin.sum_univ_tiles 16 256 rfl fun l : Fin 4096 => ∑ b : Fin 2048, err m c l b * err m c l b).symm

/-- The call's results are the reference's, whatever the arguments. -/
theorem claim : Cert.algebraic_Kernel25Ideal_Reference25Ideal := by
  intro m g m' g' _ hagree
  refine ⟨fun c => _, fun c => _, Cert.Kernel25Ideal.Value.run_blocks m g, ?_⟩
  refine (θ_run _ _ _).mono (fun r h c => ⟨(h c).1.trans ?_, (h c).2.1.trans ?_, (h c).2.2⟩) (Cert.Reference25Ideal.Value.run m' g')
  · show _ = (dats m 0 c).arrAt 4 cfg0.N
    rw [final4]
    unfold err
    rw [← (hagree c).1, ← (hagree c).2.1, ← (hagree c).2.2.1, ← (hagree c).2.2.2]
    refine funext fun (j : S4096x2048.Idx) => ?_
    obtain ⟨a, b, rfl⟩ : ∃ (a : Fin 4096) (b : Fin 2048), j = ix2 a b := ⟨j 0, j 1, eq_ix2 j⟩
    pointwise
    rw [← mul_assoc, mul_comm]
    refine congrArg₂ (fun a b : EReal => a * b) rfl ?_
    exact Norm.rate
  · show _ = (dats m 0 c).arrAt 5 cfg0.N
    rw [final5]
    unfold err
    rw [← (hagree c).1, ← (hagree c).2.1, ← (hagree c).2.2.1, ← (hagree c).2.2.2]
    funext j
    pointwise
    rfl

/-- The reference runs, leaves its arguments as launched, and declares no semaphore. -/
theorem frame : Cert.quiescent_Reference25Ideal := fun m ρ _ =>
  (θ_run _ _ _).mono (fun r h => ⟨fun c => (h c).2.2, sem_eq_zero_of_no_sems (by decide) r.2⟩) (Cert.Reference25Ideal.Value.run m ρ)

end Cert.Call25

end
-- ==== Proof.lean ====
/- The gradient of the gated convolution, every matrix product of a layer, forward and backward, the norms, the loss, and the optimiser: each call runs and leaves its arguments as launched, the
   idealized program is the program, and the ideal results are the reference's. -/
module

public import proofs.«01_k».proof.Defs
public import proofs.«01_k».proof.Proof.Conv
public import proofs.«01_k».proof.Proof.Call2
public import proofs.«01_k».proof.Proof.Call3
public import proofs.«01_k».proof.Proof.Call4
public import proofs.«01_k».proof.Proof.Call5
public import proofs.«01_k».proof.Proof.Call6
public import proofs.«01_k».proof.Proof.Call7
public import proofs.«01_k».proof.Proof.Call8
public import proofs.«01_k».proof.Proof.Call9
public import proofs.«01_k».proof.Proof.Call10
public import proofs.«01_k».proof.Proof.Call11
public import proofs.«01_k».proof.Proof.Call12
public import proofs.«01_k».proof.Proof.Call13
public import proofs.«01_k».proof.Proof.Call14
public import proofs.«01_k».proof.Proof.Call15
public import proofs.«01_k».proof.Proof.Call16
public import proofs.«01_k».proof.Proof.Call17
public import proofs.«01_k».proof.Proof.Call18
public import proofs.«01_k».proof.Proof.Call19
public import proofs.«01_k».proof.Proof.Call20
public import proofs.«01_k».proof.Proof.Call21
public import proofs.«01_k».proof.Proof.Call22
public import proofs.«01_k».proof.Proof.Call23
public import proofs.«01_k».proof.Proof.Call24
public import proofs.«01_k».proof.Proof.Call25

@[expose] public section

noncomputable section

namespace Cert.Proof

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Conv.frame_bits, Cert.Conv.frame_ideal, Cert.Conv.frame_ref,
  fun m ρ _ => Cert.Kernel2.Gen.frame m ρ, fun m ρ _ => Cert.Kernel2Ideal.Gen.frame m ρ, Cert.Call2.frame,
  fun m ρ _ => Cert.Kernel3.Gen.frame m ρ, fun m ρ _ => Cert.Kernel3Ideal.Gen.frame m ρ, Cert.Call3.frame,
  fun m ρ _ => Cert.Kernel4.Gen.frame m ρ, fun m ρ _ => Cert.Kernel4Ideal.Gen.frame m ρ, Cert.Call4.frame,
  fun m ρ _ => Cert.Kernel5.Gen.frame m ρ, fun m ρ _ => Cert.Kernel5Ideal.Gen.frame m ρ, Cert.Call5.frame,
  fun m ρ _ => Cert.Kernel6.Gen.frame m ρ, fun m ρ _ => Cert.Kernel6Ideal.Gen.frame m ρ, Cert.Call6.frame,
  fun m ρ _ => Cert.Kernel7.Gen.frame m ρ, fun m ρ _ => Cert.Kernel7Ideal.Gen.frame m ρ, Cert.Call7.frame,
  fun m ρ _ => Cert.Kernel8.Gen.frame m ρ, fun m ρ _ => Cert.Kernel8Ideal.Gen.frame m ρ, Cert.Call8.frame,
  fun m ρ _ => Cert.Kernel9.Gen.frame m ρ, fun m ρ _ => Cert.Kernel9Ideal.Gen.frame m ρ, Cert.Call9.frame,
  fun m ρ _ => Cert.Kernel10.Gen.frame m ρ, fun m ρ _ => Cert.Kernel10Ideal.Gen.frame m ρ, Cert.Call10.frame,
  fun m ρ _ => Cert.Kernel11.Gen.frame m ρ, fun m ρ _ => Cert.Kernel11Ideal.Gen.frame m ρ, Cert.Call11.frame,
  fun m ρ _ => Cert.Kernel12.Gen.frame m ρ, fun m ρ _ => Cert.Kernel12Ideal.Gen.frame m ρ, Cert.Call12.frame,
  fun m ρ _ => Cert.Kernel13.Gen.frame m ρ, fun m ρ _ => Cert.Kernel13Ideal.Gen.frame m ρ, Cert.Call13.frame,
  fun m ρ _ => Cert.Kernel14.Gen.frame m ρ, fun m ρ _ => Cert.Kernel14Ideal.Gen.frame m ρ, Cert.Call14.frame,
  fun m ρ _ => Cert.Kernel15.Gen.frame m ρ, fun m ρ _ => Cert.Kernel15Ideal.Gen.frame m ρ, Cert.Call15.frame,
  fun m ρ _ => Cert.Kernel16.Gen.frame m ρ, fun m ρ _ => Cert.Kernel16Ideal.Gen.frame m ρ, Cert.Call16.frame,
  fun m ρ _ => Cert.Kernel17.Gen.frame m ρ, fun m ρ _ => Cert.Kernel17Ideal.Gen.frame m ρ, Cert.Call17.frame,
  fun m ρ _ => Cert.Kernel18.Gen.frame m ρ, fun m ρ _ => Cert.Kernel18Ideal.Gen.frame m ρ, Cert.Call18.frame,
  fun m ρ _ => Cert.Kernel19.Gen.frame m ρ, fun m ρ _ => Cert.Kernel19Ideal.Gen.frame m ρ, Cert.Call19.frame,
  fun m ρ _ => Cert.Kernel20.Gen.frame m ρ, fun m ρ _ => Cert.Kernel20Ideal.Gen.frame m ρ, Cert.Call20.frame,
  fun m ρ _ => Cert.Kernel21.Gen.frame m ρ, fun m ρ _ => Cert.Kernel21Ideal.Gen.frame m ρ, Cert.Call21.frame,
  fun m ρ _ => Cert.Kernel22.Gen.frame m ρ, fun m ρ _ => Cert.Kernel22Ideal.Gen.frame m ρ, Cert.Call22.frame,
  fun m ρ _ => Cert.Kernel23.Gen.frame m ρ, fun m ρ _ => Cert.Kernel23Ideal.Gen.frame m ρ, Cert.Call23.frame,
  fun m ρ _ => Cert.Kernel24.Gen.frame m ρ, fun m ρ _ => Cert.Kernel24Ideal.Gen.frame m ρ, Cert.Call24.frame,
  fun m ρ _ => Cert.Kernel25.Gen.frame m ρ, fun m ρ _ => Cert.Kernel25Ideal.Gen.frame m ρ, Cert.Call25.frame,
  trivial, Cert.Conv.claim,
  trivial, Cert.Call2.claim,
  trivial, Cert.Call3.claim,
  trivial, Cert.Call4.claim,
  trivial, Cert.Call5.claim,
  trivial, Cert.Call6.claim,
  trivial, Cert.Call7.claim,
  trivial, Cert.Call8.claim,
  trivial, Cert.Call9.claim,
  trivial, Cert.Call10.claim,
  trivial, Cert.Call11.claim,
  trivial, Cert.Call12.claim,
  trivial, Cert.Call13.claim,
  trivial, Cert.Call14.claim,
  trivial, Cert.Call15.claim,
  trivial, Cert.Call16.claim,
  trivial, Cert.Call17.claim,
  trivial, Cert.Call18.claim,
  trivial, Cert.Call19.claim,
  trivial, Cert.Call20.claim,
  trivial, Cert.Call21.claim,
  trivial, Cert.Call22.claim,
  trivial, Cert.Call23.claim,
  trivial, Cert.Call24.claim,
  trivial, Cert.Call25.claim⟩

end Cert.Proof

end
